-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 4096]⟩ ⟨2, ![8192, 4096]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_unclipped_at [hKernelIdeal : Cert.KernelIdeal.Facts] [hClippedIdeal : Cert.ClippedIdeal.Facts] [hOn_unclipped_at : Cert.On_unclipped_at.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = m' (((0 : Dev Cert.ClippedIdeal.nD).tc : Thread Cert.ClippedIdeal.nD Cert.ClippedIdeal.τ).loc Cert.ClippedIdeal.main_arg1)) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 4096]⟩ : Shape).Idx, (Layout.block ⟨2, ![256, 4096]⟩ ⟨2, ![8192, 4096]⟩ 0 32 c ((Cert.On_unclipped_at.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)))) : (⟨2, ![256, 4096]⟩ : Shape).Idx → _) i = 1#1 → r.2.mem ((c.tc : Thread Cert.KernelIdeal.nD Cert.KernelIdeal.τ).loc Cert.KernelIdeal.main_v1) i = (Layout.block ⟨2, ![256, 4096]⟩ ⟨2, ![8192, 4096]⟩ 0 32 c v0 : (⟨2, ![256, 4096]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![8192, 4096]⟩ : Shape).Idx, (Cert.On_unclipped_at.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v6) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_unclipped_at : Cert.On_unclipped_at.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_unclipped_at (hKernelIdeal := hKernelIdeal) (hClippedIdeal := hClippedIdeal) (hOn_unclipped_at := hOn_unclipped_at)
-- ==== On_unclipped_at.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S8192x4096 1 :=
  let main_v0 : FVec F S8192x4096 .f32 := (fun l r => Host.dotGeneral dot_S8192x8192_S8192x4096_S8192x4096_1_0_0_1_n_n none l r) main_arg0 main_arg1
  let main_cst : FVec F S_ .f32 := constant S_ .f32 0xC2700000#32
  let main_v1 : FVec F S8192x4096 .f32 := broadcastInDim S8192x4096 ![] bcast_S_S8192x4096 main_cst
  let main_v2 : IVec S8192x4096 1 := cmpf .oge main_v0 main_v1
  let main_cst_0 : FVec F S_ .f32 := constant S_ .f32 0x42700000#32
  let main_v3 : FVec F S8192x4096 .f32 := broadcastInDim S8192x4096 ![] bcast_S_S8192x4096 main_cst_0
  let main_v4 : IVec S8192x4096 1 := cmpf .ole main_v0 main_v3
  let main_v5 : IVec S8192x4096 1 := andi main_v2 main_v4
  main_v5
-- ==== Kernel.lean ====
abbrev S8192x256 : Shape := ⟨2, ![8192, 256]⟩
abbrev S8192x4096 : Shape := ⟨2, ![8192, 4096]⟩
abbrev S256x4096 : Shape := ⟨2, ![256, 4096]⟩
abbrev S256x8192 : Shape := ⟨2, ![256, 8192]⟩
abbrev S2x1024x4096 : Shape := ⟨3, ![2, 1024, 4096]⟩
abbrev S32 : Shape := ⟨1, ![32]⟩
abbrev S2 : Shape := ⟨1, ![2]⟩
abbrev S_ : Shape := ⟨0, ![]⟩
abbrev S1 : Shape := ⟨1, ![1]⟩
abbrev S256x256 : Shape := ⟨2, ![256, 256]⟩
abbrev S1x1024x4096 : Shape := ⟨3, ![1, 1024, 4096]⟩
abbrev S1024x4096 : Shape := ⟨2, ![1024, 4096]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x4096, .f32⟩
  | .hbm, ⟨2, _⟩ => ⟨S256x4096, .f32⟩
  | .local _ .vmem, ⟨0, _⟩ => ⟨S8192x256, .f32⟩
  | .local _ .vmem, ⟨1, _⟩ => ⟨S256x4096, .f32⟩
  | .local _ .vmem, ⟨2, _⟩ => ⟨S8192x256, .bf16⟩
  | .local _ .vmem, ⟨3, _⟩ => ⟨S256x8192, .bf16⟩
  | .local _ .vmem, ⟨4, _⟩ => ⟨S2x1024x4096, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v21 : BitVec 32 := Scalar.addi v2 c1_i32_5
  let c32_i32_6 : BitVec 32 := 32#32
  let c0_i32_7 : BitVec 32 := 0#32
  let v22 : BitVec 1 := Scalar.cmpi .eq c32_i32_6 c0_i32_7
  let c1_i32_8 : BitVec 32 := 1#32
  let v23 : BitVec 32 := Scalar.select v22 c1_i32_8 c32_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c1_i32_13 : BitVec 32 := 1#32
  let v32 : BitVec 32 := Scalar.muli v31 c1_i32_13
  let v33 : BitVec 32 := Scalar.addi c0_i32_14 v32
  v33.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v34 : BitVec 32 := Scalar.addi v2 c2_i32
  let c32_i32_15 : BitVec 32 := 32#32
  let c0_i32_16 : BitVec 32 := 0#32
  let v35 : BitVec 1 := Scalar.cmpi .eq c32_i32_15 c0_i32_16
  let c1_i32_17 : BitVec 32 := 1#32
  let v36 : BitVec 32 := Scalar.select v35 c1_i32_17 c32_i32_15
  let v37 : BitVec 32 := Scalar.remsi v34 v36
  let c0_i32_19 : BitVec 32 := 0#32
  let v39 : BitVec 1 := Scalar.cmpi .slt v37 c0_i32_19
  let c0_i32_20 : BitVec 32 := 0#32
  let v40 : BitVec 1 := Scalar.cmpi .slt v36 c0_i32_20
  let v41 : BitVec 1 := Scalar.xori v39 v40
  let c0_i32_18 : BitVec 32 := 0#32
  let v38 : BitVec 1 := Scalar.cmpi .ne v37 c0_i32_18
  let v42 : BitVec 1 := Scalar.andi v41 v38
  let v43 : BitVec 32 := Scalar.addi v37 v36
  let v44 : BitVec 32 := Scalar.select v42 v43 v37
  let c1_i32_22 : BitVec 32 := 1#32
  let v45 : BitVec 32 := Scalar.muli v44 c1_i32_22
  let v46 : BitVec 32 := Scalar.addi c0_i32_23 v45
  v46.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v47 : BitVec 32 := Scalar.addi v2 c3_i32
  let c32_i32_24 : BitVec 32 := 32#32
  let c0_i32_25 : BitVec 32 := 0#32
  let v48 : BitVec 1 := Scalar.cmpi .eq c32_i32_24 c0_i32_25
  let c1_i32_26 : BitVec 32 := 1#32
  let v49 : BitVec 32 := Scalar.select v48 c1_i32_26 c32_i32_24
  let v50 : BitVec 32 := Scalar.remsi v47 v49
  let c0_i32_28 : BitVec 32 := 0#32
  let v52 : BitVec 1 := Scalar.cmpi .slt v50 c0_i32_28
  let c0_i32_29 : BitVec 32 := 0#32
  let v53 : BitVec 1 := Scalar.cmpi .slt v49 c0_i32_29
  let v54 : BitVec 1 := Scalar.xori v52 v53
  let c0_i32_27 : BitVec 32 := 0#32
  let v51 : BitVec 1 := Scalar.cmpi .ne v50 c0_i32_27
  let v55 : BitVec 1 := Scalar.andi v54 v51
  let v56 : BitVec 32 := Scalar.addi v50 v49
  let v57 : BitVec 32 := Scalar.select v55 v56 v50
  let c1_i32_31 : BitVec 32 := 1#32
  let v58 : BitVec 32 := Scalar.muli v57 c1_i32_31
  let v59 : BitVec 32 := Scalar.addi c0_i32_32 v58
  v59.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_33 : BitVec 32 := 4#32
  let v60 : BitVec 32 := Scalar.addi v2 c4_i32_33
  let c32_i32_34 : BitVec 32 := 32#32
  let c0_i32_35 : BitVec 32 := 0#32
  let v61 : BitVec 1 := Scalar.cmpi .eq c32_i32_34 c0_i32_35
  let c1_i32_36 : BitVec 32 := 1#32
  let v62 : BitVec 32 := Scalar.select v61 c1_i32_36 c32_i32_34
  let v63 : BitVec 32 := Scalar.remsi v60 v62
  let c0_i32_38 : BitVec 32 := 0#32
  let v65 : BitVec 1 := Scalar.cmpi .slt v63 c0_i32_38
  let c0_i32_39 : BitVec 32 := 0#32
  let v66 : BitVec 1 := Scalar.cmpi .slt v62 c0_i32_39
  let v67 : BitVec 1 := Scalar.xori v65 v66
  let c0_i32_37 : BitVec 32 := 0#32
  let v64 : BitVec 1 := Scalar.cmpi .ne v63 c0_i32_37
  let v68 : BitVec 1 := Scalar.andi v67 v64
  let v69 : BitVec 32 := Scalar.addi v63 v62
  let v70 : BitVec 32 := Scalar.select v68 v69 v63
  let c1_i32_41 : BitVec 32 := 1#32
  let v71 : BitVec 32 := Scalar.muli v70 c1_i32_41
  let v72 : BitVec 32 := Scalar.addi c0_i32_42 v71
  v72.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v73 : BitVec 32 := Scalar.addi v2 c5_i32
  let c32_i32_43 : BitVec 32 := 32#32
  let c0_i32_44 : BitVec 32 := 0#32
  let v74 : BitVec 1 := Scalar.cmpi .eq c32_i32_43 c0_i32_44
  let c1_i32_45 : BitVec 32 := 1#32
  let v75 : BitVec 32 := Scalar.select v74 c1_i32_45 c32_i32_43
  let v76 : BitVec 32 := Scalar.remsi v73 v75
  let c0_i32_47 : BitVec 32 := 0#32
  let v78 : BitVec 1 := Scalar.cmpi .slt v76 c0_i32_47
  let c0_i32_48 : BitVec 32 := 0#32
  let v79 : BitVec 1 := Scalar.cmpi .slt v75 c0_i32_48
  let v80 : BitVec 1 := Scalar.xori v78 v79
  let c0_i32_46 : BitVec 32 := 0#32
  let v77 : BitVec 1 := Scalar.cmpi .ne v76 c0_i32_46
  let v81 : BitVec 1 := Scalar.andi v80 v77
  let v82 : BitVec 32 := Scalar.addi v76 v75
  let v83 : BitVec 32 := Scalar.select v81 v82 v76
  let c1_i32_50 : BitVec 32 := 1#32
  let v84 : BitVec 32 := Scalar.muli v83 c1_i32_50
  let v85 : BitVec 32 := Scalar.addi c0_i32_51 v84
  v85.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v86 : BitVec 32 := Scalar.addi v2 c6_i32
  let c32_i32_52 : BitVec 32 := 32#32
  let c0_i32_53 : BitVec 32 := 0#32
  let v87 : BitVec 1 := Scalar.cmpi .eq c32_i32_52 c0_i32_53
  let c1_i32_54 : BitVec 32 := 1#32
  let v88 : BitVec 32 := Scalar.select v87 c1_i32_54 c32_i32_52
  let v89 : BitVec 32 := Scalar.remsi v86 v88
  let c0_i32_56 : BitVec 32 := 0#32
  let v91 : BitVec 1 := Scalar.cmpi .slt v89 c0_i32_56
  let c0_i32_57 : BitVec 32 := 0#32
  let v92 : BitVec 1 := Scalar.cmpi .slt v88 c0_i32_57
  let v93 : BitVec 1 := Scalar.xori v91 v92
  let c0_i32_55 : BitVec 32 := 0#32
  let v90 : BitVec 1 := Scalar.cmpi .ne v89 c0_i32_55
  let v94 : BitVec 1 := Scalar.andi v93 v90
  let v95 : BitVec 32 := Scalar.addi v89 v88
  let v96 : BitVec 32 := Scalar.select v94 v95 v89
  let c1_i32_59 : BitVec 32 := 1#32
  let v97 : BitVec 32 := Scalar.muli v96 c1_i32_59
  let v98 : BitVec 32 := Scalar.addi c0_i32_60 v97
  v98.toNat
def k0_dev7 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v99 : BitVec 32 := Scalar.addi v2 c7_i32
  let c32_i32_61 : BitVec 32 := 32#32
  let c0_i32_62 : BitVec 32 := 0#32
  let v100 : BitVec 1 := Scalar.cmpi .eq c32_i32_61 c0_i32_62
  let c1_i32_63 : BitVec 32 := 1#32
  let v101 : BitVec 32 := Scalar.select v100 c1_i32_63 c32_i32_61
  let v102 : BitVec 32 := Scalar.remsi v99 v101
  let c0_i32_65 : BitVec 32 := 0#32
  let v104 : BitVec 1 := Scalar.cmpi .slt v102 c0_i32_65
  let c0_i32_66 : BitVec 32 := 0#32
  let v105 : BitVec 1 := Scalar.cmpi .slt v101 c0_i32_66
  let v106 : BitVec 1 := Scalar.xori v104 v105
  let c0_i32_64 : BitVec 32 := 0#32
  let v103 : BitVec 1 := Scalar.cmpi .ne v102 c0_i32_64
  let v107 : BitVec 1 := Scalar.andi v106 v103
  let v108 : BitVec 32 := Scalar.addi v102 v101
  let v109 : BitVec 32 := Scalar.select v107 v108 v102
  let c1_i32_68 : BitVec 32 := 1#32
  let v110 : BitVec 32 := Scalar.muli v109 c1_i32_68
  let v111 : BitVec 32 := Scalar.addi c0_i32_69 v110
  v111.toNat
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v112 : BitVec 32 := Scalar.addi v2 c8_i32
  let c32_i32_70 : BitVec 32 := 32#32
  let c0_i32_71 : BitVec 32 := 0#32
  let v113 : BitVec 1 := Scalar.cmpi .eq c32_i32_70 c0_i32_71
  let c1_i32_72 : BitVec 32 := 1#32
  let v114 : BitVec 32 := Scalar.select v113 c1_i32_72 c32_i32_70
  let v115 : BitVec 32 := Scalar.remsi v112 v114
  let c0_i32_74 : BitVec 32 := 0#32
  let v117 : BitVec 1 := Scalar.cmpi .slt v115 c0_i32_74
  let c0_i32_75 : BitVec 32 := 0#32
  let v118 : BitVec 1 := Scalar.cmpi .slt v114 c0_i32_75
  let v119 : BitVec 1 := Scalar.xori v117 v118
  let c0_i32_73 : BitVec 32 := 0#32
  let v116 : BitVec 1 := Scalar.cmpi .ne v115 c0_i32_73
  let v120 : BitVec 1 := Scalar.andi v119 v116
  let v121 : BitVec 32 := Scalar.addi v115 v114
  let v122 : BitVec 32 := Scalar.select v120 v121 v115
  let c1_i32_77 : BitVec 32 := 1#32
  let v123 : BitVec 32 := Scalar.muli v122 c1_i32_77
  let v124 : BitVec 32 := Scalar.addi c0_i32_78 v123
  v124.toNat
def k0_dev9 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v125 : BitVec 32 := Scalar.addi v2 c9_i32
  let c32_i32_79 : BitVec 32 := 32#32
  let c0_i32_80 : BitVec 32 := 0#32
  let v126 : BitVec 1 := Scalar.cmpi .eq c32_i32_79 c0_i32_80
  let c1_i32_81 : BitVec 32 := 1#32
  let v127 : BitVec 32 := Scalar.select v126 c1_i32_81 c32_i32_79
  let v128 : BitVec 32 := Scalar.remsi v125 v127
  let c0_i32_83 : BitVec 32 := 0#32
  let v130 : BitVec 1 := Scalar.cmpi .slt v128 c0_i32_83
  let c0_i32_84 : BitVec 32 := 0#32
  let v131 : BitVec 1 := Scalar.cmpi .slt v127 c0_i32_84
  let v132 : BitVec 1 := Scalar.xori v130 v131
  let c0_i32_82 : BitVec 32 := 0#32
  let v129 : BitVec 1 := Scalar.cmpi .ne v128 c0_i32_82
  let v133 : BitVec 1 := Scalar.andi v132 v129
  let v134 : BitVec 32 := Scalar.addi v128 v127
  let v135 : BitVec 32 := Scalar.select v133 v134 v128
  let c1_i32_86 : BitVec 32 := 1#32
  let v136 : BitVec 32 := Scalar.muli v135 c1_i32_86
  let v137 : BitVec 32 := Scalar.addi c0_i32_87 v136
  v137.toNat
def k0_dev10 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v138 : BitVec 32 := Scalar.addi v2 c10_i32
  let c32_i32_88 : BitVec 32 := 32#32
  let c0_i32_89 : BitVec 32 := 0#32
  let v139 : BitVec 1 := Scalar.cmpi .eq c32_i32_88 c0_i32_89
  let c1_i32_90 : BitVec 32 := 1#32
  let v140 : BitVec 32 := Scalar.select v139 c1_i32_90 c32_i32_88
  let v141 : BitVec 32 := Scalar.remsi v138 v140
  let c0_i32_92 : BitVec 32 := 0#32
  let v143 : BitVec 1 := Scalar.cmpi .slt v141 c0_i32_92
  let c0_i32_93 : BitVec 32 := 0#32
  let v144 : BitVec 1 := Scalar.cmpi .slt v140 c0_i32_93
  let v145 : BitVec 1 := Scalar.xori v143 v144
  let c0_i32_91 : BitVec 32 := 0#32
  let v142 : BitVec 1 := Scalar.cmpi .ne v141 c0_i32_91
  let v146 : BitVec 1 := Scalar.andi v145 v142
  let v147 : BitVec 32 := Scalar.addi v141 v140
  let v148 : BitVec 32 := Scalar.select v146 v147 v141
  let c1_i32_95 : BitVec 32 := 1#32
  let v149 : BitVec 32 := Scalar.muli v148 c1_i32_95
  let v150 : BitVec 32 := Scalar.addi c0_i32_96 v149
  v150.toNat
def k0_dev11 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v151 : BitVec 32 := Scalar.addi v2 c11_i32
  let c32_i32_97 : BitVec 32 := 32#32
  let c0_i32_98 : BitVec 32 := 0#32
  let v152 : BitVec 1 := Scalar.cmpi .eq c32_i32_97 c0_i32_98
  let c1_i32_99 : BitVec 32 := 1#32
  let v153 : BitVec 32 := Scalar.select v152 c1_i32_99 c32_i32_97
  let v154 : BitVec 32 := Scalar.remsi v151 v153
  let c0_i32_101 : BitVec 32 := 0#32
  let v156 : BitVec 1 := Scalar.cmpi .slt v154 c0_i32_101
  let c0_i32_102 : BitVec 32 := 0#32
  let v157 : BitVec 1 := Scalar.cmpi .slt v153 c0_i32_102
  let v158 : BitVec 1 := Scalar.xori v156 v157
  let c0_i32_100 : BitVec 32 := 0#32
  let v155 : BitVec 1 := Scalar.cmpi .ne v154 c0_i32_100
  let v159 : BitVec 1 := Scalar.andi v158 v155
  let v160 : BitVec 32 := Scalar.addi v154 v153
  let v161 : BitVec 32 := Scalar.select v159 v160 v154
  let c1_i32_104 : BitVec 32 := 1#32
  let v162 : BitVec 32 := Scalar.muli v161 c1_i32_104
  let v163 : BitVec 32 := Scalar.addi c0_i32_105 v162
  v163.toNat
def k0_dev12 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v164 : BitVec 32 := Scalar.addi v2 c12_i32
  let c32_i32_106 : BitVec 32 := 32#32
  let c0_i32_107 : BitVec 32 := 0#32
  let v165 : BitVec 1 := Scalar.cmpi .eq c32_i32_106 c0_i32_107
  let c1_i32_108 : BitVec 32 := 1#32
  let v166 : BitVec 32 := Scalar.select v165 c1_i32_108 c32_i32_106
  let v167 : BitVec 32 := Scalar.remsi v164 v166
  let c0_i32_110 : BitVec 32 := 0#32
  let v169 : BitVec 1 := Scalar.cmpi .slt v167 c0_i32_110
  let c0_i32_111 : BitVec 32 := 0#32
  let v170 : BitVec 1 := Scalar.cmpi .slt v166 c0_i32_111
  let v171 : BitVec 1 := Scalar.xori v169 v170
  let c0_i32_109 : BitVec 32 := 0#32
  let v168 : BitVec 1 := Scalar.cmpi .ne v167 c0_i32_109
  let v172 : BitVec 1 := Scalar.andi v171 v168
  let v173 : BitVec 32 := Scalar.addi v167 v166
  let v174 : BitVec 32 := Scalar.select v172 v173 v167
  let c1_i32_113 : BitVec 32 := 1#32
  let v175 : BitVec 32 := Scalar.muli v174 c1_i32_113
  let v176 : BitVec 32 := Scalar.addi c0_i32_114 v175
  v176.toNat
def k0_dev13 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v177 : BitVec 32 := Scalar.addi v2 c13_i32
  let c32_i32_115 : BitVec 32 := 32#32
  let c0_i32_116 : BitVec 32 := 0#32
  let v178 : BitVec 1 := Scalar.cmpi .eq c32_i32_115 c0_i32_116
  let c1_i32_117 : BitVec 32 := 1#32
  let v179 : BitVec 32 := Scalar.select v178 c1_i32_117 c32_i32_115
  let v180 : BitVec 32 := Scalar.remsi v177 v179
  let c0_i32_119 : BitVec 32 := 0#32
  let v182 : BitVec 1 := Scalar.cmpi .slt v180 c0_i32_119
  let c0_i32_120 : BitVec 32 := 0#32
  let v183 : BitVec 1 := Scalar.cmpi .slt v179 c0_i32_120
  let v184 : BitVec 1 := Scalar.xori v182 v183
  let c0_i32_118 : BitVec 32 := 0#32
  let v181 : BitVec 1 := Scalar.cmpi .ne v180 c0_i32_118
  let v185 : BitVec 1 := Scalar.andi v184 v181
  let v186 : BitVec 32 := Scalar.addi v180 v179
  let v187 : BitVec 32 := Scalar.select v185 v186 v180
  let c1_i32_122 : BitVec 32 := 1#32
  let v188 : BitVec 32 := Scalar.muli v187 c1_i32_122
  let v189 : BitVec 32 := Scalar.addi c0_i32_123 v188
  v189.toNat
def k0_dev14 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v190 : BitVec 32 := Scalar.addi v2 c14_i32
  let c32_i32_124 : BitVec 32 := 32#32
  let c0_i32_125 : BitVec 32 := 0#32
  let v191 : BitVec 1 := Scalar.cmpi .eq c32_i32_124 c0_i32_125
  let c1_i32_126 : BitVec 32 := 1#32
  let v192 : BitVec 32 := Scalar.select v191 c1_i32_126 c32_i32_124
  let v193 : BitVec 32 := Scalar.remsi v190 v192
  let c0_i32_128 : BitVec 32 := 0#32
  let v195 : BitVec 1 := Scalar.cmpi .slt v193 c0_i32_128
  let c0_i32_129 : BitVec 32 := 0#32
  let v196 : BitVec 1 := Scalar.cmpi .slt v192 c0_i32_129
  let v197 : BitVec 1 := Scalar.xori v195 v196
  let c0_i32_127 : BitVec 32 := 0#32
  let v194 : BitVec 1 := Scalar.cmpi .ne v193 c0_i32_127
  let v198 : BitVec 1 := Scalar.andi v197 v194
  let v199 : BitVec 32 := Scalar.addi v193 v192
  let v200 : BitVec 32 := Scalar.select v198 v199 v193
  let c1_i32_131 : BitVec 32 := 1#32
  let v201 : BitVec 32 := Scalar.muli v200 c1_i32_131
  let v202 : BitVec 32 := Scalar.addi c0_i32_132 v201
  v202.toNat
def k0_dev15 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v203 : BitVec 32 := Scalar.addi v2 c15_i32
  let c32_i32_133 : BitVec 32 := 32#32
  let c0_i32_134 : BitVec 32 := 0#32
  let v204 : BitVec 1 := Scalar.cmpi .eq c32_i32_133 c0_i32_134
  let c1_i32_135 : BitVec 32 := 1#32
  let v205 : BitVec 32 := Scalar.select v204 c1_i32_135 c32_i32_133
  let v206 : BitVec 32 := Scalar.remsi v203 v205
  let c0_i32_137 : BitVec 32 := 0#32
  let v208 : BitVec 1 := Scalar.cmpi .slt v206 c0_i32_137
  let c0_i32_138 : BitVec 32 := 0#32
  let v209 : BitVec 1 := Scalar.cmpi .slt v205 c0_i32_138
  let v210 : BitVec 1 := Scalar.xori v208 v209
  let c0_i32_136 : BitVec 32 := 0#32
  let v207 : BitVec 1 := Scalar.cmpi .ne v206 c0_i32_136
  let v211 : BitVec 1 := Scalar.andi v210 v207
  let v212 : BitVec 32 := Scalar.addi v206 v205
  let v213 : BitVec 32 := Scalar.select v211 v212 v206
  let c1_i32_140 : BitVec 32 := 1#32
  let v214 : BitVec 32 := Scalar.muli v213 c1_i32_140
  let v215 : BitVec 32 := Scalar.addi c0_i32_141 v214
  v215.toNat
def k0_dev16 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v216 : BitVec 32 := Scalar.addi v2 c16_i32
  let c32_i32_142 : BitVec 32 := 32#32
  let c0_i32_143 : BitVec 32 := 0#32
  let v217 : BitVec 1 := Scalar.cmpi .eq c32_i32_142 c0_i32_143
  let c1_i32_144 : BitVec 32 := 1#32
  let v218 : BitVec 32 := Scalar.select v217 c1_i32_144 c32_i32_142
  let v219 : BitVec 32 := Scalar.remsi v216 v218
  let c0_i32_146 : BitVec 32 := 0#32
  let v221 : BitVec 1 := Scalar.cmpi .slt v219 c0_i32_146
  let c0_i32_147 : BitVec 32 := 0#32
  let v222 : BitVec 1 := Scalar.cmpi .slt v218 c0_i32_147
  let v223 : BitVec 1 := Scalar.xori v221 v222
  let c0_i32_145 : BitVec 32 := 0#32
  let v220 : BitVec 1 := Scalar.cmpi .ne v219 c0_i32_145
  let v224 : BitVec 1 := Scalar.andi v223 v220
  let v225 : BitVec 32 := Scalar.addi v219 v218
  let v226 : BitVec 32 := Scalar.select v224 v225 v219
  let c1_i32_149 : BitVec 32 := 1#32
  let v227 : BitVec 32 := Scalar.muli v226 c1_i32_149
  let v228 : BitVec 32 := Scalar.addi c0_i32_150 v227
  v228.toNat
def k0_dev17 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v229 : BitVec 32 := Scalar.addi v2 c17_i32
  let c32_i32_151 : BitVec 32 := 32#32
  let c0_i32_152 : BitVec 32 := 0#32
  let v230 : BitVec 1 := Scalar.cmpi .eq c32_i32_151 c0_i32_152
  let c1_i32_153 : BitVec 32 := 1#32
  let v231 : BitVec 32 := Scalar.select v230 c1_i32_153 c32_i32_151
  let v232 : BitVec 32 := Scalar.remsi v229 v231
  let c0_i32_155 : BitVec 32 := 0#32
  let v234 : BitVec 1 := Scalar.cmpi .slt v232 c0_i32_155
  let c0_i32_156 : BitVec 32 := 0#32
  let v235 : BitVec 1 := Scalar.cmpi .slt v231 c0_i32_156
  let v236 : BitVec 1 := Scalar.xori v234 v235
  let c0_i32_154 : BitVec 32 := 0#32
  let v233 : BitVec 1 := Scalar.cmpi .ne v232 c0_i32_154
  let v237 : BitVec 1 := Scalar.andi v236 v233
  let v238 : BitVec 32 := Scalar.addi v232 v231
  let v239 : BitVec 32 := Scalar.select v237 v238 v232
  let c1_i32_158 : BitVec 32 := 1#32
  let v240 : BitVec 32 := Scalar.muli v239 c1_i32_158
  let v241 : BitVec 32 := Scalar.addi c0_i32_159 v240
  v241.toNat
def k0_dev18 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v242 : BitVec 32 := Scalar.addi v2 c18_i32
  let c32_i32_160 : BitVec 32 := 32#32
  let c0_i32_161 : BitVec 32 := 0#32
  let v243 : BitVec 1 := Scalar.cmpi .eq c32_i32_160 c0_i32_161
  let c1_i32_162 : BitVec 32 := 1#32
  let v244 : BitVec 32 := Scalar.select v243 c1_i32_162 c32_i32_160
  let v245 : BitVec 32 := Scalar.remsi v242 v244
  let c0_i32_164 : BitVec 32 := 0#32
  let v247 : BitVec 1 := Scalar.cmpi .slt v245 c0_i32_164
  let c0_i32_165 : BitVec 32 := 0#32
  let v248 : BitVec 1 := Scalar.cmpi .slt v244 c0_i32_165
  let v249 : BitVec 1 := Scalar.xori v247 v248
  let c0_i32_163 : BitVec 32 := 0#32
  let v246 : BitVec 1 := Scalar.cmpi .ne v245 c0_i32_163
  let v250 : BitVec 1 := Scalar.andi v249 v246
  let v251 : BitVec 32 := Scalar.addi v245 v244
  let v252 : BitVec 32 := Scalar.select v250 v251 v245
  let c1_i32_167 : BitVec 32 := 1#32
  let v253 : BitVec 32 := Scalar.muli v252 c1_i32_167
  let v254 : BitVec 32 := Scalar.addi c0_i32_168 v253
  v254.toNat
def k0_dev19 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v255 : BitVec 32 := Scalar.addi v2 c19_i32
  let c32_i32_169 : BitVec 32 := 32#32
  let c0_i32_170 : BitVec 32 := 0#32
  let v256 : BitVec 1 := Scalar.cmpi .eq c32_i32_169 c0_i32_170
  let c1_i32_171 : BitVec 32 := 1#32
  let v257 : BitVec 32 := Scalar.select v256 c1_i32_171 c32_i32_169
  let v258 : BitVec 32 := Scalar.remsi v255 v257
  let c0_i32_173 : BitVec 32 := 0#32
  let v260 : BitVec 1 := Scalar.cmpi .slt v258 c0_i32_173
  let c0_i32_174 : BitVec 32 := 0#32
  let v261 : BitVec 1 := Scalar.cmpi .slt v257 c0_i32_174
  let v262 : BitVec 1 := Scalar.xori v260 v261
  let c0_i32_172 : BitVec 32 := 0#32
  let v259 : BitVec 1 := Scalar.cmpi .ne v258 c0_i32_172
  let v263 : BitVec 1 := Scalar.andi v262 v259
  let v264 : BitVec 32 := Scalar.addi v258 v257
  let v265 : BitVec 32 := Scalar.select v263 v264 v258
  let c1_i32_176 : BitVec 32 := 1#32
  let v266 : BitVec 32 := Scalar.muli v265 c1_i32_176
  let v267 : BitVec 32 := Scalar.addi c0_i32_177 v266
  v267.toNat
def k0_dev20 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v268 : BitVec 32 := Scalar.addi v2 c20_i32
  let c32_i32_178 : BitVec 32 := 32#32
  let c0_i32_179 : BitVec 32 := 0#32
  let v269 : BitVec 1 := Scalar.cmpi .eq c32_i32_178 c0_i32_179
  let c1_i32_180 : BitVec 32 := 1#32
  let v270 : BitVec 32 := Scalar.select v269 c1_i32_180 c32_i32_178
  let v271 : BitVec 32 := Scalar.remsi v268 v270
  let c0_i32_182 : BitVec 32 := 0#32
  let v273 : BitVec 1 := Scalar.cmpi .slt v271 c0_i32_182
  let c0_i32_183 : BitVec 32 := 0#32
  let v274 : BitVec 1 := Scalar.cmpi .slt v270 c0_i32_183
  let v275 : BitVec 1 := Scalar.xori v273 v274
  let c0_i32_181 : BitVec 32 := 0#32
  let v272 : BitVec 1 := Scalar.cmpi .ne v271 c0_i32_181
  let v276 : BitVec 1 := Scalar.andi v275 v272
  let v277 : BitVec 32 := Scalar.addi v271 v270
  let v278 : BitVec 32 := Scalar.select v276 v277 v271
  let c1_i32_185 : BitVec 32 := 1#32
  let v279 : BitVec 32 := Scalar.muli v278 c1_i32_185
  let v280 : BitVec 32 := Scalar.addi c0_i32_186 v279
  v280.toNat
def k0_dev21 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v281 : BitVec 32 := Scalar.addi v2 c21_i32
  let c32_i32_187 : BitVec 32 := 32#32
  let c0_i32_188 : BitVec 32 := 0#32
  let v282 : BitVec 1 := Scalar.cmpi .eq c32_i32_187 c0_i32_188
  let c1_i32_189 : BitVec 32 := 1#32
  let v283 : BitVec 32 := Scalar.select v282 c1_i32_189 c32_i32_187
  let v284 : BitVec 32 := Scalar.remsi v281 v283
  let c0_i32_191 : BitVec 32 := 0#32
  let v286 : BitVec 1 := Scalar.cmpi .slt v284 c0_i32_191
  let c0_i32_192 : BitVec 32 := 0#32
  let v287 : BitVec 1 := Scalar.cmpi .slt v283 c0_i32_192
  let v288 : BitVec 1 := Scalar.xori v286 v287
  let c0_i32_190 : BitVec 32 := 0#32
  let v285 : BitVec 1 := Scalar.cmpi .ne v284 c0_i32_190
  let v289 : BitVec 1 := Scalar.andi v288 v285
  let v290 : BitVec 32 := Scalar.addi v284 v283
  let v291 : BitVec 32 := Scalar.select v289 v290 v284
  let c1_i32_194 : BitVec 32 := 1#32
  let v292 : BitVec 32 := Scalar.muli v291 c1_i32_194
  let v293 : BitVec 32 := Scalar.addi c0_i32_195 v292
  v293.toNat
def k0_dev22 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v294 : BitVec 32 := Scalar.addi v2 c22_i32
  let c32_i32_196 : BitVec 32 := 32#32
  let c0_i32_197 : BitVec 32 := 0#32
  let v295 : BitVec 1 := Scalar.cmpi .eq c32_i32_196 c0_i32_197
  let c1_i32_198 : BitVec 32 := 1#32
  let v296 : BitVec 32 := Scalar.select v295 c1_i32_198 c32_i32_196
  let v297 : BitVec 32 := Scalar.remsi v294 v296
  let c0_i32_200 : BitVec 32 := 0#32
  let v299 : BitVec 1 := Scalar.cmpi .slt v297 c0_i32_200
  let c0_i32_201 : BitVec 32 := 0#32
  let v300 : BitVec 1 := Scalar.cmpi .slt v296 c0_i32_201
  let v301 : BitVec 1 := Scalar.xori v299 v300
  let c0_i32_199 : BitVec 32 := 0#32
  let v298 : BitVec 1 := Scalar.cmpi .ne v297 c0_i32_199
  let v302 : BitVec 1 := Scalar.andi v301 v298
  let v303 : BitVec 32 := Scalar.addi v297 v296
  let v304 : BitVec 32 := Scalar.select v302 v303 v297
  let c1_i32_203 : BitVec 32 := 1#32
  let v305 : BitVec 32 := Scalar.muli v304 c1_i32_203
  let v306 : BitVec 32 := Scalar.addi c0_i32_204 v305
  v306.toNat
def k0_dev23 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v307 : BitVec 32 := Scalar.addi v2 c23_i32
  let c32_i32_205 : BitVec 32 := 32#32
  let c0_i32_206 : BitVec 32 := 0#32
  let v308 : BitVec 1 := Scalar.cmpi .eq c32_i32_205 c0_i32_206
  let c1_i32_207 : BitVec 32 := 1#32
  let v309 : BitVec 32 := Scalar.select v308 c1_i32_207 c32_i32_205
  let v310 : BitVec 32 := Scalar.remsi v307 v309
  let c0_i32_209 : BitVec 32 := 0#32
  let v312 : BitVec 1 := Scalar.cmpi .slt v310 c0_i32_209
  let c0_i32_210 : BitVec 32 := 0#32
  let v313 : BitVec 1 := Scalar.cmpi .slt v309 c0_i32_210
  let v314 : BitVec 1 := Scalar.xori v312 v313
  let c0_i32_208 : BitVec 32 := 0#32
  let v311 : BitVec 1 := Scalar.cmpi .ne v310 c0_i32_208
  let v315 : BitVec 1 := Scalar.andi v314 v311
  let v316 : BitVec 32 := Scalar.addi v310 v309
  let v317 : BitVec 32 := Scalar.select v315 v316 v310
  let c1_i32_212 : BitVec 32 := 1#32
  let v318 : BitVec 32 := Scalar.muli v317 c1_i32_212
  let v319 : BitVec 32 := Scalar.addi c0_i32_213 v318
  v319.toNat
def k0_dev24 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v320 : BitVec 32 := Scalar.addi v2 c24_i32
  let c32_i32_214 : BitVec 32 := 32#32
  let c0_i32_215 : BitVec 32 := 0#32
  let v321 : BitVec 1 := Scalar.cmpi .eq c32_i32_214 c0_i32_215
  let c1_i32_216 : BitVec 32 := 1#32
  let v322 : BitVec 32 := Scalar.select v321 c1_i32_216 c32_i32_214
  let v323 : BitVec 32 := Scalar.remsi v320 v322
  let c0_i32_218 : BitVec 32 := 0#32
  let v325 : BitVec 1 := Scalar.cmpi .slt v323 c0_i32_218
  let c0_i32_219 : BitVec 32 := 0#32
  let v326 : BitVec 1 := Scalar.cmpi .slt v322 c0_i32_219
  let v327 : BitVec 1 := Scalar.xori v325 v326
  let c0_i32_217 : BitVec 32 := 0#32
  let v324 : BitVec 1 := Scalar.cmpi .ne v323 c0_i32_217
  let v328 : BitVec 1 := Scalar.andi v327 v324
  let v329 : BitVec 32 := Scalar.addi v323 v322
  let v330 : BitVec 32 := Scalar.select v328 v329 v323
  let c1_i32_221 : BitVec 32 := 1#32
  let v331 : BitVec 32 := Scalar.muli v330 c1_i32_221
  let v332 : BitVec 32 := Scalar.addi c0_i32_222 v331
  v332.toNat
def k0_dev25 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v333 : BitVec 32 := Scalar.addi v2 c25_i32
  let c32_i32_223 : BitVec 32 := 32#32
  let c0_i32_224 : BitVec 32 := 0#32
  let v334 : BitVec 1 := Scalar.cmpi .eq c32_i32_223 c0_i32_224
  let c1_i32_225 : BitVec 32 := 1#32
  let v335 : BitVec 32 := Scalar.select v334 c1_i32_225 c32_i32_223
  let v336 : BitVec 32 := Scalar.remsi v333 v335
  let c0_i32_227 : BitVec 32 := 0#32
  let v338 : BitVec 1 := Scalar.cmpi .slt v336 c0_i32_227
  let c0_i32_228 : BitVec 32 := 0#32
  let v339 : BitVec 1 := Scalar.cmpi .slt v335 c0_i32_228
  let v340 : BitVec 1 := Scalar.xori v338 v339
  let c0_i32_226 : BitVec 32 := 0#32
  let v337 : BitVec 1 := Scalar.cmpi .ne v336 c0_i32_226
  let v341 : BitVec 1 := Scalar.andi v340 v337
  let v342 : BitVec 32 := Scalar.addi v336 v335
  let v343 : BitVec 32 := Scalar.select v341 v342 v336
  let c1_i32_230 : BitVec 32 := 1#32
  let v344 : BitVec 32 := Scalar.muli v343 c1_i32_230
  let v345 : BitVec 32 := Scalar.addi c0_i32_231 v344
  v345.toNat
def k0_dev26 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v346 : BitVec 32 := Scalar.addi v2 c26_i32
  let c32_i32_232 : BitVec 32 := 32#32
  let c0_i32_233 : BitVec 32 := 0#32
  let v347 : BitVec 1 := Scalar.cmpi .eq c32_i32_232 c0_i32_233
  let c1_i32_234 : BitVec 32 := 1#32
  let v348 : BitVec 32 := Scalar.select v347 c1_i32_234 c32_i32_232
  let v349 : BitVec 32 := Scalar.remsi v346 v348
  let c0_i32_236 : BitVec 32 := 0#32
  let v351 : BitVec 1 := Scalar.cmpi .slt v349 c0_i32_236
  let c0_i32_237 : BitVec 32 := 0#32
  let v352 : BitVec 1 := Scalar.cmpi .slt v348 c0_i32_237
  let v353 : BitVec 1 := Scalar.xori v351 v352
  let c0_i32_235 : BitVec 32 := 0#32
  let v350 : BitVec 1 := Scalar.cmpi .ne v349 c0_i32_235
  let v354 : BitVec 1 := Scalar.andi v353 v350
  let v355 : BitVec 32 := Scalar.addi v349 v348
  let v356 : BitVec 32 := Scalar.select v354 v355 v349
  let c1_i32_239 : BitVec 32 := 1#32
  let v357 : BitVec 32 := Scalar.muli v356 c1_i32_239
  let v358 : BitVec 32 := Scalar.addi c0_i32_240 v357
  v358.toNat
def k0_dev27 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v359 : BitVec 32 := Scalar.addi v2 c27_i32
  let c32_i32_241 : BitVec 32 := 32#32
  let c0_i32_242 : BitVec 32 := 0#32
  let v360 : BitVec 1 := Scalar.cmpi .eq c32_i32_241 c0_i32_242
  let c1_i32_243 : BitVec 32 := 1#32
  let v361 : BitVec 32 := Scalar.select v360 c1_i32_243 c32_i32_241
  let v362 : BitVec 32 := Scalar.remsi v359 v361
  let c0_i32_245 : BitVec 32 := 0#32
  let v364 : BitVec 1 := Scalar.cmpi .slt v362 c0_i32_245
  let c0_i32_246 : BitVec 32 := 0#32
  let v365 : BitVec 1 := Scalar.cmpi .slt v361 c0_i32_246
  let v366 : BitVec 1 := Scalar.xori v364 v365
  let c0_i32_244 : BitVec 32 := 0#32
  let v363 : BitVec 1 := Scalar.cmpi .ne v362 c0_i32_244
  let v367 : BitVec 1 := Scalar.andi v366 v363
  let v368 : BitVec 32 := Scalar.addi v362 v361
  let v369 : BitVec 32 := Scalar.select v367 v368 v362
  let c1_i32_248 : BitVec 32 := 1#32
  let v370 : BitVec 32 := Scalar.muli v369 c1_i32_248
  let v371 : BitVec 32 := Scalar.addi c0_i32_249 v370
  v371.toNat
def k0_dev28 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v372 : BitVec 32 := Scalar.addi v2 c28_i32
  let c32_i32_250 : BitVec 32 := 32#32
  let c0_i32_251 : BitVec 32 := 0#32
  let v373 : BitVec 1 := Scalar.cmpi .eq c32_i32_250 c0_i32_251
  let c1_i32_252 : BitVec 32 := 1#32
  let v374 : BitVec 32 := Scalar.select v373 c1_i32_252 c32_i32_250
  let v375 : BitVec 32 := Scalar.remsi v372 v374
  let c0_i32_254 : BitVec 32 := 0#32
  let v377 : BitVec 1 := Scalar.cmpi .slt v375 c0_i32_254
  let c0_i32_255 : BitVec 32 := 0#32
  let v378 : BitVec 1 := Scalar.cmpi .slt v374 c0_i32_255
  let v379 : BitVec 1 := Scalar.xori v377 v378
  let c0_i32_253 : BitVec 32 := 0#32
  let v376 : BitVec 1 := Scalar.cmpi .ne v375 c0_i32_253
  let v380 : BitVec 1 := Scalar.andi v379 v376
  let v381 : BitVec 32 := Scalar.addi v375 v374
  let v382 : BitVec 32 := Scalar.select v380 v381 v375
  let c1_i32_257 : BitVec 32 := 1#32
  let v383 : BitVec 32 := Scalar.muli v382 c1_i32_257
  let v384 : BitVec 32 := Scalar.addi c0_i32_258 v383
  v384.toNat
def k0_dev29 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v385 : BitVec 32 := Scalar.addi v2 c29_i32
  let c32_i32_259 : BitVec 32 := 32#32
  let c0_i32_260 : BitVec 32 := 0#32
  let v386 : BitVec 1 := Scalar.cmpi .eq c32_i32_259 c0_i32_260
  let c1_i32_261 : BitVec 32 := 1#32
  let v387 : BitVec 32 := Scalar.select v386 c1_i32_261 c32_i32_259
  let v388 : BitVec 32 := Scalar.remsi v385 v387
  let c0_i32_263 : BitVec 32 := 0#32
  let v390 : BitVec 1 := Scalar.cmpi .slt v388 c0_i32_263
  let c0_i32_264 : BitVec 32 := 0#32
  let v391 : BitVec 1 := Scalar.cmpi .slt v387 c0_i32_264
  let v392 : BitVec 1 := Scalar.xori v390 v391
  let c0_i32_262 : BitVec 32 := 0#32
  let v389 : BitVec 1 := Scalar.cmpi .ne v388 c0_i32_262
  let v393 : BitVec 1 := Scalar.andi v392 v389
  let v394 : BitVec 32 := Scalar.addi v388 v387
  let v395 : BitVec 32 := Scalar.select v393 v394 v388
  let c1_i32_266 : BitVec 32 := 1#32
  let v396 : BitVec 32 := Scalar.muli v395 c1_i32_266
  let v397 : BitVec 32 := Scalar.addi c0_i32_267 v396
  v397.toNat
def k0_dev30 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v398 : BitVec 32 := Scalar.addi v2 c30_i32
  let c32_i32_268 : BitVec 32 := 32#32
  let c0_i32_269 : BitVec 32 := 0#32
  let v399 : BitVec 1 := Scalar.cmpi .eq c32_i32_268 c0_i32_269
  let c1_i32_270 : BitVec 32 := 1#32
  let v400 : BitVec 32 := Scalar.select v399 c1_i32_270 c32_i32_268
  let v401 : BitVec 32 := Scalar.remsi v398 v400
  let c0_i32_272 : BitVec 32 := 0#32
  let v403 : BitVec 1 := Scalar.cmpi .slt v401 c0_i32_272
  let c0_i32_273 : BitVec 32 := 0#32
  let v404 : BitVec 1 := Scalar.cmpi .slt v400 c0_i32_273
  let v405 : BitVec 1 := Scalar.xori v403 v404
  let c0_i32_271 : BitVec 32 := 0#32
  let v402 : BitVec 1 := Scalar.cmpi .ne v401 c0_i32_271
  let v406 : BitVec 1 := Scalar.andi v405 v402
  let v407 : BitVec 32 := Scalar.addi v401 v400
  let v408 : BitVec 32 := Scalar.select v406 v407 v401
  let c1_i32_275 : BitVec 32 := 1#32
  let v409 : BitVec 32 := Scalar.muli v408 c1_i32_275
  let v410 : BitVec 32 := Scalar.addi c0_i32_276 v409
  v410.toNat
def k0_dev31 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v411 : BitVec 32 := Scalar.addi v2 c31_i32
  let c32_i32_277 : BitVec 32 := 32#32
  let c0_i32_278 : BitVec 32 := 0#32
  let v412 : BitVec 1 := Scalar.cmpi .eq c32_i32_277 c0_i32_278
  let c1_i32_279 : BitVec 32 := 1#32
  let v413 : BitVec 32 := Scalar.select v412 c1_i32_279 c32_i32_277
  let v414 : BitVec 32 := Scalar.remsi v411 v413
  let c0_i32_281 : BitVec 32 := 0#32
  let v416 : BitVec 1 := Scalar.cmpi .slt v414 c0_i32_281
  let c0_i32_282 : BitVec 32 := 0#32
  let v417 : BitVec 1 := Scalar.cmpi .slt v413 c0_i32_282
  let v418 : BitVec 1 := Scalar.xori v416 v417
  let c0_i32_280 : BitVec 32 := 0#32
  let v415 : BitVec 1 := Scalar.cmpi .ne v414 c0_i32_280
  let v419 : BitVec 1 := Scalar.andi v418 v415
  let v420 : BitVec 32 := Scalar.addi v414 v413
  let v421 : BitVec 32 := Scalar.select v419 v420 v414
  let c1_i32_284 : BitVec 32 := 1#32
  let v422 : BitVec 32 := Scalar.muli v421 c1_i32_284
  let v423 : BitVec 32 := Scalar.addi c0_i32_285 v422
  v423.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 2 → Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_290 : BitVec 32 := 256#32
  let v431 : BitVec 32 := Scalar.muli v2 c256_i32_290
  ![0, v431.toNat]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v430 : BitVec 32 := Scalar.muli v2 c256_i32
  let c0_i32_292 : BitVec 32 := 0#32
  ![v430.toNat, 0]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_301 : BitVec 32 := 4#32
  let v448 : BitVec 32 := Scalar.muli v447 c4_i32_301
  let c0_i32_302 : BitVec 32 := 0#32
  let v449 : BitVec 32 := Scalar.addi v448 c0_i32_302
  let v452 : BitVec 1 := Scalar.cmpi .ne v449 v2
  let v453 : BitVec 32 := Scalar.extui v452
  let c0_i32_306 : BitVec 32 := 0#32
  let v454 : BitVec 1 := Scalar.cmpi .ne v453 c0_i32_306
  v454

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_304 : BitVec 32 := 256#32
  let v451 : BitVec 32 := Scalar.muli v2 c256_i32_304
  ![0, v451.toNat]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_301 : BitVec 32 := 4#32
  let v448 : BitVec 32 := Scalar.muli v447 c4_i32_301
  let c0_i32_302 : BitVec 32 := 0#32
  let v449 : BitVec 32 := Scalar.addi v448 c0_i32_302
  let c256_i32_303 : BitVec 32 := 256#32
  let v450 : BitVec 32 := Scalar.muli v449 c256_i32_303
  let c0_i32_1247 : BitVec 32 := 0#32
  ![v450.toNat, 0]
def k0_dev32 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_301 : BitVec 32 := 4#32
  let v448 : BitVec 32 := Scalar.muli v447 c4_i32_301
  let c0_i32_302 : BitVec 32 := 0#32
  let v449 : BitVec 32 := Scalar.addi v448 c0_i32_302
  let c1_i32_1244 : BitVec 32 := 1#32
  let v1590 : BitVec 32 := Scalar.muli v449 c1_i32_1244
  let v1591 : BitVec 32 := Scalar.addi c0_i32_1245 v1590
  v1591.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_307 : BitVec 32 := 4#32
  let v455 : BitVec 32 := Scalar.muli v447 c4_i32_307
  let c1_i32_308 : BitVec 32 := 1#32
  let v456 : BitVec 32 := Scalar.addi v455 c1_i32_308
  let v459 : BitVec 1 := Scalar.cmpi .ne v456 v2
  let v460 : BitVec 32 := Scalar.extui v459
  let c0_i32_312 : BitVec 32 := 0#32
  let v461 : BitVec 1 := Scalar.cmpi .ne v460 c0_i32_312
  v461

def k0_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off8 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_310 : BitVec 32 := 256#32
  let v458 : BitVec 32 := Scalar.muli v2 c256_i32_310
  ![0, v458.toNat]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_307 : BitVec 32 := 4#32
  let v455 : BitVec 32 := Scalar.muli v447 c4_i32_307
  let c1_i32_308 : BitVec 32 := 1#32
  let v456 : BitVec 32 := Scalar.addi v455 c1_i32_308
  let c256_i32_309 : BitVec 32 := 256#32
  let v457 : BitVec 32 := Scalar.muli v456 c256_i32_309
  let c0_i32_1247 : BitVec 32 := 0#32
  ![v457.toNat, 0]
def k0_dev33 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_307 : BitVec 32 := 4#32
  let v455 : BitVec 32 := Scalar.muli v447 c4_i32_307
  let c1_i32_308 : BitVec 32 := 1#32
  let v456 : BitVec 32 := Scalar.addi v455 c1_i32_308
  let c1_i32_1244 : BitVec 32 := 1#32
  let v1590 : BitVec 32 := Scalar.muli v456 c1_i32_1244
  let v1591 : BitVec 32 := Scalar.addi c0_i32_1245 v1590
  v1591.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_313 : BitVec 32 := 4#32
  let v462 : BitVec 32 := Scalar.muli v447 c4_i32_313
  let c2_i32_314 : BitVec 32 := 2#32
  let v463 : BitVec 32 := Scalar.addi v462 c2_i32_314
  let v466 : BitVec 1 := Scalar.cmpi .ne v463 v2
  let v467 : BitVec 32 := Scalar.extui v466
  let c0_i32_318 : BitVec 32 := 0#32
  let v468 : BitVec 1 := Scalar.cmpi .ne v467 c0_i32_318
  v468

def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off11 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_316 : BitVec 32 := 256#32
  let v465 : BitVec 32 := Scalar.muli v2 c256_i32_316
  ![0, v465.toNat]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_313 : BitVec 32 := 4#32
  let v462 : BitVec 32 := Scalar.muli v447 c4_i32_313
  let c2_i32_314 : BitVec 32 := 2#32
  let v463 : BitVec 32 := Scalar.addi v462 c2_i32_314
  let c256_i32_315 : BitVec 32 := 256#32
  let v464 : BitVec 32 := Scalar.muli v463 c256_i32_315
  let c0_i32_1247 : BitVec 32 := 0#32
  ![v464.toNat, 0]
def k0_dev34 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_313 : BitVec 32 := 4#32
  let v462 : BitVec 32 := Scalar.muli v447 c4_i32_313
  let c2_i32_314 : BitVec 32 := 2#32
  let v463 : BitVec 32 := Scalar.addi v462 c2_i32_314
  let c1_i32_1244 : BitVec 32 := 1#32
  let v1590 : BitVec 32 := Scalar.muli v463 c1_i32_1244
  let v1591 : BitVec 32 := Scalar.addi c0_i32_1245 v1590
  v1591.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_319 : BitVec 32 := 4#32
  let v469 : BitVec 32 := Scalar.muli v447 c4_i32_319
  let c3_i32_320 : BitVec 32 := 3#32
  let v470 : BitVec 32 := Scalar.addi v469 c3_i32_320
  let v473 : BitVec 1 := Scalar.cmpi .ne v470 v2
  let v474 : BitVec 32 := Scalar.extui v473
  let c0_i32_324 : BitVec 32 := 0#32
  let v475 : BitVec 1 := Scalar.cmpi .ne v474 c0_i32_324
  v475

def k0_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off14 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_322 : BitVec 32 := 256#32
  let v472 : BitVec 32 := Scalar.muli v2 c256_i32_322
  ![0, v472.toNat]
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_319 : BitVec 32 := 4#32
  let v469 : BitVec 32 := Scalar.muli v447 c4_i32_319
  let c3_i32_320 : BitVec 32 := 3#32
  let v470 : BitVec 32 := Scalar.addi v469 c3_i32_320
  let c256_i32_321 : BitVec 32 := 256#32
  let v471 : BitVec 32 := Scalar.muli v470 c256_i32_321
  let c0_i32_1247 : BitVec 32 := 0#32
  ![v471.toNat, 0]
def k0_dev35 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_319 : BitVec 32 := 4#32
  let v469 : BitVec 32 := Scalar.muli v447 c4_i32_319
  let c3_i32_320 : BitVec 32 := 3#32
  let v470 : BitVec 32 := Scalar.addi v469 c3_i32_320
  let c1_i32_1244 : BitVec 32 := 1#32
  let v1590 : BitVec 32 := Scalar.muli v470 c1_i32_1244
  let v1591 : BitVec 32 := Scalar.addi c0_i32_1245 v1590
  v1591.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_333 : BitVec 32 := 4#32
  let v488 : BitVec 32 := Scalar.muli v487 c4_i32_333
  let c0_i32_334 : BitVec 32 := 0#32
  let v489 : BitVec 32 := Scalar.addi v488 c0_i32_334
  let v492 : BitVec 1 := Scalar.cmpi .ne v489 v2
  let v493 : BitVec 32 := Scalar.extui v492
  let c0_i32_338 : BitVec 32 := 0#32
  let v494 : BitVec 1 := Scalar.cmpi .ne v493 c0_i32_338
  v494

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off17 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_336 : BitVec 32 := 256#32
  let v491 : BitVec 32 := Scalar.muli v2 c256_i32_336
  ![0, v491.toNat]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_333 : BitVec 32 := 4#32
  let v488 : BitVec 32 := Scalar.muli v487 c4_i32_333
  let c0_i32_334 : BitVec 32 := 0#32
  let v489 : BitVec 32 := Scalar.addi v488 c0_i32_334
  let c256_i32_335 : BitVec 32 := 256#32
  let v490 : BitVec 32 := Scalar.muli v489 c256_i32_335
  let c0_i32_1247 : BitVec 32 := 0#32
  ![v490.toNat, 0]
def k0_dev36 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_333 : BitVec 32 := 4#32
  let v488 : BitVec 32 := Scalar.muli v487 c4_i32_333
  let c0_i32_334 : BitVec 32 := 0#32
  let v489 : BitVec 32 := Scalar.addi v488 c0_i32_334
  let c1_i32_1244 : BitVec 32 := 1#32
  let v1590 : BitVec 32 := Scalar.muli v489 c1_i32_1244
  let v1591 : BitVec 32 := Scalar.addi c0_i32_1245 v1590
  v1591.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_339 : BitVec 32 := 4#32
  let v495 : BitVec 32 := Scalar.muli v487 c4_i32_339
  let c1_i32_340 : BitVec 32 := 1#32
  let v496 : BitVec 32 := Scalar.addi v495 c1_i32_340
  let v499 : BitVec 1 := Scalar.cmpi .ne v496 v2
  let v500 : BitVec 32 := Scalar.extui v499
  let c0_i32_344 : BitVec 32 := 0#32
  let v501 : BitVec 1 := Scalar.cmpi .ne v500 c0_i32_344
  v501

def k0_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off20 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_342 : BitVec 32 := 256#32
  let v498 : BitVec 32 := Scalar.muli v2 c256_i32_342
  ![0, v498.toNat]
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_339 : BitVec 32 := 4#32
  let v495 : BitVec 32 := Scalar.muli v487 c4_i32_339
  let c1_i32_340 : BitVec 32 := 1#32
  let v496 : BitVec 32 := Scalar.addi v495 c1_i32_340
  let c256_i32_341 : BitVec 32 := 256#32
  let v497 : BitVec 32 := Scalar.muli v496 c256_i32_341
  let c0_i32_1247 : BitVec 32 := 0#32
  ![v497.toNat, 0]
def k0_dev37 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_339 : BitVec 32 := 4#32
  let v495 : BitVec 32 := Scalar.muli v487 c4_i32_339
  let c1_i32_340 : BitVec 32 := 1#32
  let v496 : BitVec 32 := Scalar.addi v495 c1_i32_340
  let c1_i32_1244 : BitVec 32 := 1#32
  let v1590 : BitVec 32 := Scalar.muli v496 c1_i32_1244
  let v1591 : BitVec 32 := Scalar.addi c0_i32_1245 v1590
  v1591.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_345 : BitVec 32 := 4#32
  let v502 : BitVec 32 := Scalar.muli v487 c4_i32_345
  let c2_i32_346 : BitVec 32 := 2#32
  let v503 : BitVec 32 := Scalar.addi v502 c2_i32_346
  let v506 : BitVec 1 := Scalar.cmpi .ne v503 v2
  let v507 : BitVec 32 := Scalar.extui v506
  let c0_i32_350 : BitVec 32 := 0#32
  let v508 : BitVec 1 := Scalar.cmpi .ne v507 c0_i32_350
  v508

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off23 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_348 : BitVec 32 := 256#32
  let v505 : BitVec 32 := Scalar.muli v2 c256_i32_348
  ![0, v505.toNat]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_345 : BitVec 32 := 4#32
  let v502 : BitVec 32 := Scalar.muli v487 c4_i32_345
  let c2_i32_346 : BitVec 32 := 2#32
  let v503 : BitVec 32 := Scalar.addi v502 c2_i32_346
  let c256_i32_347 : BitVec 32 := 256#32
  let v504 : BitVec 32 := Scalar.muli v503 c256_i32_347
  let c0_i32_1247 : BitVec 32 := 0#32
  ![v504.toNat, 0]
def k0_dev38 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_345 : BitVec 32 := 4#32
  let v502 : BitVec 32 := Scalar.muli v487 c4_i32_345
  let c2_i32_346 : BitVec 32 := 2#32
  let v503 : BitVec 32 := Scalar.addi v502 c2_i32_346
  let c1_i32_1244 : BitVec 32 := 1#32
  let v1590 : BitVec 32 := Scalar.muli v503 c1_i32_1244
  let v1591 : BitVec 32 := Scalar.addi c0_i32_1245 v1590
  v1591.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_351 : BitVec 32 := 4#32
  let v509 : BitVec 32 := Scalar.muli v487 c4_i32_351
  let c3_i32_352 : BitVec 32 := 3#32
  let v510 : BitVec 32 := Scalar.addi v509 c3_i32_352
  let v513 : BitVec 1 := Scalar.cmpi .ne v510 v2
  let v514 : BitVec 32 := Scalar.extui v513
  let c0_i32_356 : BitVec 32 := 0#32
  let v515 : BitVec 1 := Scalar.cmpi .ne v514 c0_i32_356
  v515

def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_354 : BitVec 32 := 256#32
  let v512 : BitVec 32 := Scalar.muli v2 c256_i32_354
  ![0, v512.toNat]
def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_351 : BitVec 32 := 4#32
  let v509 : BitVec 32 := Scalar.muli v487 c4_i32_351
  let c3_i32_352 : BitVec 32 := 3#32
  let v510 : BitVec 32 := Scalar.addi v509 c3_i32_352
  let c256_i32_353 : BitVec 32 := 256#32
  let v511 : BitVec 32 := Scalar.muli v510 c256_i32_353
  let c0_i32_1247 : BitVec 32 := 0#32
  ![v511.toNat, 0]
def k0_dev39 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_351 : BitVec 32 := 4#32
  let v509 : BitVec 32 := Scalar.muli v487 c4_i32_351
  let c3_i32_352 : BitVec 32 := 3#32
  let v510 : BitVec 32 := Scalar.addi v509 c3_i32_352
  let c1_i32_1244 : BitVec 32 := 1#32
  let v1590 : BitVec 32 := Scalar.muli v510 c1_i32_1244
  let v1591 : BitVec 32 := Scalar.addi c0_i32_1245 v1590
  v1591.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_365 : BitVec 32 := 4#32
  let v528 : BitVec 32 := Scalar.muli v527 c4_i32_365
  let c0_i32_366 : BitVec 32 := 0#32
  let v529 : BitVec 32 := Scalar.addi v528 c0_i32_366
  let v532 : BitVec 1 := Scalar.cmpi .ne v529 v2
  let v533 : BitVec 32 := Scalar.extui v532
  let c0_i32_370 : BitVec 32 := 0#32
  let v534 : BitVec 1 := Scalar.cmpi .ne v533 c0_i32_370
  v534

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off29 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_368 : BitVec 32 := 256#32
  let v531 : BitVec 32 := Scalar.muli v2 c256_i32_368
  ![0, v531.toNat]
def k0_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_365 : BitVec 32 := 4#32
  let v528 : BitVec 32 := Scalar.muli v527 c4_i32_365
  let c0_i32_366 : BitVec 32 := 0#32
  let v529 : BitVec 32 := Scalar.addi v528 c0_i32_366
  let c256_i32_367 : BitVec 32 := 256#32
  let v530 : BitVec 32 := Scalar.muli v529 c256_i32_367
  let c0_i32_1247 : BitVec 32 := 0#32
  ![v530.toNat, 0]
def k0_dev40 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_365 : BitVec 32 := 4#32
  let v528 : BitVec 32 := Scalar.muli v527 c4_i32_365
  let c0_i32_366 : BitVec 32 := 0#32
  let v529 : BitVec 32 := Scalar.addi v528 c0_i32_366
  let c1_i32_1244 : BitVec 32 := 1#32
  let v1590 : BitVec 32 := Scalar.muli v529 c1_i32_1244
  let v1591 : BitVec 32 := Scalar.addi c0_i32_1245 v1590
  v1591.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_371 : BitVec 32 := 4#32
  let v535 : BitVec 32 := Scalar.muli v527 c4_i32_371
  let c1_i32_372 : BitVec 32 := 1#32
  let v536 : BitVec 32 := Scalar.addi v535 c1_i32_372
  let v539 : BitVec 1 := Scalar.cmpi .ne v536 v2
  let v540 : BitVec 32 := Scalar.extui v539
  let c0_i32_376 : BitVec 32 := 0#32
  let v541 : BitVec 1 := Scalar.cmpi .ne v540 c0_i32_376
  v541

def k0_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off32 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_374 : BitVec 32 := 256#32
  let v538 : BitVec 32 := Scalar.muli v2 c256_i32_374
  ![0, v538.toNat]
def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_371 : BitVec 32 := 4#32
  let v535 : BitVec 32 := Scalar.muli v527 c4_i32_371
  let c1_i32_372 : BitVec 32 := 1#32
  let v536 : BitVec 32 := Scalar.addi v535 c1_i32_372
  let c256_i32_373 : BitVec 32 := 256#32
  let v537 : BitVec 32 := Scalar.muli v536 c256_i32_373
  let c0_i32_1247 : BitVec 32 := 0#32
  ![v537.toNat, 0]
def k0_dev41 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_371 : BitVec 32 := 4#32
  let v535 : BitVec 32 := Scalar.muli v527 c4_i32_371
  let c1_i32_372 : BitVec 32 := 1#32
  let v536 : BitVec 32 := Scalar.addi v535 c1_i32_372
  let c1_i32_1244 : BitVec 32 := 1#32
  let v1590 : BitVec 32 := Scalar.muli v536 c1_i32_1244
  let v1591 : BitVec 32 := Scalar.addi c0_i32_1245 v1590
  v1591.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_377 : BitVec 32 := 4#32
  let v542 : BitVec 32 := Scalar.muli v527 c4_i32_377
  let c2_i32_378 : BitVec 32 := 2#32
  let v543 : BitVec 32 := Scalar.addi v542 c2_i32_378
  let v546 : BitVec 1 := Scalar.cmpi .ne v543 v2
  let v547 : BitVec 32 := Scalar.extui v546
  let c0_i32_382 : BitVec 32 := 0#32
  let v548 : BitVec 1 := Scalar.cmpi .ne v547 c0_i32_382
  v548

def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off35 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_380 : BitVec 32 := 256#32
  let v545 : BitVec 32 := Scalar.muli v2 c256_i32_380
  ![0, v545.toNat]
def k0_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_377 : BitVec 32 := 4#32
  let v542 : BitVec 32 := Scalar.muli v527 c4_i32_377
  let c2_i32_378 : BitVec 32 := 2#32
  let v543 : BitVec 32 := Scalar.addi v542 c2_i32_378
  let c256_i32_379 : BitVec 32 := 256#32
  let v544 : BitVec 32 := Scalar.muli v543 c256_i32_379
  let c0_i32_1247 : BitVec 32 := 0#32
  ![v544.toNat, 0]
def k0_dev42 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_377 : BitVec 32 := 4#32
  let v542 : BitVec 32 := Scalar.muli v527 c4_i32_377
  let c2_i32_378 : BitVec 32 := 2#32
  let v543 : BitVec 32 := Scalar.addi v542 c2_i32_378
  let c1_i32_1244 : BitVec 32 := 1#32
  let v1590 : BitVec 32 := Scalar.muli v543 c1_i32_1244
  let v1591 : BitVec 32 := Scalar.addi c0_i32_1245 v1590
  v1591.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_383 : BitVec 32 := 4#32
  let v549 : BitVec 32 := Scalar.muli v527 c4_i32_383
  let c3_i32_384 : BitVec 32 := 3#32
  let v550 : BitVec 32 := Scalar.addi v549 c3_i32_384
  let v553 : BitVec 1 := Scalar.cmpi .ne v550 v2
  let v554 : BitVec 32 := Scalar.extui v553
  let c0_i32_388 : BitVec 32 := 0#32
  let v555 : BitVec 1 := Scalar.cmpi .ne v554 c0_i32_388
  v555

def k0_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off38 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_386 : BitVec 32 := 256#32
  let v552 : BitVec 32 := Scalar.muli v2 c256_i32_386
  ![0, v552.toNat]
def k0_off39 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_383 : BitVec 32 := 4#32
  let v549 : BitVec 32 := Scalar.muli v527 c4_i32_383
  let c3_i32_384 : BitVec 32 := 3#32
  let v550 : BitVec 32 := Scalar.addi v549 c3_i32_384
  let c256_i32_385 : BitVec 32 := 256#32
  let v551 : BitVec 32 := Scalar.muli v550 c256_i32_385
  let c0_i32_1247 : BitVec 32 := 0#32
  ![v551.toNat, 0]
def k0_dev43 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_383 : BitVec 32 := 4#32
  let v549 : BitVec 32 := Scalar.muli v527 c4_i32_383
  let c3_i32_384 : BitVec 32 := 3#32
  let v550 : BitVec 32 := Scalar.addi v549 c3_i32_384
  let c1_i32_1244 : BitVec 32 := 1#32
  let v1590 : BitVec 32 := Scalar.muli v550 c1_i32_1244
  let v1591 : BitVec 32 := Scalar.addi c0_i32_1245 v1590
  v1591.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_397 : BitVec 32 := 4#32
  let v568 : BitVec 32 := Scalar.muli v567 c4_i32_397
  let c0_i32_398 : BitVec 32 := 0#32
  let v569 : BitVec 32 := Scalar.addi v568 c0_i32_398
  let v572 : BitVec 1 := Scalar.cmpi .ne v569 v2
  let v573 : BitVec 32 := Scalar.extui v572
  let c0_i32_402 : BitVec 32 := 0#32
  let v574 : BitVec 1 := Scalar.cmpi .ne v573 c0_i32_402
  v574

def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off41 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_400 : BitVec 32 := 256#32
  let v571 : BitVec 32 := Scalar.muli v2 c256_i32_400
  ![0, v571.toNat]
def k0_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_397 : BitVec 32 := 4#32
  let v568 : BitVec 32 := Scalar.muli v567 c4_i32_397
  let c0_i32_398 : BitVec 32 := 0#32
  let v569 : BitVec 32 := Scalar.addi v568 c0_i32_398
  let c256_i32_399 : BitVec 32 := 256#32
  let v570 : BitVec 32 := Scalar.muli v569 c256_i32_399
  let c0_i32_1247 : BitVec 32 := 0#32
  ![v570.toNat, 0]
def k0_dev44 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_397 : BitVec 32 := 4#32
  let v568 : BitVec 32 := Scalar.muli v567 c4_i32_397
  let c0_i32_398 : BitVec 32 := 0#32
  let v569 : BitVec 32 := Scalar.addi v568 c0_i32_398
  let c1_i32_1244 : BitVec 32 := 1#32
  let v1590 : BitVec 32 := Scalar.muli v569 c1_i32_1244
  let v1591 : BitVec 32 := Scalar.addi c0_i32_1245 v1590
  v1591.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_403 : BitVec 32 := 4#32
  let v575 : BitVec 32 := Scalar.muli v567 c4_i32_403
  let c1_i32_404 : BitVec 32 := 1#32
  let v576 : BitVec 32 := Scalar.addi v575 c1_i32_404
  let v579 : BitVec 1 := Scalar.cmpi .ne v576 v2
  let v580 : BitVec 32 := Scalar.extui v579
  let c0_i32_408 : BitVec 32 := 0#32
  let v581 : BitVec 1 := Scalar.cmpi .ne v580 c0_i32_408
  v581

def k0_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off44 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_406 : BitVec 32 := 256#32
  let v578 : BitVec 32 := Scalar.muli v2 c256_i32_406
  ![0, v578.toNat]
def k0_off45 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_403 : BitVec 32 := 4#32
  let v575 : BitVec 32 := Scalar.muli v567 c4_i32_403
  let c1_i32_404 : BitVec 32 := 1#32
  let v576 : BitVec 32 := Scalar.addi v575 c1_i32_404
  let c256_i32_405 : BitVec 32 := 256#32
  let v577 : BitVec 32 := Scalar.muli v576 c256_i32_405
  let c0_i32_1247 : BitVec 32 := 0#32
  ![v577.toNat, 0]
def k0_dev45 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_403 : BitVec 32 := 4#32
  let v575 : BitVec 32 := Scalar.muli v567 c4_i32_403
  let c1_i32_404 : BitVec 32 := 1#32
  let v576 : BitVec 32 := Scalar.addi v575 c1_i32_404
  let c1_i32_1244 : BitVec 32 := 1#32
  let v1590 : BitVec 32 := Scalar.muli v576 c1_i32_1244
  let v1591 : BitVec 32 := Scalar.addi c0_i32_1245 v1590
  v1591.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_409 : BitVec 32 := 4#32
  let v582 : BitVec 32 := Scalar.muli v567 c4_i32_409
  let c2_i32_410 : BitVec 32 := 2#32
  let v583 : BitVec 32 := Scalar.addi v582 c2_i32_410
  let v586 : BitVec 1 := Scalar.cmpi .ne v583 v2
  let v587 : BitVec 32 := Scalar.extui v586
  let c0_i32_414 : BitVec 32 := 0#32
  let v588 : BitVec 1 := Scalar.cmpi .ne v587 c0_i32_414
  v588

def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off47 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_412 : BitVec 32 := 256#32
  let v585 : BitVec 32 := Scalar.muli v2 c256_i32_412
  ![0, v585.toNat]
def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_409 : BitVec 32 := 4#32
  let v582 : BitVec 32 := Scalar.muli v567 c4_i32_409
  let c2_i32_410 : BitVec 32 := 2#32
  let v583 : BitVec 32 := Scalar.addi v582 c2_i32_410
  let c256_i32_411 : BitVec 32 := 256#32
  let v584 : BitVec 32 := Scalar.muli v583 c256_i32_411
  let c0_i32_1247 : BitVec 32 := 0#32
  ![v584.toNat, 0]
def k0_dev46 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_409 : BitVec 32 := 4#32
  let v582 : BitVec 32 := Scalar.muli v567 c4_i32_409
  let c2_i32_410 : BitVec 32 := 2#32
  let v583 : BitVec 32 := Scalar.addi v582 c2_i32_410
  let c1_i32_1244 : BitVec 32 := 1#32
  let v1590 : BitVec 32 := Scalar.muli v583 c1_i32_1244
  let v1591 : BitVec 32 := Scalar.addi c0_i32_1245 v1590
  v1591.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_415 : BitVec 32 := 4#32
  let v589 : BitVec 32 := Scalar.muli v567 c4_i32_415
  let c3_i32_416 : BitVec 32 := 3#32
  let v590 : BitVec 32 := Scalar.addi v589 c3_i32_416
  let v593 : BitVec 1 := Scalar.cmpi .ne v590 v2
  let v594 : BitVec 32 := Scalar.extui v593
  let c0_i32_420 : BitVec 32 := 0#32
  let v595 : BitVec 1 := Scalar.cmpi .ne v594 c0_i32_420
  v595

def k0_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off50 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_418 : BitVec 32 := 256#32
  let v592 : BitVec 32 := Scalar.muli v2 c256_i32_418
  ![0, v592.toNat]
def k0_off51 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_415 : BitVec 32 := 4#32
  let v589 : BitVec 32 := Scalar.muli v567 c4_i32_415
  let c3_i32_416 : BitVec 32 := 3#32
  let v590 : BitVec 32 := Scalar.addi v589 c3_i32_416
  let c256_i32_417 : BitVec 32 := 256#32
  let v591 : BitVec 32 := Scalar.muli v590 c256_i32_417
  let c0_i32_1247 : BitVec 32 := 0#32
  ![v591.toNat, 0]
def k0_dev47 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_415 : BitVec 32 := 4#32
  let v589 : BitVec 32 := Scalar.muli v567 c4_i32_415
  let c3_i32_416 : BitVec 32 := 3#32
  let v590 : BitVec 32 := Scalar.addi v589 c3_i32_416
  let c1_i32_1244 : BitVec 32 := 1#32
  let v1590 : BitVec 32 := Scalar.muli v590 c1_i32_1244
  let v1591 : BitVec 32 := Scalar.addi c0_i32_1245 v1590
  v1591.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_429 : BitVec 32 := 4#32
  let v608 : BitVec 32 := Scalar.muli v607 c4_i32_429
  let c0_i32_430 : BitVec 32 := 0#32
  let v609 : BitVec 32 := Scalar.addi v608 c0_i32_430
  let v612 : BitVec 1 := Scalar.cmpi .ne v609 v2
  let v613 : BitVec 32 := Scalar.extui v612
  let c0_i32_434 : BitVec 32 := 0#32
  let v614 : BitVec 1 := Scalar.cmpi .ne v613 c0_i32_434
  v614

def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off53 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_432 : BitVec 32 := 256#32
  let v611 : BitVec 32 := Scalar.muli v2 c256_i32_432
  ![0, v611.toNat]
def k0_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_429 : BitVec 32 := 4#32
  let v608 : BitVec 32 := Scalar.muli v607 c4_i32_429
  let c0_i32_430 : BitVec 32 := 0#32
  let v609 : BitVec 32 := Scalar.addi v608 c0_i32_430
  let c256_i32_431 : BitVec 32 := 256#32
  let v610 : BitVec 32 := Scalar.muli v609 c256_i32_431
  let c0_i32_1247 : BitVec 32 := 0#32
  ![v610.toNat, 0]
def k0_dev48 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_429 : BitVec 32 := 4#32
  let v608 : BitVec 32 := Scalar.muli v607 c4_i32_429
  let c0_i32_430 : BitVec 32 := 0#32
  let v609 : BitVec 32 := Scalar.addi v608 c0_i32_430
  let c1_i32_1244 : BitVec 32 := 1#32
  let v1590 : BitVec 32 := Scalar.muli v609 c1_i32_1244
  let v1591 : BitVec 32 := Scalar.addi c0_i32_1245 v1590
  v1591.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_435 : BitVec 32 := 4#32
  let v615 : BitVec 32 := Scalar.muli v607 c4_i32_435
  let c1_i32_436 : BitVec 32 := 1#32
  let v616 : BitVec 32 := Scalar.addi v615 c1_i32_436
  let v619 : BitVec 1 := Scalar.cmpi .ne v616 v2
  let v620 : BitVec 32 := Scalar.extui v619
  let c0_i32_440 : BitVec 32 := 0#32
  let v621 : BitVec 1 := Scalar.cmpi .ne v620 c0_i32_440
  v621

def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_438 : BitVec 32 := 256#32
  let v618 : BitVec 32 := Scalar.muli v2 c256_i32_438
  ![0, v618.toNat]
def k0_off57 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_435 : BitVec 32 := 4#32
  let v615 : BitVec 32 := Scalar.muli v607 c4_i32_435
  let c1_i32_436 : BitVec 32 := 1#32
  let v616 : BitVec 32 := Scalar.addi v615 c1_i32_436
  let c256_i32_437 : BitVec 32 := 256#32
  let v617 : BitVec 32 := Scalar.muli v616 c256_i32_437
  let c0_i32_1247 : BitVec 32 := 0#32
  ![v617.toNat, 0]
def k0_dev49 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_435 : BitVec 32 := 4#32
  let v615 : BitVec 32 := Scalar.muli v607 c4_i32_435
  let c1_i32_436 : BitVec 32 := 1#32
  let v616 : BitVec 32 := Scalar.addi v615 c1_i32_436
  let c1_i32_1244 : BitVec 32 := 1#32
  let v1590 : BitVec 32 := Scalar.muli v616 c1_i32_1244
  let v1591 : BitVec 32 := Scalar.addi c0_i32_1245 v1590
  v1591.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_441 : BitVec 32 := 4#32
  let v622 : BitVec 32 := Scalar.muli v607 c4_i32_441
  let c2_i32_442 : BitVec 32 := 2#32
  let v623 : BitVec 32 := Scalar.addi v622 c2_i32_442
  let v626 : BitVec 1 := Scalar.cmpi .ne v623 v2
  let v627 : BitVec 32 := Scalar.extui v626
  let c0_i32_446 : BitVec 32 := 0#32
  let v628 : BitVec 1 := Scalar.cmpi .ne v627 c0_i32_446
  v628

def k0_off58 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off59 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_444 : BitVec 32 := 256#32
  let v625 : BitVec 32 := Scalar.muli v2 c256_i32_444
  ![0, v625.toNat]
def k0_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_441 : BitVec 32 := 4#32
  let v622 : BitVec 32 := Scalar.muli v607 c4_i32_441
  let c2_i32_442 : BitVec 32 := 2#32
  let v623 : BitVec 32 := Scalar.addi v622 c2_i32_442
  let c256_i32_443 : BitVec 32 := 256#32
  let v624 : BitVec 32 := Scalar.muli v623 c256_i32_443
  let c0_i32_1247 : BitVec 32 := 0#32
  ![v624.toNat, 0]
def k0_dev50 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_441 : BitVec 32 := 4#32
  let v622 : BitVec 32 := Scalar.muli v607 c4_i32_441
  let c2_i32_442 : BitVec 32 := 2#32
  let v623 : BitVec 32 := Scalar.addi v622 c2_i32_442
  let c1_i32_1244 : BitVec 32 := 1#32
  let v1590 : BitVec 32 := Scalar.muli v623 c1_i32_1244
  let v1591 : BitVec 32 := Scalar.addi c0_i32_1245 v1590
  v1591.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_447 : BitVec 32 := 4#32
  let v629 : BitVec 32 := Scalar.muli v607 c4_i32_447
  let c3_i32_448 : BitVec 32 := 3#32
  let v630 : BitVec 32 := Scalar.addi v629 c3_i32_448
  let v633 : BitVec 1 := Scalar.cmpi .ne v630 v2
  let v634 : BitVec 32 := Scalar.extui v633
  let c0_i32_452 : BitVec 32 := 0#32
  let v635 : BitVec 1 := Scalar.cmpi .ne v634 c0_i32_452
  v635

def k0_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off62 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_450 : BitVec 32 := 256#32
  let v632 : BitVec 32 := Scalar.muli v2 c256_i32_450
  ![0, v632.toNat]
def k0_off63 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_447 : BitVec 32 := 4#32
  let v629 : BitVec 32 := Scalar.muli v607 c4_i32_447
  let c3_i32_448 : BitVec 32 := 3#32
  let v630 : BitVec 32 := Scalar.addi v629 c3_i32_448
  let c256_i32_449 : BitVec 32 := 256#32
  let v631 : BitVec 32 := Scalar.muli v630 c256_i32_449
  let c0_i32_1247 : BitVec 32 := 0#32
  ![v631.toNat, 0]
def k0_dev51 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_447 : BitVec 32 := 4#32
  let v629 : BitVec 32 := Scalar.muli v607 c4_i32_447
  let c3_i32_448 : BitVec 32 := 3#32
  let v630 : BitVec 32 := Scalar.addi v629 c3_i32_448
  let c1_i32_1244 : BitVec 32 := 1#32
  let v1590 : BitVec 32 := Scalar.muli v630 c1_i32_1244
  let v1591 : BitVec 32 := Scalar.addi c0_i32_1245 v1590
  v1591.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_461 : BitVec 32 := 4#32
  let v648 : BitVec 32 := Scalar.muli v647 c4_i32_461
  let c0_i32_462 : BitVec 32 := 0#32
  let v649 : BitVec 32 := Scalar.addi v648 c0_i32_462
  let v652 : BitVec 1 := Scalar.cmpi .ne v649 v2
  let v653 : BitVec 32 := Scalar.extui v652
  let c0_i32_466 : BitVec 32 := 0#32
  let v654 : BitVec 1 := Scalar.cmpi .ne v653 c0_i32_466
  v654

def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off65 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_464 : BitVec 32 := 256#32
  let v651 : BitVec 32 := Scalar.muli v2 c256_i32_464
  ![0, v651.toNat]
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_461 : BitVec 32 := 4#32
  let v648 : BitVec 32 := Scalar.muli v647 c4_i32_461
  let c0_i32_462 : BitVec 32 := 0#32
  let v649 : BitVec 32 := Scalar.addi v648 c0_i32_462
  let c256_i32_463 : BitVec 32 := 256#32
  let v650 : BitVec 32 := Scalar.muli v649 c256_i32_463
  let c0_i32_1247 : BitVec 32 := 0#32
  ![v650.toNat, 0]
def k0_dev52 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_461 : BitVec 32 := 4#32
  let v648 : BitVec 32 := Scalar.muli v647 c4_i32_461
  let c0_i32_462 : BitVec 32 := 0#32
  let v649 : BitVec 32 := Scalar.addi v648 c0_i32_462
  let c1_i32_1244 : BitVec 32 := 1#32
  let v1590 : BitVec 32 := Scalar.muli v649 c1_i32_1244
  let v1591 : BitVec 32 := Scalar.addi c0_i32_1245 v1590
  v1591.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_467 : BitVec 32 := 4#32
  let v655 : BitVec 32 := Scalar.muli v647 c4_i32_467
  let c1_i32_468 : BitVec 32 := 1#32
  let v656 : BitVec 32 := Scalar.addi v655 c1_i32_468
  let v659 : BitVec 1 := Scalar.cmpi .ne v656 v2
  let v660 : BitVec 32 := Scalar.extui v659
  let c0_i32_472 : BitVec 32 := 0#32
  let v661 : BitVec 1 := Scalar.cmpi .ne v660 c0_i32_472
  v661

def k0_off67 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off68 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_470 : BitVec 32 := 256#32
  let v658 : BitVec 32 := Scalar.muli v2 c256_i32_470
  ![0, v658.toNat]
def k0_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_467 : BitVec 32 := 4#32
  let v655 : BitVec 32 := Scalar.muli v647 c4_i32_467
  let c1_i32_468 : BitVec 32 := 1#32
  let v656 : BitVec 32 := Scalar.addi v655 c1_i32_468
  let c256_i32_469 : BitVec 32 := 256#32
  let v657 : BitVec 32 := Scalar.muli v656 c256_i32_469
  let c0_i32_1247 : BitVec 32 := 0#32
  ![v657.toNat, 0]
def k0_dev53 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_467 : BitVec 32 := 4#32
  let v655 : BitVec 32 := Scalar.muli v647 c4_i32_467
  let c1_i32_468 : BitVec 32 := 1#32
  let v656 : BitVec 32 := Scalar.addi v655 c1_i32_468
  let c1_i32_1244 : BitVec 32 := 1#32
  let v1590 : BitVec 32 := Scalar.muli v656 c1_i32_1244
  let v1591 : BitVec 32 := Scalar.addi c0_i32_1245 v1590
  v1591.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_473 : BitVec 32 := 4#32
  let v662 : BitVec 32 := Scalar.muli v647 c4_i32_473
  let c2_i32_474 : BitVec 32 := 2#32
  let v663 : BitVec 32 := Scalar.addi v662 c2_i32_474
  let v666 : BitVec 1 := Scalar.cmpi .ne v663 v2
  let v667 : BitVec 32 := Scalar.extui v666
  let c0_i32_478 : BitVec 32 := 0#32
  let v668 : BitVec 1 := Scalar.cmpi .ne v667 c0_i32_478
  v668

def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off71 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_476 : BitVec 32 := 256#32
  let v665 : BitVec 32 := Scalar.muli v2 c256_i32_476
  ![0, v665.toNat]
def k0_off72 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_473 : BitVec 32 := 4#32
  let v662 : BitVec 32 := Scalar.muli v647 c4_i32_473
  let c2_i32_474 : BitVec 32 := 2#32
  let v663 : BitVec 32 := Scalar.addi v662 c2_i32_474
  let c256_i32_475 : BitVec 32 := 256#32
  let v664 : BitVec 32 := Scalar.muli v663 c256_i32_475
  let c0_i32_1247 : BitVec 32 := 0#32
  ![v664.toNat, 0]
def k0_dev54 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_473 : BitVec 32 := 4#32
  let v662 : BitVec 32 := Scalar.muli v647 c4_i32_473
  let c2_i32_474 : BitVec 32 := 2#32
  let v663 : BitVec 32 := Scalar.addi v662 c2_i32_474
  let c1_i32_1244 : BitVec 32 := 1#32
  let v1590 : BitVec 32 := Scalar.muli v663 c1_i32_1244
  let v1591 : BitVec 32 := Scalar.addi c0_i32_1245 v1590
  v1591.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_479 : BitVec 32 := 4#32
  let v669 : BitVec 32 := Scalar.muli v647 c4_i32_479
  let c3_i32_480 : BitVec 32 := 3#32
  let v670 : BitVec 32 := Scalar.addi v669 c3_i32_480
  let v673 : BitVec 1 := Scalar.cmpi .ne v670 v2
  let v674 : BitVec 32 := Scalar.extui v673
  let c0_i32_484 : BitVec 32 := 0#32
  let v675 : BitVec 1 := Scalar.cmpi .ne v674 c0_i32_484
  v675

def k0_off73 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off74 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_482 : BitVec 32 := 256#32
  let v672 : BitVec 32 := Scalar.muli v2 c256_i32_482
  ![0, v672.toNat]
def k0_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_479 : BitVec 32 := 4#32
  let v669 : BitVec 32 := Scalar.muli v647 c4_i32_479
  let c3_i32_480 : BitVec 32 := 3#32
  let v670 : BitVec 32 := Scalar.addi v669 c3_i32_480
  let c256_i32_481 : BitVec 32 := 256#32
  let v671 : BitVec 32 := Scalar.muli v670 c256_i32_481
  let c0_i32_1247 : BitVec 32 := 0#32
  ![v671.toNat, 0]
def k0_dev55 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_479 : BitVec 32 := 4#32
  let v669 : BitVec 32 := Scalar.muli v647 c4_i32_479
  let c3_i32_480 : BitVec 32 := 3#32
  let v670 : BitVec 32 := Scalar.addi v669 c3_i32_480
  let c1_i32_1244 : BitVec 32 := 1#32
  let v1590 : BitVec 32 := Scalar.muli v670 c1_i32_1244
  let v1591 : BitVec 32 := Scalar.addi c0_i32_1245 v1590
  v1591.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_493 : BitVec 32 := 4#32
  let v688 : BitVec 32 := Scalar.muli v687 c4_i32_493
  let c0_i32_494 : BitVec 32 := 0#32
  let v689 : BitVec 32 := Scalar.addi v688 c0_i32_494
  let v692 : BitVec 1 := Scalar.cmpi .ne v689 v2
  let v693 : BitVec 32 := Scalar.extui v692
  let c0_i32_498 : BitVec 32 := 0#32
  let v694 : BitVec 1 := Scalar.cmpi .ne v693 c0_i32_498
  v694

def k0_off76 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off77 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_496 : BitVec 32 := 256#32
  let v691 : BitVec 32 := Scalar.muli v2 c256_i32_496
  ![0, v691.toNat]
def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_493 : BitVec 32 := 4#32
  let v688 : BitVec 32 := Scalar.muli v687 c4_i32_493
  let c0_i32_494 : BitVec 32 := 0#32
  let v689 : BitVec 32 := Scalar.addi v688 c0_i32_494
  let c256_i32_495 : BitVec 32 := 256#32
  let v690 : BitVec 32 := Scalar.muli v689 c256_i32_495
  let c0_i32_1247 : BitVec 32 := 0#32
  ![v690.toNat, 0]
def k0_dev56 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_493 : BitVec 32 := 4#32
  let v688 : BitVec 32 := Scalar.muli v687 c4_i32_493
  let c0_i32_494 : BitVec 32 := 0#32
  let v689 : BitVec 32 := Scalar.addi v688 c0_i32_494
  let c1_i32_1244 : BitVec 32 := 1#32
  let v1590 : BitVec 32 := Scalar.muli v689 c1_i32_1244
  let v1591 : BitVec 32 := Scalar.addi c0_i32_1245 v1590
  v1591.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_499 : BitVec 32 := 4#32
  let v695 : BitVec 32 := Scalar.muli v687 c4_i32_499
  let c1_i32_500 : BitVec 32 := 1#32
  let v696 : BitVec 32 := Scalar.addi v695 c1_i32_500
  let v699 : BitVec 1 := Scalar.cmpi .ne v696 v2
  let v700 : BitVec 32 := Scalar.extui v699
  let c0_i32_504 : BitVec 32 := 0#32
  let v701 : BitVec 1 := Scalar.cmpi .ne v700 c0_i32_504
  v701

def k0_off79 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off80 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_502 : BitVec 32 := 256#32
  let v698 : BitVec 32 := Scalar.muli v2 c256_i32_502
  ![0, v698.toNat]
def k0_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_499 : BitVec 32 := 4#32
  let v695 : BitVec 32 := Scalar.muli v687 c4_i32_499
  let c1_i32_500 : BitVec 32 := 1#32
  let v696 : BitVec 32 := Scalar.addi v695 c1_i32_500
  let c256_i32_501 : BitVec 32 := 256#32
  let v697 : BitVec 32 := Scalar.muli v696 c256_i32_501
  let c0_i32_1247 : BitVec 32 := 0#32
  ![v697.toNat, 0]
def k0_dev57 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_499 : BitVec 32 := 4#32
  let v695 : BitVec 32 := Scalar.muli v687 c4_i32_499
  let c1_i32_500 : BitVec 32 := 1#32
  let v696 : BitVec 32 := Scalar.addi v695 c1_i32_500
  let c1_i32_1244 : BitVec 32 := 1#32
  let v1590 : BitVec 32 := Scalar.muli v696 c1_i32_1244
  let v1591 : BitVec 32 := Scalar.addi c0_i32_1245 v1590
  v1591.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_505 : BitVec 32 := 4#32
  let v702 : BitVec 32 := Scalar.muli v687 c4_i32_505
  let c2_i32_506 : BitVec 32 := 2#32
  let v703 : BitVec 32 := Scalar.addi v702 c2_i32_506
  let v706 : BitVec 1 := Scalar.cmpi .ne v703 v2
  let v707 : BitVec 32 := Scalar.extui v706
  let c0_i32_510 : BitVec 32 := 0#32
  let v708 : BitVec 1 := Scalar.cmpi .ne v707 c0_i32_510
  v708

def k0_off82 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off83 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_508 : BitVec 32 := 256#32
  let v705 : BitVec 32 := Scalar.muli v2 c256_i32_508
  ![0, v705.toNat]
def k0_off84 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_505 : BitVec 32 := 4#32
  let v702 : BitVec 32 := Scalar.muli v687 c4_i32_505
  let c2_i32_506 : BitVec 32 := 2#32
  let v703 : BitVec 32 := Scalar.addi v702 c2_i32_506
  let c256_i32_507 : BitVec 32 := 256#32
  let v704 : BitVec 32 := Scalar.muli v703 c256_i32_507
  let c0_i32_1247 : BitVec 32 := 0#32
  ![v704.toNat, 0]
def k0_dev58 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_505 : BitVec 32 := 4#32
  let v702 : BitVec 32 := Scalar.muli v687 c4_i32_505
  let c2_i32_506 : BitVec 32 := 2#32
  let v703 : BitVec 32 := Scalar.addi v702 c2_i32_506
  let c1_i32_1244 : BitVec 32 := 1#32
  let v1590 : BitVec 32 := Scalar.muli v703 c1_i32_1244
  let v1591 : BitVec 32 := Scalar.addi c0_i32_1245 v1590
  v1591.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_511 : BitVec 32 := 4#32
  let v709 : BitVec 32 := Scalar.muli v687 c4_i32_511
  let c3_i32_512 : BitVec 32 := 3#32
  let v710 : BitVec 32 := Scalar.addi v709 c3_i32_512
  let v713 : BitVec 1 := Scalar.cmpi .ne v710 v2
  let v714 : BitVec 32 := Scalar.extui v713
  let c0_i32_516 : BitVec 32 := 0#32
  let v715 : BitVec 1 := Scalar.cmpi .ne v714 c0_i32_516
  v715

def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_514 : BitVec 32 := 256#32
  let v712 : BitVec 32 := Scalar.muli v2 c256_i32_514
  ![0, v712.toNat]
def k0_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_511 : BitVec 32 := 4#32
  let v709 : BitVec 32 := Scalar.muli v687 c4_i32_511
  let c3_i32_512 : BitVec 32 := 3#32
  let v710 : BitVec 32 := Scalar.addi v709 c3_i32_512
  let c256_i32_513 : BitVec 32 := 256#32
  let v711 : BitVec 32 := Scalar.muli v710 c256_i32_513
  let c0_i32_1247 : BitVec 32 := 0#32
  ![v711.toNat, 0]
def k0_dev59 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_511 : BitVec 32 := 4#32
  let v709 : BitVec 32 := Scalar.muli v687 c4_i32_511
  let c3_i32_512 : BitVec 32 := 3#32
  let v710 : BitVec 32 := Scalar.addi v709 c3_i32_512
  let c1_i32_1244 : BitVec 32 := 1#32
  let v1590 : BitVec 32 := Scalar.muli v710 c1_i32_1244
  let v1591 : BitVec 32 := Scalar.addi c0_i32_1245 v1590
  v1591.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_525 : BitVec 32 := 4#32
  let v728 : BitVec 32 := Scalar.muli v727 c4_i32_525
  let c0_i32_526 : BitVec 32 := 0#32
  let v729 : BitVec 32 := Scalar.addi v728 c0_i32_526
  let v732 : BitVec 1 := Scalar.cmpi .ne v729 v2
  let v733 : BitVec 32 := Scalar.extui v732
  let c0_i32_530 : BitVec 32 := 0#32
  let v734 : BitVec 1 := Scalar.cmpi .ne v733 c0_i32_530
  v734

def k0_off88 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off89 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_528 : BitVec 32 := 256#32
  let v731 : BitVec 32 := Scalar.muli v2 c256_i32_528
  ![0, v731.toNat]
def k0_off90 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_525 : BitVec 32 := 4#32
  let v728 : BitVec 32 := Scalar.muli v727 c4_i32_525
  let c0_i32_526 : BitVec 32 := 0#32
  let v729 : BitVec 32 := Scalar.addi v728 c0_i32_526
  let c256_i32_527 : BitVec 32 := 256#32
  let v730 : BitVec 32 := Scalar.muli v729 c256_i32_527
  let c0_i32_1247 : BitVec 32 := 0#32
  ![v730.toNat, 0]
def k0_dev60 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_525 : BitVec 32 := 4#32
  let v728 : BitVec 32 := Scalar.muli v727 c4_i32_525
  let c0_i32_526 : BitVec 32 := 0#32
  let v729 : BitVec 32 := Scalar.addi v728 c0_i32_526
  let c1_i32_1244 : BitVec 32 := 1#32
  let v1590 : BitVec 32 := Scalar.muli v729 c1_i32_1244
  let v1591 : BitVec 32 := Scalar.addi c0_i32_1245 v1590
  v1591.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_531 : BitVec 32 := 4#32
  let v735 : BitVec 32 := Scalar.muli v727 c4_i32_531
  let c1_i32_532 : BitVec 32 := 1#32
  let v736 : BitVec 32 := Scalar.addi v735 c1_i32_532
  let v739 : BitVec 1 := Scalar.cmpi .ne v736 v2
  let v740 : BitVec 32 := Scalar.extui v739
  let c0_i32_536 : BitVec 32 := 0#32
  let v741 : BitVec 1 := Scalar.cmpi .ne v740 c0_i32_536
  v741

def k0_off91 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off92 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_534 : BitVec 32 := 256#32
  let v738 : BitVec 32 := Scalar.muli v2 c256_i32_534
  ![0, v738.toNat]
def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_531 : BitVec 32 := 4#32
  let v735 : BitVec 32 := Scalar.muli v727 c4_i32_531
  let c1_i32_532 : BitVec 32 := 1#32
  let v736 : BitVec 32 := Scalar.addi v735 c1_i32_532
  let c256_i32_533 : BitVec 32 := 256#32
  let v737 : BitVec 32 := Scalar.muli v736 c256_i32_533
  let c0_i32_1247 : BitVec 32 := 0#32
  ![v737.toNat, 0]
def k0_dev61 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_531 : BitVec 32 := 4#32
  let v735 : BitVec 32 := Scalar.muli v727 c4_i32_531
  let c1_i32_532 : BitVec 32 := 1#32
  let v736 : BitVec 32 := Scalar.addi v735 c1_i32_532
  let c1_i32_1244 : BitVec 32 := 1#32
  let v1590 : BitVec 32 := Scalar.muli v736 c1_i32_1244
  let v1591 : BitVec 32 := Scalar.addi c0_i32_1245 v1590
  v1591.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_537 : BitVec 32 := 4#32
  let v742 : BitVec 32 := Scalar.muli v727 c4_i32_537
  let c2_i32_538 : BitVec 32 := 2#32
  let v743 : BitVec 32 := Scalar.addi v742 c2_i32_538
  let v746 : BitVec 1 := Scalar.cmpi .ne v743 v2
  let v747 : BitVec 32 := Scalar.extui v746
  let c0_i32_542 : BitVec 32 := 0#32
  let v748 : BitVec 1 := Scalar.cmpi .ne v747 c0_i32_542
  v748

def k0_off94 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off95 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_540 : BitVec 32 := 256#32
  let v745 : BitVec 32 := Scalar.muli v2 c256_i32_540
  ![0, v745.toNat]
def k0_off96 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_537 : BitVec 32 := 4#32
  let v742 : BitVec 32 := Scalar.muli v727 c4_i32_537
  let c2_i32_538 : BitVec 32 := 2#32
  let v743 : BitVec 32 := Scalar.addi v742 c2_i32_538
  let c256_i32_539 : BitVec 32 := 256#32
  let v744 : BitVec 32 := Scalar.muli v743 c256_i32_539
  let c0_i32_1247 : BitVec 32 := 0#32
  ![v744.toNat, 0]
def k0_dev62 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_537 : BitVec 32 := 4#32
  let v742 : BitVec 32 := Scalar.muli v727 c4_i32_537
  let c2_i32_538 : BitVec 32 := 2#32
  let v743 : BitVec 32 := Scalar.addi v742 c2_i32_538
  let c1_i32_1244 : BitVec 32 := 1#32
  let v1590 : BitVec 32 := Scalar.muli v743 c1_i32_1244
  let v1591 : BitVec 32 := Scalar.addi c0_i32_1245 v1590
  v1591.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_543 : BitVec 32 := 4#32
  let v749 : BitVec 32 := Scalar.muli v727 c4_i32_543
  let c3_i32_544 : BitVec 32 := 3#32
  let v750 : BitVec 32 := Scalar.addi v749 c3_i32_544
  let v753 : BitVec 1 := Scalar.cmpi .ne v750 v2
  let v754 : BitVec 32 := Scalar.extui v753
  let c0_i32_548 : BitVec 32 := 0#32
  let v755 : BitVec 1 := Scalar.cmpi .ne v754 c0_i32_548
  v755

def k0_off97 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off98 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_546 : BitVec 32 := 256#32
  let v752 : BitVec 32 := Scalar.muli v2 c256_i32_546
  ![0, v752.toNat]
def k0_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_543 : BitVec 32 := 4#32
  let v749 : BitVec 32 := Scalar.muli v727 c4_i32_543
  let c3_i32_544 : BitVec 32 := 3#32
  let v750 : BitVec 32 := Scalar.addi v749 c3_i32_544
  let c256_i32_545 : BitVec 32 := 256#32
  let v751 : BitVec 32 := Scalar.muli v750 c256_i32_545
  let c0_i32_1247 : BitVec 32 := 0#32
  ![v751.toNat, 0]
def k0_dev63 (d0 : Dev nD) : Nat :=
  let c0_i32_1245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_543 : BitVec 32 := 4#32
  let v749 : BitVec 32 := Scalar.muli v727 c4_i32_543
  let c3_i32_544 : BitVec 32 := 3#32
  let v750 : BitVec 32 := Scalar.addi v749 c3_i32_544
  let c1_i32_1244 : BitVec 32 := 1#32
  let v1590 : BitVec 32 := Scalar.muli v750 c1_i32_1244
  let v1591 : BitVec 32 := Scalar.addi c0_i32_1245 v1590
  v1591.toNat
def k0_off100 (d0 : Dev nD) (c0_i32_549 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v756 : BitVec 32 := Scalar.addi v19 c0_i32_549
  let c8_i32_550 : BitVec 32 := 8#32
  let c0_i32_551 : BitVec 32 := 0#32
  let v757 : BitVec 1 := Scalar.cmpi .eq c8_i32_550 c0_i32_551
  let c1_i32_552 : BitVec 32 := 1#32
  let v758 : BitVec 32 := Scalar.select v757 c1_i32_552 c8_i32_550
  let v759 : BitVec 32 := Scalar.remsi v756 v758
  let c0_i32_554 : BitVec 32 := 0#32
  let v761 : BitVec 1 := Scalar.cmpi .slt v759 c0_i32_554
  let c0_i32_555 : BitVec 32 := 0#32
  let v762 : BitVec 1 := Scalar.cmpi .slt v758 c0_i32_555
  let v763 : BitVec 1 := Scalar.xori v761 v762
  let c0_i32_553 : BitVec 32 := 0#32
  let v760 : BitVec 1 := Scalar.cmpi .ne v759 c0_i32_553
  let v764 : BitVec 1 := Scalar.andi v763 v760
  let v765 : BitVec 32 := Scalar.addi v759 v758
  let v766 : BitVec 32 := Scalar.select v764 v765 v759
  let c1024_i32 : BitVec 32 := 1024#32
  let v767 : BitVec 32 := Scalar.muli v766 c1024_i32
  let c0_i32_560 : BitVec 32 := 0#32
  ![v767.toNat, 0]
def k0_off101 (d0 : Dev nD) (c0_i32_561 : BitVec 32) (c0_i32_595 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v773 : BitVec 32 := Scalar.addi v19 c0_i32_561
  let c8_i32_562 : BitVec 32 := 8#32
  let c0_i32_563 : BitVec 32 := 0#32
  let v774 : BitVec 1 := Scalar.cmpi .eq c8_i32_562 c0_i32_563
  let c1_i32_564 : BitVec 32 := 1#32
  let v775 : BitVec 32 := Scalar.select v774 c1_i32_564 c8_i32_562
  let v776 : BitVec 32 := Scalar.remsi v773 v775
  let c0_i32_566 : BitVec 32 := 0#32
  let v778 : BitVec 1 := Scalar.cmpi .slt v776 c0_i32_566
  let c0_i32_567 : BitVec 32 := 0#32
  let v779 : BitVec 1 := Scalar.cmpi .slt v775 c0_i32_567
  let v780 : BitVec 1 := Scalar.xori v778 v779
  let c0_i32_565 : BitVec 32 := 0#32
  let v777 : BitVec 1 := Scalar.cmpi .ne v776 c0_i32_565
  let v781 : BitVec 1 := Scalar.andi v780 v777
  let v782 : BitVec 32 := Scalar.addi v776 v775
  let v783 : BitVec 32 := Scalar.select v781 v782 v776
  let c4_i32_594 : BitVec 32 := 4#32
  let v818 : BitVec 32 := Scalar.muli v783 c4_i32_594
  let v819 : BitVec 32 := Scalar.addi v818 c0_i32_595
  ![v819.toNat]
def k0_off102 (d0 : Dev nD) (c0_i32_561 : BitVec 32) (c0_i32_595 : BitVec 32) : Fin 2 → Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v773 : BitVec 32 := Scalar.addi v19 c0_i32_561
  let c8_i32_562 : BitVec 32 := 8#32
  let c0_i32_563 : BitVec 32 := 0#32
  let v774 : BitVec 1 := Scalar.cmpi .eq c8_i32_562 c0_i32_563
  let c1_i32_564 : BitVec 32 := 1#32
  let v775 : BitVec 32 := Scalar.select v774 c1_i32_564 c8_i32_562
  let v776 : BitVec 32 := Scalar.remsi v773 v775
  let c0_i32_566 : BitVec 32 := 0#32
  let v778 : BitVec 1 := Scalar.cmpi .slt v776 c0_i32_566
  let c0_i32_567 : BitVec 32 := 0#32
  let v779 : BitVec 1 := Scalar.cmpi .slt v775 c0_i32_567
  let v780 : BitVec 1 := Scalar.xori v778 v779
  let c0_i32_565 : BitVec 32 := 0#32
  let v777 : BitVec 1 := Scalar.cmpi .ne v776 c0_i32_565
  let v781 : BitVec 1 := Scalar.andi v780 v777
  let v782 : BitVec 32 := Scalar.addi v776 v775
  let v783 : BitVec 32 := Scalar.select v781 v782 v776
  let c4_i32_594 : BitVec 32 := 4#32
  let v818 : BitVec 32 := Scalar.muli v783 c4_i32_594
  let v819 : BitVec 32 := Scalar.addi v818 c0_i32_595
  let c256_i32_597 : BitVec 32 := 256#32
  let v821 : BitVec 32 := Scalar.muli v819 c256_i32_597
  ![0, v821.toNat]
def k0_off103 (d0 : Dev nD) (c0_i32_561 : BitVec 32) : Fin 2 → Nat :=
  let c0_631 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v773 : BitVec 32 := Scalar.addi v19 c0_i32_561
  let c8_i32_562 : BitVec 32 := 8#32
  let c0_i32_563 : BitVec 32 := 0#32
  let v774 : BitVec 1 := Scalar.cmpi .eq c8_i32_562 c0_i32_563
  let c1_i32_564 : BitVec 32 := 1#32
  let v775 : BitVec 32 := Scalar.select v774 c1_i32_564 c8_i32_562
  let v776 : BitVec 32 := Scalar.remsi v773 v775
  let c0_i32_566 : BitVec 32 := 0#32
  let v778 : BitVec 1 := Scalar.cmpi .slt v776 c0_i32_566
  let c0_i32_567 : BitVec 32 := 0#32
  let v779 : BitVec 1 := Scalar.cmpi .slt v775 c0_i32_567
  let v780 : BitVec 1 := Scalar.xori v778 v779
  let c0_i32_565 : BitVec 32 := 0#32
  let v777 : BitVec 1 := Scalar.cmpi .ne v776 c0_i32_565
  let v781 : BitVec 1 := Scalar.andi v780 v777
  let v782 : BitVec 32 := Scalar.addi v776 v775
  let v783 : BitVec 32 := Scalar.select v781 v782 v776
  let c1024_i32_630 : BitVec 32 := 1024#32
  let v858 : BitVec 32 := Scalar.muli v783 c1024_i32_630
  let v859 : Index := Scalar.indexCast v858
  ![0, v859.toNat]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_301 : BitVec 32 := 4#32
  let v448 : BitVec 32 := Scalar.muli v447 c4_i32_301
  let c0_i32_302 : BitVec 32 := 0#32
  let v449 : BitVec 32 := Scalar.addi v448 c0_i32_302
  let v452 : BitVec 1 := Scalar.cmpi .ne v449 v2
  let v1526 : BitVec 32 := Scalar.extui v452
  let c0_i32_1181 : BitVec 32 := 0#32
  let v1527 : BitVec 1 := Scalar.cmpi .ne v1526 c0_i32_1181
  v1527

def k0_off104 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_301 : BitVec 32 := 4#32
  let v448 : BitVec 32 := Scalar.muli v447 c4_i32_301
  let c0_i32_302 : BitVec 32 := 0#32
  let v449 : BitVec 32 := Scalar.addi v448 c0_i32_302
  let c256_i32_303 : BitVec 32 := 256#32
  let v450 : BitVec 32 := Scalar.muli v449 c256_i32_303
  let c0_i32_1245 : BitVec 32 := 0#32
  ![v450.toNat, 0]
def k0_off105 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_304 : BitVec 32 := 256#32
  let v451 : BitVec 32 := Scalar.muli v2 c256_i32_304
  ![0, v451.toNat]
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_307 : BitVec 32 := 4#32
  let v455 : BitVec 32 := Scalar.muli v447 c4_i32_307
  let c1_i32_308 : BitVec 32 := 1#32
  let v456 : BitVec 32 := Scalar.addi v455 c1_i32_308
  let v459 : BitVec 1 := Scalar.cmpi .ne v456 v2
  let v1528 : BitVec 32 := Scalar.extui v459
  let c0_i32_1183 : BitVec 32 := 0#32
  let v1529 : BitVec 1 := Scalar.cmpi .ne v1528 c0_i32_1183
  v1529

def k0_off106 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_307 : BitVec 32 := 4#32
  let v455 : BitVec 32 := Scalar.muli v447 c4_i32_307
  let c1_i32_308 : BitVec 32 := 1#32
  let v456 : BitVec 32 := Scalar.addi v455 c1_i32_308
  let c256_i32_309 : BitVec 32 := 256#32
  let v457 : BitVec 32 := Scalar.muli v456 c256_i32_309
  let c0_i32_1245 : BitVec 32 := 0#32
  ![v457.toNat, 0]
def k0_off107 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_310 : BitVec 32 := 256#32
  let v458 : BitVec 32 := Scalar.muli v2 c256_i32_310
  ![0, v458.toNat]
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_313 : BitVec 32 := 4#32
  let v462 : BitVec 32 := Scalar.muli v447 c4_i32_313
  let c2_i32_314 : BitVec 32 := 2#32
  let v463 : BitVec 32 := Scalar.addi v462 c2_i32_314
  let v466 : BitVec 1 := Scalar.cmpi .ne v463 v2
  let v1530 : BitVec 32 := Scalar.extui v466
  let c0_i32_1185 : BitVec 32 := 0#32
  let v1531 : BitVec 1 := Scalar.cmpi .ne v1530 c0_i32_1185
  v1531

def k0_off108 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_313 : BitVec 32 := 4#32
  let v462 : BitVec 32 := Scalar.muli v447 c4_i32_313
  let c2_i32_314 : BitVec 32 := 2#32
  let v463 : BitVec 32 := Scalar.addi v462 c2_i32_314
  let c256_i32_315 : BitVec 32 := 256#32
  let v464 : BitVec 32 := Scalar.muli v463 c256_i32_315
  let c0_i32_1245 : BitVec 32 := 0#32
  ![v464.toNat, 0]
def k0_off109 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_316 : BitVec 32 := 256#32
  let v465 : BitVec 32 := Scalar.muli v2 c256_i32_316
  ![0, v465.toNat]
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_319 : BitVec 32 := 4#32
  let v469 : BitVec 32 := Scalar.muli v447 c4_i32_319
  let c3_i32_320 : BitVec 32 := 3#32
  let v470 : BitVec 32 := Scalar.addi v469 c3_i32_320
  let v473 : BitVec 1 := Scalar.cmpi .ne v470 v2
  let v1532 : BitVec 32 := Scalar.extui v473
  let c0_i32_1187 : BitVec 32 := 0#32
  let v1533 : BitVec 1 := Scalar.cmpi .ne v1532 c0_i32_1187
  v1533

def k0_off110 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_293 : BitVec 32 := 8#32
  let v436 : BitVec 32 := Scalar.addi v19 c8_i32_293
  let c0_i32_294 : BitVec 32 := 0#32
  let v437 : BitVec 32 := Scalar.subi v436 c0_i32_294
  let c8_i32_295 : BitVec 32 := 8#32
  let c0_i32_296 : BitVec 32 := 0#32
  let v438 : BitVec 1 := Scalar.cmpi .eq c8_i32_295 c0_i32_296
  let c1_i32_297 : BitVec 32 := 1#32
  let v439 : BitVec 32 := Scalar.select v438 c1_i32_297 c8_i32_295
  let v440 : BitVec 32 := Scalar.remsi v437 v439
  let c0_i32_299 : BitVec 32 := 0#32
  let v442 : BitVec 1 := Scalar.cmpi .slt v440 c0_i32_299
  let c0_i32_300 : BitVec 32 := 0#32
  let v443 : BitVec 1 := Scalar.cmpi .slt v439 c0_i32_300
  let v444 : BitVec 1 := Scalar.xori v442 v443
  let c0_i32_298 : BitVec 32 := 0#32
  let v441 : BitVec 1 := Scalar.cmpi .ne v440 c0_i32_298
  let v445 : BitVec 1 := Scalar.andi v444 v441
  let v446 : BitVec 32 := Scalar.addi v440 v439
  let v447 : BitVec 32 := Scalar.select v445 v446 v440
  let c4_i32_319 : BitVec 32 := 4#32
  let v469 : BitVec 32 := Scalar.muli v447 c4_i32_319
  let c3_i32_320 : BitVec 32 := 3#32
  let v470 : BitVec 32 := Scalar.addi v469 c3_i32_320
  let c256_i32_321 : BitVec 32 := 256#32
  let v471 : BitVec 32 := Scalar.muli v470 c256_i32_321
  let c0_i32_1245 : BitVec 32 := 0#32
  ![v471.toNat, 0]
def k0_off111 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_322 : BitVec 32 := 256#32
  let v472 : BitVec 32 := Scalar.muli v2 c256_i32_322
  ![0, v472.toNat]
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_333 : BitVec 32 := 4#32
  let v488 : BitVec 32 := Scalar.muli v487 c4_i32_333
  let c0_i32_334 : BitVec 32 := 0#32
  let v489 : BitVec 32 := Scalar.addi v488 c0_i32_334
  let v492 : BitVec 1 := Scalar.cmpi .ne v489 v2
  let v1534 : BitVec 32 := Scalar.extui v492
  let c0_i32_1189 : BitVec 32 := 0#32
  let v1535 : BitVec 1 := Scalar.cmpi .ne v1534 c0_i32_1189
  v1535

def k0_off112 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_333 : BitVec 32 := 4#32
  let v488 : BitVec 32 := Scalar.muli v487 c4_i32_333
  let c0_i32_334 : BitVec 32 := 0#32
  let v489 : BitVec 32 := Scalar.addi v488 c0_i32_334
  let c256_i32_335 : BitVec 32 := 256#32
  let v490 : BitVec 32 := Scalar.muli v489 c256_i32_335
  let c0_i32_1245 : BitVec 32 := 0#32
  ![v490.toNat, 0]
def k0_off113 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_336 : BitVec 32 := 256#32
  let v491 : BitVec 32 := Scalar.muli v2 c256_i32_336
  ![0, v491.toNat]
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_339 : BitVec 32 := 4#32
  let v495 : BitVec 32 := Scalar.muli v487 c4_i32_339
  let c1_i32_340 : BitVec 32 := 1#32
  let v496 : BitVec 32 := Scalar.addi v495 c1_i32_340
  let v499 : BitVec 1 := Scalar.cmpi .ne v496 v2
  let v1536 : BitVec 32 := Scalar.extui v499
  let c0_i32_1191 : BitVec 32 := 0#32
  let v1537 : BitVec 1 := Scalar.cmpi .ne v1536 c0_i32_1191
  v1537

def k0_off114 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_339 : BitVec 32 := 4#32
  let v495 : BitVec 32 := Scalar.muli v487 c4_i32_339
  let c1_i32_340 : BitVec 32 := 1#32
  let v496 : BitVec 32 := Scalar.addi v495 c1_i32_340
  let c256_i32_341 : BitVec 32 := 256#32
  let v497 : BitVec 32 := Scalar.muli v496 c256_i32_341
  let c0_i32_1245 : BitVec 32 := 0#32
  ![v497.toNat, 0]
def k0_off115 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_342 : BitVec 32 := 256#32
  let v498 : BitVec 32 := Scalar.muli v2 c256_i32_342
  ![0, v498.toNat]
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_345 : BitVec 32 := 4#32
  let v502 : BitVec 32 := Scalar.muli v487 c4_i32_345
  let c2_i32_346 : BitVec 32 := 2#32
  let v503 : BitVec 32 := Scalar.addi v502 c2_i32_346
  let v506 : BitVec 1 := Scalar.cmpi .ne v503 v2
  let v1538 : BitVec 32 := Scalar.extui v506
  let c0_i32_1193 : BitVec 32 := 0#32
  let v1539 : BitVec 1 := Scalar.cmpi .ne v1538 c0_i32_1193
  v1539

def k0_off116 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_345 : BitVec 32 := 4#32
  let v502 : BitVec 32 := Scalar.muli v487 c4_i32_345
  let c2_i32_346 : BitVec 32 := 2#32
  let v503 : BitVec 32 := Scalar.addi v502 c2_i32_346
  let c256_i32_347 : BitVec 32 := 256#32
  let v504 : BitVec 32 := Scalar.muli v503 c256_i32_347
  let c0_i32_1245 : BitVec 32 := 0#32
  ![v504.toNat, 0]
def k0_off117 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_348 : BitVec 32 := 256#32
  let v505 : BitVec 32 := Scalar.muli v2 c256_i32_348
  ![0, v505.toNat]
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_351 : BitVec 32 := 4#32
  let v509 : BitVec 32 := Scalar.muli v487 c4_i32_351
  let c3_i32_352 : BitVec 32 := 3#32
  let v510 : BitVec 32 := Scalar.addi v509 c3_i32_352
  let v513 : BitVec 1 := Scalar.cmpi .ne v510 v2
  let v1540 : BitVec 32 := Scalar.extui v513
  let c0_i32_1195 : BitVec 32 := 0#32
  let v1541 : BitVec 1 := Scalar.cmpi .ne v1540 c0_i32_1195
  v1541

def k0_off118 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_325 : BitVec 32 := 8#32
  let v476 : BitVec 32 := Scalar.addi v19 c8_i32_325
  let c1_i32_326 : BitVec 32 := 1#32
  let v477 : BitVec 32 := Scalar.subi v476 c1_i32_326
  let c8_i32_327 : BitVec 32 := 8#32
  let c0_i32_328 : BitVec 32 := 0#32
  let v478 : BitVec 1 := Scalar.cmpi .eq c8_i32_327 c0_i32_328
  let c1_i32_329 : BitVec 32 := 1#32
  let v479 : BitVec 32 := Scalar.select v478 c1_i32_329 c8_i32_327
  let v480 : BitVec 32 := Scalar.remsi v477 v479
  let c0_i32_331 : BitVec 32 := 0#32
  let v482 : BitVec 1 := Scalar.cmpi .slt v480 c0_i32_331
  let c0_i32_332 : BitVec 32 := 0#32
  let v483 : BitVec 1 := Scalar.cmpi .slt v479 c0_i32_332
  let v484 : BitVec 1 := Scalar.xori v482 v483
  let c0_i32_330 : BitVec 32 := 0#32
  let v481 : BitVec 1 := Scalar.cmpi .ne v480 c0_i32_330
  let v485 : BitVec 1 := Scalar.andi v484 v481
  let v486 : BitVec 32 := Scalar.addi v480 v479
  let v487 : BitVec 32 := Scalar.select v485 v486 v480
  let c4_i32_351 : BitVec 32 := 4#32
  let v509 : BitVec 32 := Scalar.muli v487 c4_i32_351
  let c3_i32_352 : BitVec 32 := 3#32
  let v510 : BitVec 32 := Scalar.addi v509 c3_i32_352
  let c256_i32_353 : BitVec 32 := 256#32
  let v511 : BitVec 32 := Scalar.muli v510 c256_i32_353
  let c0_i32_1245 : BitVec 32 := 0#32
  ![v511.toNat, 0]
def k0_off119 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_354 : BitVec 32 := 256#32
  let v512 : BitVec 32 := Scalar.muli v2 c256_i32_354
  ![0, v512.toNat]
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_365 : BitVec 32 := 4#32
  let v528 : BitVec 32 := Scalar.muli v527 c4_i32_365
  let c0_i32_366 : BitVec 32 := 0#32
  let v529 : BitVec 32 := Scalar.addi v528 c0_i32_366
  let v532 : BitVec 1 := Scalar.cmpi .ne v529 v2
  let v1542 : BitVec 32 := Scalar.extui v532
  let c0_i32_1197 : BitVec 32 := 0#32
  let v1543 : BitVec 1 := Scalar.cmpi .ne v1542 c0_i32_1197
  v1543

def k0_off120 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_365 : BitVec 32 := 4#32
  let v528 : BitVec 32 := Scalar.muli v527 c4_i32_365
  let c0_i32_366 : BitVec 32 := 0#32
  let v529 : BitVec 32 := Scalar.addi v528 c0_i32_366
  let c256_i32_367 : BitVec 32 := 256#32
  let v530 : BitVec 32 := Scalar.muli v529 c256_i32_367
  let c0_i32_1245 : BitVec 32 := 0#32
  ![v530.toNat, 0]
def k0_off121 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_368 : BitVec 32 := 256#32
  let v531 : BitVec 32 := Scalar.muli v2 c256_i32_368
  ![0, v531.toNat]
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_371 : BitVec 32 := 4#32
  let v535 : BitVec 32 := Scalar.muli v527 c4_i32_371
  let c1_i32_372 : BitVec 32 := 1#32
  let v536 : BitVec 32 := Scalar.addi v535 c1_i32_372
  let v539 : BitVec 1 := Scalar.cmpi .ne v536 v2
  let v1544 : BitVec 32 := Scalar.extui v539
  let c0_i32_1199 : BitVec 32 := 0#32
  let v1545 : BitVec 1 := Scalar.cmpi .ne v1544 c0_i32_1199
  v1545

def k0_off122 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_371 : BitVec 32 := 4#32
  let v535 : BitVec 32 := Scalar.muli v527 c4_i32_371
  let c1_i32_372 : BitVec 32 := 1#32
  let v536 : BitVec 32 := Scalar.addi v535 c1_i32_372
  let c256_i32_373 : BitVec 32 := 256#32
  let v537 : BitVec 32 := Scalar.muli v536 c256_i32_373
  let c0_i32_1245 : BitVec 32 := 0#32
  ![v537.toNat, 0]
def k0_off123 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_374 : BitVec 32 := 256#32
  let v538 : BitVec 32 := Scalar.muli v2 c256_i32_374
  ![0, v538.toNat]
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_377 : BitVec 32 := 4#32
  let v542 : BitVec 32 := Scalar.muli v527 c4_i32_377
  let c2_i32_378 : BitVec 32 := 2#32
  let v543 : BitVec 32 := Scalar.addi v542 c2_i32_378
  let v546 : BitVec 1 := Scalar.cmpi .ne v543 v2
  let v1546 : BitVec 32 := Scalar.extui v546
  let c0_i32_1201 : BitVec 32 := 0#32
  let v1547 : BitVec 1 := Scalar.cmpi .ne v1546 c0_i32_1201
  v1547

def k0_off124 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_377 : BitVec 32 := 4#32
  let v542 : BitVec 32 := Scalar.muli v527 c4_i32_377
  let c2_i32_378 : BitVec 32 := 2#32
  let v543 : BitVec 32 := Scalar.addi v542 c2_i32_378
  let c256_i32_379 : BitVec 32 := 256#32
  let v544 : BitVec 32 := Scalar.muli v543 c256_i32_379
  let c0_i32_1245 : BitVec 32 := 0#32
  ![v544.toNat, 0]
def k0_off125 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_380 : BitVec 32 := 256#32
  let v545 : BitVec 32 := Scalar.muli v2 c256_i32_380
  ![0, v545.toNat]
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_383 : BitVec 32 := 4#32
  let v549 : BitVec 32 := Scalar.muli v527 c4_i32_383
  let c3_i32_384 : BitVec 32 := 3#32
  let v550 : BitVec 32 := Scalar.addi v549 c3_i32_384
  let v553 : BitVec 1 := Scalar.cmpi .ne v550 v2
  let v1548 : BitVec 32 := Scalar.extui v553
  let c0_i32_1203 : BitVec 32 := 0#32
  let v1549 : BitVec 1 := Scalar.cmpi .ne v1548 c0_i32_1203
  v1549

def k0_off126 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_357 : BitVec 32 := 8#32
  let v516 : BitVec 32 := Scalar.addi v19 c8_i32_357
  let c2_i32_358 : BitVec 32 := 2#32
  let v517 : BitVec 32 := Scalar.subi v516 c2_i32_358
  let c8_i32_359 : BitVec 32 := 8#32
  let c0_i32_360 : BitVec 32 := 0#32
  let v518 : BitVec 1 := Scalar.cmpi .eq c8_i32_359 c0_i32_360
  let c1_i32_361 : BitVec 32 := 1#32
  let v519 : BitVec 32 := Scalar.select v518 c1_i32_361 c8_i32_359
  let v520 : BitVec 32 := Scalar.remsi v517 v519
  let c0_i32_363 : BitVec 32 := 0#32
  let v522 : BitVec 1 := Scalar.cmpi .slt v520 c0_i32_363
  let c0_i32_364 : BitVec 32 := 0#32
  let v523 : BitVec 1 := Scalar.cmpi .slt v519 c0_i32_364
  let v524 : BitVec 1 := Scalar.xori v522 v523
  let c0_i32_362 : BitVec 32 := 0#32
  let v521 : BitVec 1 := Scalar.cmpi .ne v520 c0_i32_362
  let v525 : BitVec 1 := Scalar.andi v524 v521
  let v526 : BitVec 32 := Scalar.addi v520 v519
  let v527 : BitVec 32 := Scalar.select v525 v526 v520
  let c4_i32_383 : BitVec 32 := 4#32
  let v549 : BitVec 32 := Scalar.muli v527 c4_i32_383
  let c3_i32_384 : BitVec 32 := 3#32
  let v550 : BitVec 32 := Scalar.addi v549 c3_i32_384
  let c256_i32_385 : BitVec 32 := 256#32
  let v551 : BitVec 32 := Scalar.muli v550 c256_i32_385
  let c0_i32_1245 : BitVec 32 := 0#32
  ![v551.toNat, 0]
def k0_off127 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_386 : BitVec 32 := 256#32
  let v552 : BitVec 32 := Scalar.muli v2 c256_i32_386
  ![0, v552.toNat]
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_397 : BitVec 32 := 4#32
  let v568 : BitVec 32 := Scalar.muli v567 c4_i32_397
  let c0_i32_398 : BitVec 32 := 0#32
  let v569 : BitVec 32 := Scalar.addi v568 c0_i32_398
  let v572 : BitVec 1 := Scalar.cmpi .ne v569 v2
  let v1550 : BitVec 32 := Scalar.extui v572
  let c0_i32_1205 : BitVec 32 := 0#32
  let v1551 : BitVec 1 := Scalar.cmpi .ne v1550 c0_i32_1205
  v1551

def k0_off128 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_397 : BitVec 32 := 4#32
  let v568 : BitVec 32 := Scalar.muli v567 c4_i32_397
  let c0_i32_398 : BitVec 32 := 0#32
  let v569 : BitVec 32 := Scalar.addi v568 c0_i32_398
  let c256_i32_399 : BitVec 32 := 256#32
  let v570 : BitVec 32 := Scalar.muli v569 c256_i32_399
  let c0_i32_1245 : BitVec 32 := 0#32
  ![v570.toNat, 0]
def k0_off129 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_400 : BitVec 32 := 256#32
  let v571 : BitVec 32 := Scalar.muli v2 c256_i32_400
  ![0, v571.toNat]
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_403 : BitVec 32 := 4#32
  let v575 : BitVec 32 := Scalar.muli v567 c4_i32_403
  let c1_i32_404 : BitVec 32 := 1#32
  let v576 : BitVec 32 := Scalar.addi v575 c1_i32_404
  let v579 : BitVec 1 := Scalar.cmpi .ne v576 v2
  let v1552 : BitVec 32 := Scalar.extui v579
  let c0_i32_1207 : BitVec 32 := 0#32
  let v1553 : BitVec 1 := Scalar.cmpi .ne v1552 c0_i32_1207
  v1553

def k0_off130 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_403 : BitVec 32 := 4#32
  let v575 : BitVec 32 := Scalar.muli v567 c4_i32_403
  let c1_i32_404 : BitVec 32 := 1#32
  let v576 : BitVec 32 := Scalar.addi v575 c1_i32_404
  let c256_i32_405 : BitVec 32 := 256#32
  let v577 : BitVec 32 := Scalar.muli v576 c256_i32_405
  let c0_i32_1245 : BitVec 32 := 0#32
  ![v577.toNat, 0]
def k0_off131 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_406 : BitVec 32 := 256#32
  let v578 : BitVec 32 := Scalar.muli v2 c256_i32_406
  ![0, v578.toNat]
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_409 : BitVec 32 := 4#32
  let v582 : BitVec 32 := Scalar.muli v567 c4_i32_409
  let c2_i32_410 : BitVec 32 := 2#32
  let v583 : BitVec 32 := Scalar.addi v582 c2_i32_410
  let v586 : BitVec 1 := Scalar.cmpi .ne v583 v2
  let v1554 : BitVec 32 := Scalar.extui v586
  let c0_i32_1209 : BitVec 32 := 0#32
  let v1555 : BitVec 1 := Scalar.cmpi .ne v1554 c0_i32_1209
  v1555

def k0_off132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_409 : BitVec 32 := 4#32
  let v582 : BitVec 32 := Scalar.muli v567 c4_i32_409
  let c2_i32_410 : BitVec 32 := 2#32
  let v583 : BitVec 32 := Scalar.addi v582 c2_i32_410
  let c256_i32_411 : BitVec 32 := 256#32
  let v584 : BitVec 32 := Scalar.muli v583 c256_i32_411
  let c0_i32_1245 : BitVec 32 := 0#32
  ![v584.toNat, 0]
def k0_off133 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_412 : BitVec 32 := 256#32
  let v585 : BitVec 32 := Scalar.muli v2 c256_i32_412
  ![0, v585.toNat]
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_415 : BitVec 32 := 4#32
  let v589 : BitVec 32 := Scalar.muli v567 c4_i32_415
  let c3_i32_416 : BitVec 32 := 3#32
  let v590 : BitVec 32 := Scalar.addi v589 c3_i32_416
  let v593 : BitVec 1 := Scalar.cmpi .ne v590 v2
  let v1556 : BitVec 32 := Scalar.extui v593
  let c0_i32_1211 : BitVec 32 := 0#32
  let v1557 : BitVec 1 := Scalar.cmpi .ne v1556 c0_i32_1211
  v1557

def k0_off134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_389 : BitVec 32 := 8#32
  let v556 : BitVec 32 := Scalar.addi v19 c8_i32_389
  let c3_i32_390 : BitVec 32 := 3#32
  let v557 : BitVec 32 := Scalar.subi v556 c3_i32_390
  let c8_i32_391 : BitVec 32 := 8#32
  let c0_i32_392 : BitVec 32 := 0#32
  let v558 : BitVec 1 := Scalar.cmpi .eq c8_i32_391 c0_i32_392
  let c1_i32_393 : BitVec 32 := 1#32
  let v559 : BitVec 32 := Scalar.select v558 c1_i32_393 c8_i32_391
  let v560 : BitVec 32 := Scalar.remsi v557 v559
  let c0_i32_395 : BitVec 32 := 0#32
  let v562 : BitVec 1 := Scalar.cmpi .slt v560 c0_i32_395
  let c0_i32_396 : BitVec 32 := 0#32
  let v563 : BitVec 1 := Scalar.cmpi .slt v559 c0_i32_396
  let v564 : BitVec 1 := Scalar.xori v562 v563
  let c0_i32_394 : BitVec 32 := 0#32
  let v561 : BitVec 1 := Scalar.cmpi .ne v560 c0_i32_394
  let v565 : BitVec 1 := Scalar.andi v564 v561
  let v566 : BitVec 32 := Scalar.addi v560 v559
  let v567 : BitVec 32 := Scalar.select v565 v566 v560
  let c4_i32_415 : BitVec 32 := 4#32
  let v589 : BitVec 32 := Scalar.muli v567 c4_i32_415
  let c3_i32_416 : BitVec 32 := 3#32
  let v590 : BitVec 32 := Scalar.addi v589 c3_i32_416
  let c256_i32_417 : BitVec 32 := 256#32
  let v591 : BitVec 32 := Scalar.muli v590 c256_i32_417
  let c0_i32_1245 : BitVec 32 := 0#32
  ![v591.toNat, 0]
def k0_off135 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_418 : BitVec 32 := 256#32
  let v592 : BitVec 32 := Scalar.muli v2 c256_i32_418
  ![0, v592.toNat]
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_429 : BitVec 32 := 4#32
  let v608 : BitVec 32 := Scalar.muli v607 c4_i32_429
  let c0_i32_430 : BitVec 32 := 0#32
  let v609 : BitVec 32 := Scalar.addi v608 c0_i32_430
  let v612 : BitVec 1 := Scalar.cmpi .ne v609 v2
  let v1558 : BitVec 32 := Scalar.extui v612
  let c0_i32_1213 : BitVec 32 := 0#32
  let v1559 : BitVec 1 := Scalar.cmpi .ne v1558 c0_i32_1213
  v1559

def k0_off136 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_429 : BitVec 32 := 4#32
  let v608 : BitVec 32 := Scalar.muli v607 c4_i32_429
  let c0_i32_430 : BitVec 32 := 0#32
  let v609 : BitVec 32 := Scalar.addi v608 c0_i32_430
  let c256_i32_431 : BitVec 32 := 256#32
  let v610 : BitVec 32 := Scalar.muli v609 c256_i32_431
  let c0_i32_1245 : BitVec 32 := 0#32
  ![v610.toNat, 0]
def k0_off137 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_432 : BitVec 32 := 256#32
  let v611 : BitVec 32 := Scalar.muli v2 c256_i32_432
  ![0, v611.toNat]
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_435 : BitVec 32 := 4#32
  let v615 : BitVec 32 := Scalar.muli v607 c4_i32_435
  let c1_i32_436 : BitVec 32 := 1#32
  let v616 : BitVec 32 := Scalar.addi v615 c1_i32_436
  let v619 : BitVec 1 := Scalar.cmpi .ne v616 v2
  let v1560 : BitVec 32 := Scalar.extui v619
  let c0_i32_1215 : BitVec 32 := 0#32
  let v1561 : BitVec 1 := Scalar.cmpi .ne v1560 c0_i32_1215
  v1561

def k0_off138 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_435 : BitVec 32 := 4#32
  let v615 : BitVec 32 := Scalar.muli v607 c4_i32_435
  let c1_i32_436 : BitVec 32 := 1#32
  let v616 : BitVec 32 := Scalar.addi v615 c1_i32_436
  let c256_i32_437 : BitVec 32 := 256#32
  let v617 : BitVec 32 := Scalar.muli v616 c256_i32_437
  let c0_i32_1245 : BitVec 32 := 0#32
  ![v617.toNat, 0]
def k0_off139 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_438 : BitVec 32 := 256#32
  let v618 : BitVec 32 := Scalar.muli v2 c256_i32_438
  ![0, v618.toNat]
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_441 : BitVec 32 := 4#32
  let v622 : BitVec 32 := Scalar.muli v607 c4_i32_441
  let c2_i32_442 : BitVec 32 := 2#32
  let v623 : BitVec 32 := Scalar.addi v622 c2_i32_442
  let v626 : BitVec 1 := Scalar.cmpi .ne v623 v2
  let v1562 : BitVec 32 := Scalar.extui v626
  let c0_i32_1217 : BitVec 32 := 0#32
  let v1563 : BitVec 1 := Scalar.cmpi .ne v1562 c0_i32_1217
  v1563

def k0_off140 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_441 : BitVec 32 := 4#32
  let v622 : BitVec 32 := Scalar.muli v607 c4_i32_441
  let c2_i32_442 : BitVec 32 := 2#32
  let v623 : BitVec 32 := Scalar.addi v622 c2_i32_442
  let c256_i32_443 : BitVec 32 := 256#32
  let v624 : BitVec 32 := Scalar.muli v623 c256_i32_443
  let c0_i32_1245 : BitVec 32 := 0#32
  ![v624.toNat, 0]
def k0_off141 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_444 : BitVec 32 := 256#32
  let v625 : BitVec 32 := Scalar.muli v2 c256_i32_444
  ![0, v625.toNat]
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_447 : BitVec 32 := 4#32
  let v629 : BitVec 32 := Scalar.muli v607 c4_i32_447
  let c3_i32_448 : BitVec 32 := 3#32
  let v630 : BitVec 32 := Scalar.addi v629 c3_i32_448
  let v633 : BitVec 1 := Scalar.cmpi .ne v630 v2
  let v1564 : BitVec 32 := Scalar.extui v633
  let c0_i32_1219 : BitVec 32 := 0#32
  let v1565 : BitVec 1 := Scalar.cmpi .ne v1564 c0_i32_1219
  v1565

def k0_off142 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_421 : BitVec 32 := 8#32
  let v596 : BitVec 32 := Scalar.addi v19 c8_i32_421
  let c4_i32_422 : BitVec 32 := 4#32
  let v597 : BitVec 32 := Scalar.subi v596 c4_i32_422
  let c8_i32_423 : BitVec 32 := 8#32
  let c0_i32_424 : BitVec 32 := 0#32
  let v598 : BitVec 1 := Scalar.cmpi .eq c8_i32_423 c0_i32_424
  let c1_i32_425 : BitVec 32 := 1#32
  let v599 : BitVec 32 := Scalar.select v598 c1_i32_425 c8_i32_423
  let v600 : BitVec 32 := Scalar.remsi v597 v599
  let c0_i32_427 : BitVec 32 := 0#32
  let v602 : BitVec 1 := Scalar.cmpi .slt v600 c0_i32_427
  let c0_i32_428 : BitVec 32 := 0#32
  let v603 : BitVec 1 := Scalar.cmpi .slt v599 c0_i32_428
  let v604 : BitVec 1 := Scalar.xori v602 v603
  let c0_i32_426 : BitVec 32 := 0#32
  let v601 : BitVec 1 := Scalar.cmpi .ne v600 c0_i32_426
  let v605 : BitVec 1 := Scalar.andi v604 v601
  let v606 : BitVec 32 := Scalar.addi v600 v599
  let v607 : BitVec 32 := Scalar.select v605 v606 v600
  let c4_i32_447 : BitVec 32 := 4#32
  let v629 : BitVec 32 := Scalar.muli v607 c4_i32_447
  let c3_i32_448 : BitVec 32 := 3#32
  let v630 : BitVec 32 := Scalar.addi v629 c3_i32_448
  let c256_i32_449 : BitVec 32 := 256#32
  let v631 : BitVec 32 := Scalar.muli v630 c256_i32_449
  let c0_i32_1245 : BitVec 32 := 0#32
  ![v631.toNat, 0]
def k0_off143 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_450 : BitVec 32 := 256#32
  let v632 : BitVec 32 := Scalar.muli v2 c256_i32_450
  ![0, v632.toNat]
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_461 : BitVec 32 := 4#32
  let v648 : BitVec 32 := Scalar.muli v647 c4_i32_461
  let c0_i32_462 : BitVec 32 := 0#32
  let v649 : BitVec 32 := Scalar.addi v648 c0_i32_462
  let v652 : BitVec 1 := Scalar.cmpi .ne v649 v2
  let v1566 : BitVec 32 := Scalar.extui v652
  let c0_i32_1221 : BitVec 32 := 0#32
  let v1567 : BitVec 1 := Scalar.cmpi .ne v1566 c0_i32_1221
  v1567

def k0_off144 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_461 : BitVec 32 := 4#32
  let v648 : BitVec 32 := Scalar.muli v647 c4_i32_461
  let c0_i32_462 : BitVec 32 := 0#32
  let v649 : BitVec 32 := Scalar.addi v648 c0_i32_462
  let c256_i32_463 : BitVec 32 := 256#32
  let v650 : BitVec 32 := Scalar.muli v649 c256_i32_463
  let c0_i32_1245 : BitVec 32 := 0#32
  ![v650.toNat, 0]
def k0_off145 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_464 : BitVec 32 := 256#32
  let v651 : BitVec 32 := Scalar.muli v2 c256_i32_464
  ![0, v651.toNat]
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_467 : BitVec 32 := 4#32
  let v655 : BitVec 32 := Scalar.muli v647 c4_i32_467
  let c1_i32_468 : BitVec 32 := 1#32
  let v656 : BitVec 32 := Scalar.addi v655 c1_i32_468
  let v659 : BitVec 1 := Scalar.cmpi .ne v656 v2
  let v1568 : BitVec 32 := Scalar.extui v659
  let c0_i32_1223 : BitVec 32 := 0#32
  let v1569 : BitVec 1 := Scalar.cmpi .ne v1568 c0_i32_1223
  v1569

def k0_off146 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_467 : BitVec 32 := 4#32
  let v655 : BitVec 32 := Scalar.muli v647 c4_i32_467
  let c1_i32_468 : BitVec 32 := 1#32
  let v656 : BitVec 32 := Scalar.addi v655 c1_i32_468
  let c256_i32_469 : BitVec 32 := 256#32
  let v657 : BitVec 32 := Scalar.muli v656 c256_i32_469
  let c0_i32_1245 : BitVec 32 := 0#32
  ![v657.toNat, 0]
def k0_off147 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_470 : BitVec 32 := 256#32
  let v658 : BitVec 32 := Scalar.muli v2 c256_i32_470
  ![0, v658.toNat]
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_473 : BitVec 32 := 4#32
  let v662 : BitVec 32 := Scalar.muli v647 c4_i32_473
  let c2_i32_474 : BitVec 32 := 2#32
  let v663 : BitVec 32 := Scalar.addi v662 c2_i32_474
  let v666 : BitVec 1 := Scalar.cmpi .ne v663 v2
  let v1570 : BitVec 32 := Scalar.extui v666
  let c0_i32_1225 : BitVec 32 := 0#32
  let v1571 : BitVec 1 := Scalar.cmpi .ne v1570 c0_i32_1225
  v1571

def k0_off148 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_473 : BitVec 32 := 4#32
  let v662 : BitVec 32 := Scalar.muli v647 c4_i32_473
  let c2_i32_474 : BitVec 32 := 2#32
  let v663 : BitVec 32 := Scalar.addi v662 c2_i32_474
  let c256_i32_475 : BitVec 32 := 256#32
  let v664 : BitVec 32 := Scalar.muli v663 c256_i32_475
  let c0_i32_1245 : BitVec 32 := 0#32
  ![v664.toNat, 0]
def k0_off149 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_476 : BitVec 32 := 256#32
  let v665 : BitVec 32 := Scalar.muli v2 c256_i32_476
  ![0, v665.toNat]
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_479 : BitVec 32 := 4#32
  let v669 : BitVec 32 := Scalar.muli v647 c4_i32_479
  let c3_i32_480 : BitVec 32 := 3#32
  let v670 : BitVec 32 := Scalar.addi v669 c3_i32_480
  let v673 : BitVec 1 := Scalar.cmpi .ne v670 v2
  let v1572 : BitVec 32 := Scalar.extui v673
  let c0_i32_1227 : BitVec 32 := 0#32
  let v1573 : BitVec 1 := Scalar.cmpi .ne v1572 c0_i32_1227
  v1573

def k0_off150 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_453 : BitVec 32 := 8#32
  let v636 : BitVec 32 := Scalar.addi v19 c8_i32_453
  let c5_i32_454 : BitVec 32 := 5#32
  let v637 : BitVec 32 := Scalar.subi v636 c5_i32_454
  let c8_i32_455 : BitVec 32 := 8#32
  let c0_i32_456 : BitVec 32 := 0#32
  let v638 : BitVec 1 := Scalar.cmpi .eq c8_i32_455 c0_i32_456
  let c1_i32_457 : BitVec 32 := 1#32
  let v639 : BitVec 32 := Scalar.select v638 c1_i32_457 c8_i32_455
  let v640 : BitVec 32 := Scalar.remsi v637 v639
  let c0_i32_459 : BitVec 32 := 0#32
  let v642 : BitVec 1 := Scalar.cmpi .slt v640 c0_i32_459
  let c0_i32_460 : BitVec 32 := 0#32
  let v643 : BitVec 1 := Scalar.cmpi .slt v639 c0_i32_460
  let v644 : BitVec 1 := Scalar.xori v642 v643
  let c0_i32_458 : BitVec 32 := 0#32
  let v641 : BitVec 1 := Scalar.cmpi .ne v640 c0_i32_458
  let v645 : BitVec 1 := Scalar.andi v644 v641
  let v646 : BitVec 32 := Scalar.addi v640 v639
  let v647 : BitVec 32 := Scalar.select v645 v646 v640
  let c4_i32_479 : BitVec 32 := 4#32
  let v669 : BitVec 32 := Scalar.muli v647 c4_i32_479
  let c3_i32_480 : BitVec 32 := 3#32
  let v670 : BitVec 32 := Scalar.addi v669 c3_i32_480
  let c256_i32_481 : BitVec 32 := 256#32
  let v671 : BitVec 32 := Scalar.muli v670 c256_i32_481
  let c0_i32_1245 : BitVec 32 := 0#32
  ![v671.toNat, 0]
def k0_off151 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_482 : BitVec 32 := 256#32
  let v672 : BitVec 32 := Scalar.muli v2 c256_i32_482
  ![0, v672.toNat]
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_493 : BitVec 32 := 4#32
  let v688 : BitVec 32 := Scalar.muli v687 c4_i32_493
  let c0_i32_494 : BitVec 32 := 0#32
  let v689 : BitVec 32 := Scalar.addi v688 c0_i32_494
  let v692 : BitVec 1 := Scalar.cmpi .ne v689 v2
  let v1574 : BitVec 32 := Scalar.extui v692
  let c0_i32_1229 : BitVec 32 := 0#32
  let v1575 : BitVec 1 := Scalar.cmpi .ne v1574 c0_i32_1229
  v1575

def k0_off152 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_493 : BitVec 32 := 4#32
  let v688 : BitVec 32 := Scalar.muli v687 c4_i32_493
  let c0_i32_494 : BitVec 32 := 0#32
  let v689 : BitVec 32 := Scalar.addi v688 c0_i32_494
  let c256_i32_495 : BitVec 32 := 256#32
  let v690 : BitVec 32 := Scalar.muli v689 c256_i32_495
  let c0_i32_1245 : BitVec 32 := 0#32
  ![v690.toNat, 0]
def k0_off153 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_496 : BitVec 32 := 256#32
  let v691 : BitVec 32 := Scalar.muli v2 c256_i32_496
  ![0, v691.toNat]
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_499 : BitVec 32 := 4#32
  let v695 : BitVec 32 := Scalar.muli v687 c4_i32_499
  let c1_i32_500 : BitVec 32 := 1#32
  let v696 : BitVec 32 := Scalar.addi v695 c1_i32_500
  let v699 : BitVec 1 := Scalar.cmpi .ne v696 v2
  let v1576 : BitVec 32 := Scalar.extui v699
  let c0_i32_1231 : BitVec 32 := 0#32
  let v1577 : BitVec 1 := Scalar.cmpi .ne v1576 c0_i32_1231
  v1577

def k0_off154 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_499 : BitVec 32 := 4#32
  let v695 : BitVec 32 := Scalar.muli v687 c4_i32_499
  let c1_i32_500 : BitVec 32 := 1#32
  let v696 : BitVec 32 := Scalar.addi v695 c1_i32_500
  let c256_i32_501 : BitVec 32 := 256#32
  let v697 : BitVec 32 := Scalar.muli v696 c256_i32_501
  let c0_i32_1245 : BitVec 32 := 0#32
  ![v697.toNat, 0]
def k0_off155 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_502 : BitVec 32 := 256#32
  let v698 : BitVec 32 := Scalar.muli v2 c256_i32_502
  ![0, v698.toNat]
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_505 : BitVec 32 := 4#32
  let v702 : BitVec 32 := Scalar.muli v687 c4_i32_505
  let c2_i32_506 : BitVec 32 := 2#32
  let v703 : BitVec 32 := Scalar.addi v702 c2_i32_506
  let v706 : BitVec 1 := Scalar.cmpi .ne v703 v2
  let v1578 : BitVec 32 := Scalar.extui v706
  let c0_i32_1233 : BitVec 32 := 0#32
  let v1579 : BitVec 1 := Scalar.cmpi .ne v1578 c0_i32_1233
  v1579

def k0_off156 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_505 : BitVec 32 := 4#32
  let v702 : BitVec 32 := Scalar.muli v687 c4_i32_505
  let c2_i32_506 : BitVec 32 := 2#32
  let v703 : BitVec 32 := Scalar.addi v702 c2_i32_506
  let c256_i32_507 : BitVec 32 := 256#32
  let v704 : BitVec 32 := Scalar.muli v703 c256_i32_507
  let c0_i32_1245 : BitVec 32 := 0#32
  ![v704.toNat, 0]
def k0_off157 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_508 : BitVec 32 := 256#32
  let v705 : BitVec 32 := Scalar.muli v2 c256_i32_508
  ![0, v705.toNat]
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_511 : BitVec 32 := 4#32
  let v709 : BitVec 32 := Scalar.muli v687 c4_i32_511
  let c3_i32_512 : BitVec 32 := 3#32
  let v710 : BitVec 32 := Scalar.addi v709 c3_i32_512
  let v713 : BitVec 1 := Scalar.cmpi .ne v710 v2
  let v1580 : BitVec 32 := Scalar.extui v713
  let c0_i32_1235 : BitVec 32 := 0#32
  let v1581 : BitVec 1 := Scalar.cmpi .ne v1580 c0_i32_1235
  v1581

def k0_off158 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_485 : BitVec 32 := 8#32
  let v676 : BitVec 32 := Scalar.addi v19 c8_i32_485
  let c6_i32_486 : BitVec 32 := 6#32
  let v677 : BitVec 32 := Scalar.subi v676 c6_i32_486
  let c8_i32_487 : BitVec 32 := 8#32
  let c0_i32_488 : BitVec 32 := 0#32
  let v678 : BitVec 1 := Scalar.cmpi .eq c8_i32_487 c0_i32_488
  let c1_i32_489 : BitVec 32 := 1#32
  let v679 : BitVec 32 := Scalar.select v678 c1_i32_489 c8_i32_487
  let v680 : BitVec 32 := Scalar.remsi v677 v679
  let c0_i32_491 : BitVec 32 := 0#32
  let v682 : BitVec 1 := Scalar.cmpi .slt v680 c0_i32_491
  let c0_i32_492 : BitVec 32 := 0#32
  let v683 : BitVec 1 := Scalar.cmpi .slt v679 c0_i32_492
  let v684 : BitVec 1 := Scalar.xori v682 v683
  let c0_i32_490 : BitVec 32 := 0#32
  let v681 : BitVec 1 := Scalar.cmpi .ne v680 c0_i32_490
  let v685 : BitVec 1 := Scalar.andi v684 v681
  let v686 : BitVec 32 := Scalar.addi v680 v679
  let v687 : BitVec 32 := Scalar.select v685 v686 v680
  let c4_i32_511 : BitVec 32 := 4#32
  let v709 : BitVec 32 := Scalar.muli v687 c4_i32_511
  let c3_i32_512 : BitVec 32 := 3#32
  let v710 : BitVec 32 := Scalar.addi v709 c3_i32_512
  let c256_i32_513 : BitVec 32 := 256#32
  let v711 : BitVec 32 := Scalar.muli v710 c256_i32_513
  let c0_i32_1245 : BitVec 32 := 0#32
  ![v711.toNat, 0]
def k0_off159 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_514 : BitVec 32 := 256#32
  let v712 : BitVec 32 := Scalar.muli v2 c256_i32_514
  ![0, v712.toNat]
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_525 : BitVec 32 := 4#32
  let v728 : BitVec 32 := Scalar.muli v727 c4_i32_525
  let c0_i32_526 : BitVec 32 := 0#32
  let v729 : BitVec 32 := Scalar.addi v728 c0_i32_526
  let v732 : BitVec 1 := Scalar.cmpi .ne v729 v2
  let v1582 : BitVec 32 := Scalar.extui v732
  let c0_i32_1237 : BitVec 32 := 0#32
  let v1583 : BitVec 1 := Scalar.cmpi .ne v1582 c0_i32_1237
  v1583

def k0_off160 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_525 : BitVec 32 := 4#32
  let v728 : BitVec 32 := Scalar.muli v727 c4_i32_525
  let c0_i32_526 : BitVec 32 := 0#32
  let v729 : BitVec 32 := Scalar.addi v728 c0_i32_526
  let c256_i32_527 : BitVec 32 := 256#32
  let v730 : BitVec 32 := Scalar.muli v729 c256_i32_527
  let c0_i32_1245 : BitVec 32 := 0#32
  ![v730.toNat, 0]
def k0_off161 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_528 : BitVec 32 := 256#32
  let v731 : BitVec 32 := Scalar.muli v2 c256_i32_528
  ![0, v731.toNat]
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_531 : BitVec 32 := 4#32
  let v735 : BitVec 32 := Scalar.muli v727 c4_i32_531
  let c1_i32_532 : BitVec 32 := 1#32
  let v736 : BitVec 32 := Scalar.addi v735 c1_i32_532
  let v739 : BitVec 1 := Scalar.cmpi .ne v736 v2
  let v1584 : BitVec 32 := Scalar.extui v739
  let c0_i32_1239 : BitVec 32 := 0#32
  let v1585 : BitVec 1 := Scalar.cmpi .ne v1584 c0_i32_1239
  v1585

def k0_off162 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_531 : BitVec 32 := 4#32
  let v735 : BitVec 32 := Scalar.muli v727 c4_i32_531
  let c1_i32_532 : BitVec 32 := 1#32
  let v736 : BitVec 32 := Scalar.addi v735 c1_i32_532
  let c256_i32_533 : BitVec 32 := 256#32
  let v737 : BitVec 32 := Scalar.muli v736 c256_i32_533
  let c0_i32_1245 : BitVec 32 := 0#32
  ![v737.toNat, 0]
def k0_off163 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_534 : BitVec 32 := 256#32
  let v738 : BitVec 32 := Scalar.muli v2 c256_i32_534
  ![0, v738.toNat]
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_537 : BitVec 32 := 4#32
  let v742 : BitVec 32 := Scalar.muli v727 c4_i32_537
  let c2_i32_538 : BitVec 32 := 2#32
  let v743 : BitVec 32 := Scalar.addi v742 c2_i32_538
  let v746 : BitVec 1 := Scalar.cmpi .ne v743 v2
  let v1586 : BitVec 32 := Scalar.extui v746
  let c0_i32_1241 : BitVec 32 := 0#32
  let v1587 : BitVec 1 := Scalar.cmpi .ne v1586 c0_i32_1241
  v1587

def k0_off164 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_537 : BitVec 32 := 4#32
  let v742 : BitVec 32 := Scalar.muli v727 c4_i32_537
  let c2_i32_538 : BitVec 32 := 2#32
  let v743 : BitVec 32 := Scalar.addi v742 c2_i32_538
  let c256_i32_539 : BitVec 32 := 256#32
  let v744 : BitVec 32 := Scalar.muli v743 c256_i32_539
  let c0_i32_1245 : BitVec 32 := 0#32
  ![v744.toNat, 0]
def k0_off165 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_540 : BitVec 32 := 256#32
  let v745 : BitVec 32 := Scalar.muli v2 c256_i32_540
  ![0, v745.toNat]
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_543 : BitVec 32 := 4#32
  let v749 : BitVec 32 := Scalar.muli v727 c4_i32_543
  let c3_i32_544 : BitVec 32 := 3#32
  let v750 : BitVec 32 := Scalar.addi v749 c3_i32_544
  let v753 : BitVec 1 := Scalar.cmpi .ne v750 v2
  let v1588 : BitVec 32 := Scalar.extui v753
  let c0_i32_1243 : BitVec 32 := 0#32
  let v1589 : BitVec 1 := Scalar.cmpi .ne v1588 c0_i32_1243
  v1589

def k0_off166 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c8_i32_517 : BitVec 32 := 8#32
  let v716 : BitVec 32 := Scalar.addi v19 c8_i32_517
  let c7_i32_518 : BitVec 32 := 7#32
  let v717 : BitVec 32 := Scalar.subi v716 c7_i32_518
  let c8_i32_519 : BitVec 32 := 8#32
  let c0_i32_520 : BitVec 32 := 0#32
  let v718 : BitVec 1 := Scalar.cmpi .eq c8_i32_519 c0_i32_520
  let c1_i32_521 : BitVec 32 := 1#32
  let v719 : BitVec 32 := Scalar.select v718 c1_i32_521 c8_i32_519
  let v720 : BitVec 32 := Scalar.remsi v717 v719
  let c0_i32_523 : BitVec 32 := 0#32
  let v722 : BitVec 1 := Scalar.cmpi .slt v720 c0_i32_523
  let c0_i32_524 : BitVec 32 := 0#32
  let v723 : BitVec 1 := Scalar.cmpi .slt v719 c0_i32_524
  let v724 : BitVec 1 := Scalar.xori v722 v723
  let c0_i32_522 : BitVec 32 := 0#32
  let v721 : BitVec 1 := Scalar.cmpi .ne v720 c0_i32_522
  let v725 : BitVec 1 := Scalar.andi v724 v721
  let v726 : BitVec 32 := Scalar.addi v720 v719
  let v727 : BitVec 32 := Scalar.select v725 v726 v720
  let c4_i32_543 : BitVec 32 := 4#32
  let v749 : BitVec 32 := Scalar.muli v727 c4_i32_543
  let c3_i32_544 : BitVec 32 := 3#32
  let v750 : BitVec 32 := Scalar.addi v749 c3_i32_544
  let c256_i32_545 : BitVec 32 := 256#32
  let v751 : BitVec 32 := Scalar.muli v750 c256_i32_545
  let c0_i32_1245 : BitVec 32 := 0#32
  ![v751.toNat, 0]
def k0_off167 (d0 : Dev nD) : Fin 2 → Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_546 : BitVec 32 := 256#32
  let v752 : BitVec 32 := Scalar.muli v2 c256_i32_546
  ![0, v752.toNat]
abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Protocol.lean ====
/-
# The exchange: semaphores, contents and schedule

Thirty-two devices. Device `s` holds the columns `256 s …` of `x`; device `c` computes the rows `256 c …` of the result.
Each device rounds its columns to bfloat16 (`xb`), sends the row block `r` of them to device `r`, and multiplies what
it receives with the replicated `w`, streamed in eight chunks of 1024 rows through two slots.

Semaphores of device `c`, and what each landing hands over:
* the barrier: thirty-one units, one from every other device `d`, which hands over the column block `c` of `d`'s own
  receive buffer — the place `c`'s block will be written to;
* send semaphore `q`: the transfer to `tgt c q`, which hands back the row block sent;
* receive semaphore `s`: the block of device `s` landed in the columns `256 s …` of the receive buffer;
* weight semaphore `b`: four rounds; round `r` hands over slot `b` holding chunk `2 r + b`, with the chunk's rows of `w`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.ValueIdxCore
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Who meets whom -/

/-- The device `k` places after `c`. -/
def rot (c k : Fin 32) : Fin 32 := ⟨(c.val + k.val) % 32, by omega⟩
/-- The device `c`'s `q`-th transfer goes to: groups of four downwards from `c`'s own, in order inside a group. -/
def tgt (c q : Fin 32) : Fin 32 := ⟨((c.val / 4 + 8 - q.val / 4) % 8) * 4 + q.val % 4, by omega⟩
/-- The device whose block `c` waits for `u`-th: groups of four upwards from `c`'s own. -/
def src (c u : Fin 32) : Fin 32 := ⟨4 * ((c.val / 4 + u.val / 4) % 8) + u.val % 4, by omega⟩
/-- The `j`-th chunk of `w` device `c` takes. -/
def chk (c : Fin 32) (j : ℕ) : Fin 8 := ⟨(c.val / 4 + j) % 8, by omega⟩

def rotE (c : Fin 32) : Fin 32 ≃ Fin 32 where
  toFun := rot c
  invFun r := ⟨(r.val + 32 - c.val) % 32, by omega⟩
  left_inv k := Fin.ext (by simp only [rot]; omega)
  right_inv k := Fin.ext (by simp only [rot]; omega)
def tgtE (c : Fin 32) : Fin 32 ≃ Fin 32 where
  toFun := tgt c
  invFun := tgt c
  left_inv k := Fin.ext (by simp only [tgt]; omega)
  right_inv k := Fin.ext (by simp only [tgt]; omega)
def srcE (c : Fin 32) : Fin 32 ≃ Fin 32 where
  toFun := src c
  invFun s := ⟨4 * ((s.val / 4 + 8 - c.val / 4) % 8) + s.val % 4, by omega⟩
  left_inv k := Fin.ext (by simp only [src]; omega)
  right_inv k := Fin.ext (by simp only [src]; omega)
def chkE (c : Fin 32) : Fin 8 ≃ Fin 8 where
  toFun j := chk c j.val
  invFun g := ⟨(g.val + 8 - c.val / 4) % 8, by omega⟩
  left_inv k := Fin.ext (by simp only [chk]; omega)
  right_inv k := Fin.ext (by simp only [chk]; omega)

theorem rot_zero (c : Fin 32) : rot c 0 = c := Fin.ext (by simp only [rot]; omega)
theorem rot_ne (c k : Fin 32) (h : 1 ≤ k.val) : rot c k ≠ c := fun e => by
  have := congrArg Fin.val e; simp only [rot] at this; omega

/-! ## Initial and final segments of a finite index -/

/-- The indices from `n` on. -/
def geF (N n : ℕ) : Finset (Fin N) := Finset.univ.filter fun i => n ≤ i.val
/-- The indices before `n`. -/
def ltF (N n : ℕ) : Finset (Fin N) := Finset.univ.filter fun i => i.val < n

theorem geF_zero (N : ℕ) : geF N 0 = Finset.univ := by ext i; simp [geF]
theorem geF_end (N : ℕ) : geF N N = ∅ := by ext i; simp [geF]
theorem ltF_zero (N : ℕ) : ltF N 0 = ∅ := by ext i; simp [ltF]
theorem ltF_end (N : ℕ) : ltF N N = Finset.univ := by ext i; simp [ltF]
theorem geF_succ {N n : ℕ} (h : n < N) : geF N n = insert ⟨n, h⟩ (geF N (n + 1)) := by
  ext i; simp only [geF, Finset.mem_filter, Finset.mem_univ, true_and, Finset.mem_insert, Fin.ext_iff]; omega
theorem ltF_succ {N n : ℕ} (h : n < N) : ltF N (n + 1) = insert ⟨n, h⟩ (ltF N n) := by
  ext i; simp only [ltF, Finset.mem_filter, Finset.mem_univ, true_and, Finset.mem_insert, Fin.ext_iff]; omega
theorem not_mem_geF {N n : ℕ} (h : n < N) : (⟨n, h⟩ : Fin N) ∉ geF N (n + 1) := by simp [geF]
theorem not_mem_ltF {N n : ℕ} (h : n < N) : (⟨n, h⟩ : Fin N) ∉ ltF N n := by simp [ltF]

omit [FloatOps F] in
theorem bigSep_ge {N n : ℕ} (h : n < N) (Φ : Fin N → sProp 𝕄) :
    bigSep (geF N n) Φ = iprop(Φ ⟨n, h⟩ ∗ bigSep (geF N (n + 1)) Φ) := by
  rw [geF_succ h]; exact BI.bigSep_insert (not_mem_geF h)
omit [FloatOps F] in
theorem bigSep_lt {N n : ℕ} (h : n < N) (Φ : Fin N → sProp 𝕄) :
    bigSep (ltF N (n + 1)) Φ = iprop(Φ ⟨n, h⟩ ∗ bigSep (ltF N n) Φ) := by
  rw [ltF_succ h]; exact BI.bigSep_insert (not_mem_ltF h)

/-! ## The memrefs and the semaphores -/

abbrev xM : Memref sig .tc .vmem S8192x256 .f32 := Memref.whole cc0_stg0_0
abbrev oM : Memref sig .tc .vmem S256x4096 .f32 := Memref.whole cc0_stg1_0
abbrev wM : Memref sig .tc .hbm S8192x4096 .f32 := Memref.whole main_arg1
abbrev xbM : Memref sig .tc .vmem S8192x256 .bf16 := Memref.whole cc0_scratch0
abbrev rbM : Memref sig .tc .vmem S256x8192 .bf16 := Memref.whole cc0_scratch1
abbrev wbM : Memref sig .tc .vmem S2x1024x4096 .f32 := Memref.whole cc0_scratch2

theorem inbRow (r : Fin 32) : ∀ a, (![256 * r.val, 0] : Fin 2 → ℕ) a + S256x256.size a ≤ S8192x256.size a :=
  Rect.inb₂ (by show 256 * r.val + 256 ≤ 8192; omega) (by show 0 + 256 ≤ 256; omega)
theorem inbCol (s : Fin 32) : ∀ a, (![0, 256 * s.val] : Fin 2 → ℕ) a + S256x256.size a ≤ S256x8192.size a :=
  Rect.inb₂ (by show 0 + 256 ≤ 256; omega) (by show 256 * s.val + 256 ≤ 8192; omega)
theorem inbW (g : Fin 8) : ∀ a, (![1024 * g.val, 0] : Fin 2 → ℕ) a + S1024x4096.size a ≤ S8192x4096.size a :=
  Rect.inb₂ (by show 1024 * g.val + 1024 ≤ 8192; omega) (by show 0 + 4096 ≤ 4096; omega)
theorem inbChunk (g : Fin 8) : ∀ a, (![0, 1024 * g.val] : Fin 2 → ℕ) a + S256x1024.size a ≤ S256x8192.size a :=
  Rect.inb₂ (by show 0 + 256 ≤ 256; omega) (by show 1024 * g.val + 1024 ≤ 8192; omega)
theorem inbSlot (b : Fin 2) : ∀ a, (![b.val, 0, 0] : Fin 3 → ℕ) a + S1x1024x4096.size a ≤ S2x1024x4096.size a := by
  revert b; decide +kernel

/-- The row block `r` of the rounded columns. -/
abbrev rowV (r : Fin 32) : Memref sig .tc .vmem S256x256 .bf16 :=
  xbM.slice (Rect.unit (s := S8192x256) ![256 * r.val, 0] S256x256.size (inbRow r)) (fun _ => rfl)
/-- The column block `s` of the receive buffer. -/
abbrev colV (s : Fin 32) : Memref sig .tc .vmem S256x256 .bf16 :=
  rbM.slice (Rect.unit (s := S256x8192) ![0, 256 * s.val] S256x256.size (inbCol s)) (fun _ => rfl)
/-- The rows of `w` in chunk `g`. -/
abbrev wV (g : Fin 8) : Memref sig .tc .hbm S1024x4096 .f32 :=
  wM.slice (Rect.unit (s := S8192x4096) ![1024 * g.val, 0] S1024x4096.size (inbW g)) (fun _ => rfl)
/-- Slot `b` of the weight buffer, its leading axis kept. -/
abbrev slotU (b : Fin 2) : Memref sig .tc .vmem S1x1024x4096 .f32 :=
  wbM.slice (Rect.unit (s := S2x1024x4096) ![b.val, 0, 0] S1x1024x4096.size (inbSlot b)) (fun _ => rfl)
/-- Slot `b` of the weight buffer. -/
abbrev slotV (b : Fin 2) : Memref sig .tc .vmem S1024x4096 .f32 :=
  (slotU b).squeeze S1024x4096 squeezes_S1x1024x4096_S1024x4096

abbrev barS : Sem sig := (SemArray.scalar (sig.barrier 0 rfl) : Sems sig S_).sem
def sndS (q : Fin 32) : DmaSem sig := ⟨q.val + 2, by show q.val + 2 < 68; omega⟩
def rcvS (s : Fin 32) : DmaSem sig := ⟨s.val + 34, by show s.val + 34 < 68; omega⟩
def wgtS (b : Fin 2) : DmaSem sig := ⟨b.val + 66, by show b.val + 66 < 68; omega⟩

abbrev barCell (c : Dev nD) : GSem nD τ sig := ((c : Thread nD τ), .reg barS)
abbrev sndCell (c : Dev nD) (q : Fin 32) : GSem nD τ sig := ((c : Thread nD τ), .dma (sndS q))
abbrev rcvCell (c : Dev nD) (s : Fin 32) : GSem nD τ sig := ((c : Thread nD τ), .dma (rcvS s))
abbrev wgtCell (c : Dev nD) (b : Fin 2) : GSem nD τ sig := ((c : Thread nD τ), .dma (wgtS b))

/-- What a semaphore is for. -/
inductive Kd where
  | bar | snd (q : Fin 32) | rcv (s : Fin 32) | wgt (b : Fin 2) | other
deriving DecidableEq

def kd : SemLoc sig → Kd
  | .reg _ => .bar
  | .dma i =>
    if i.val < 2 then .other
    else if h : i.val - 2 < 32 then .snd ⟨i.val - 2, h⟩
    else if h : i.val - 34 < 32 then .rcv ⟨i.val - 34, h⟩
    else if h : i.val - 66 < 2 then .wgt ⟨i.val - 66, h⟩
    else .other

theorem kd_bar : kd (.reg barS) = .bar := rfl
theorem kd_snd (q : Fin 32) : kd (.dma (sndS q)) = .snd q := by revert q; decide +kernel
theorem kd_rcv (s : Fin 32) : kd (.dma (rcvS s)) = .rcv s := by revert s; decide +kernel
theorem kd_wgt (b : Fin 2) : kd (.dma (wgtS b)) = .wgt b := by revert b; decide +kernel

/-- The credit of one block's transfer, and of one weight chunk's. -/
def N : ℕ := (colV 0).view.dmaCredit
def NW : ℕ := (slotV 0).view.dmaCredit
theorem N_pos : 0 < N := View.dmaCredit_pos _ (by decide)
theorem NW_pos : 0 < NW := View.dmaCredit_pos _ (by decide)
theorem col_credit (s : Fin 32) : (colV s).view.dmaCredit = N := rfl
theorem row_credit (r : Fin 32) : (rowV r).view.dmaCredit = N := rfl
theorem slot_credit (b : Fin 2) : (slotV b).view.dmaCredit = NW := rfl

/-! ## Contents -/

/-- Device `c`'s columns of `x`, as staged. -/
def xstg (c : Dev nD) : (cc0_stg0_0 : Ref sig .tc).ty.Contents (Elt F) :=
  (win0_0.blk (0 : Fin 1)).view.read (Elt F) ((s₀ m ρ).mem ((c : Thread nD τ).loc main_arg0))
/-- Its columns rounded to bfloat16. -/
def xb (c : Dev nD) : (cc0_scratch0 : Ref sig .tc).ty.Contents (Elt F) := k0_pay2 (k0_pay1 (xstg m ρ c))
/-- Its copy of `w`. -/
def wArr (c : Dev nD) : (main_arg1 : Ref sig .tc).ty.Contents (Elt F) := (s₀ m ρ).mem ((c : Thread nD τ).loc main_arg1)

/-- The receive buffer once everything has landed: row `i`, column `k` is row `256 c + i` of device `k / 256`'s
    column `k % 256`. -/
def landed (c : Dev nD) : (cc0_scratch1 : Ref sig .tc).ty.Contents (Elt F) := fun i =>
  xb m ρ ⟨(i 1).val / 256, by have : (i 1).val < 8192 := (i 1).isLt; show _ < 32; omega⟩
    (ix2 (n0 := 8192) (n1 := 256) ⟨256 * c.val + (i 0).val, by have : (i 0).val < 256 := (i 0).isLt; have : c.val < 32 := c.isLt; omega⟩
      ⟨(i 1).val % 256, by omega⟩)
/-- The weight buffer holding chunk `g` (in either slot). -/
def wbuf (c : Dev nD) (g : Fin 8) : (cc0_scratch2 : Ref sig .tc).ty.Contents (Elt F) := fun i =>
  wArr m ρ c (ix2 (n0 := 8192) (n1 := 4096) ⟨1024 * g.val + (i 1).val, by have : (i 1).val < 1024 := (i 1).isLt; omega⟩
    ⟨(i 2).val, (i 2).isLt⟩)

/-! ### The pieces held -/

def rowPts (c : Dev nD) (r : Fin 32) : sProp 𝕄 :=
  (rowV r).view.loc (c : Thread nD τ) ↦[(rowV r).view.set]{fullShare} xb m ρ c
def colPts (c : Dev nD) (s : Fin 32) (f : (cc0_scratch1 : Ref sig .tc).ty.Contents (Elt F)) : sProp 𝕄 :=
  (colV s).view.loc (c : Thread nD τ) ↦[(colV s).view.set]{fullShare} f
def wPts (c : Dev nD) (g : Fin 8) : sProp 𝕄 :=
  (wV g).view.loc (c : Thread nD τ) ↦[(wV g).view.set]{fullShare} wArr m ρ c
def slotPts (c : Dev nD) (b : Fin 2) (f : (cc0_scratch2 : Ref sig .tc).ty.Contents (Elt F)) : sProp 𝕄 :=
  (slotV b).view.loc (c : Thread nD τ) ↦[(slotV b).view.set]{fullShare} f

omit [FloatOps F] in
instance colPts_storable (c : Dev nD) (s f) : BI.Storable (upEmb : UEmb _ 𝕄) (colPts (F := F) c s f) := by unfold colPts; infer_instance
instance rowPts_storable (c : Dev nD) (r) : BI.Storable (upEmb : UEmb _ 𝕄) (rowPts (F := F) m ρ c r) := by unfold rowPts; infer_instance
omit [FloatOps F] in
instance wPts_storable (c : Dev nD) (g) : BI.Storable (upEmb : UEmb _ 𝕄) (wPts (F := F) m ρ c g) := by unfold wPts; infer_instance
omit [FloatOps F] in
instance slotPts_storable (c : Dev nD) (b f) : BI.Storable (upEmb : UEmb _ 𝕄) (slotPts (F := F) c b f) := by unfold slotPts; infer_instance

/-- The row block device `c` copies to itself. -/
def ownRow (c : Dev nD) (s : Fin 32) : sProp 𝕄 := if s = c then rowPts m ρ c c else iprop(emp)
instance ownRow_storable (c : Dev nD) (s) : BI.Storable (upEmb : UEmb _ 𝕄) (ownRow (F := F) m ρ c s) := by
  unfold ownRow; split <;> infer_instance

/-! ## The schedule -/

def dutiesOf (c : Dev nD) : Kd → ℕ → Finset (Dev nD)
  | .bar, r => if r = 0 then Finset.univ.erase c else ∅
  | .snd q, r => if r = 0 ∧ tgt c q ≠ c then {c} else ∅
  | .rcv s, r => if r = 0 then {s} else ∅
  | .wgt _, r => if r < 4 then {c} else ∅
  | .other, _ => ∅
def amountOf : Kd → ℕ
  | .bar => 1 | .snd _ => N | .rcv _ => N | .wgt _ => NW | .other => 1
def payOf (c : Dev nD) : Kd → ℕ → Dev nD → sProp 𝕄
  | .bar, _, d => iprop(∃ f, colPts d c f)
  | .snd q, _, _ => rowPts m ρ c (tgt c q)
  | .rcv s, _, _ => iprop(colPts c s (landed m ρ c) ∗ ownRow m ρ c s)
  | .wgt b, r, _ => iprop(slotPts c b (wbuf m ρ c (chk c (2 * r + b.val))) ∗ wPts m ρ c (chk c (2 * r + b.val)))
  | .other, _, _ => iprop(emp)

def Rd : Rounds.Schedule (GSem nD τ sig) (Dev nD) 𝕄 where
  duties g r := if g.1.2 = .tc then dutiesOf g.1.1 (kd g.2) r else ∅
  unitless _ := False
  amount g _ _ := amountOf (kd g.2)
  payload g r d := payOf m ρ g.1.1 (kd g.2) r d
  amount_pos g _ _ _ := by
    cases kd g.2
    · exact Nat.one_pos
    · exact N_pos
    · exact N_pos
    · exact NW_pos
    · exact Nat.one_pos

instance Rd_payload_storable (g : GSem nD τ sig) (r : ℕ) (d : Dev nD) :
    BI.Storable (upEmb : UEmb _ 𝕄) ((Rd (F := F) m ρ).payload g r d) := by
  show BI.Storable upEmb (payOf m ρ g.1.1 (kd g.2) r d)
  cases kd g.2 <;> (unfold payOf; infer_instance)

section Sched
variable (c : Dev nD)

theorem duties_tc (sm : SemLoc sig) (r : ℕ) : (Rd (F := F) m ρ).duties ((c : Thread nD τ), sm) r = dutiesOf c (kd sm) r := by
  dsimp only [Rd]; exact if_pos rfl
theorem duties_bar : (Rd (F := F) m ρ).duties (barCell c) 0 = Finset.univ.erase c := by
  rw [duties_tc, kd_bar]; simp only [dutiesOf, if_true]
theorem duties_snd (q) (h : tgt c q ≠ c) : (Rd (F := F) m ρ).duties (sndCell c q) 0 = {c} := by
  rw [duties_tc, kd_snd]; exact if_pos ⟨rfl, h⟩
theorem duties_rcv (s) : (Rd (F := F) m ρ).duties (rcvCell c s) 0 = {s} := by
  rw [duties_tc, kd_rcv]; simp only [dutiesOf, if_true]
theorem duties_wgt (b) {r} (h : r < 4) : (Rd (F := F) m ρ).duties (wgtCell c b) r = {c} := by
  rw [duties_tc, kd_wgt]; exact if_pos h
theorem duties_bar_later : ∀ r, 1 ≤ r → (Rd (F := F) m ρ).duties (barCell c) r = ∅ := fun r hr => by
  rw [duties_tc, kd_bar]; exact if_neg (by omega)
theorem duties_snd_later (q) : ∀ r, 1 ≤ r → (Rd (F := F) m ρ).duties (sndCell c q) r = ∅ := fun r hr => by
  rw [duties_tc, kd_snd]; exact if_neg (by omega)
theorem duties_snd_self (q) (h : tgt c q = c) : ∀ r, 0 ≤ r → (Rd (F := F) m ρ).duties (sndCell c q) r = ∅ := fun r hr => by
  rw [duties_tc, kd_snd]; exact if_neg (fun h' => h'.2 h)
theorem duties_rcv_later (s) : ∀ r, 1 ≤ r → (Rd (F := F) m ρ).duties (rcvCell c s) r = ∅ := fun r hr => by
  rw [duties_tc, kd_rcv]; exact if_neg (by omega)
theorem duties_wgt_later (b) : ∀ r, 4 ≤ r → (Rd (F := F) m ρ).duties (wgtCell c b) r = ∅ := fun r hr => by
  rw [duties_tc, kd_wgt]; exact if_neg (by omega)

theorem amount_bar (r d) : (Rd (F := F) m ρ).amount (barCell c) r d = 1 := rfl
theorem amount_snd (q r d) : (Rd (F := F) m ρ).amount (sndCell c q) r d = N := by
  show amountOf (kd _) = N; rw [kd_snd]; rfl
theorem amount_rcv (s r d) : (Rd (F := F) m ρ).amount (rcvCell c s) r d = N := by
  show amountOf (kd _) = N; rw [kd_rcv]; rfl
theorem amount_wgt (b r d) : (Rd (F := F) m ρ).amount (wgtCell c b) r d = NW := by
  show amountOf (kd _) = NW; rw [kd_wgt]; rfl

theorem expect_bar : (Rd (F := F) m ρ).expect (barCell c) 0 = 31 := by
  unfold Schedule.expect Schedule.amountOf
  rw [duties_bar, Finset.sum_congr rfl fun d _ => amount_bar m ρ c 0 d, Finset.sum_const, Finset.card_erase_of_mem (Finset.mem_univ _),
    Finset.card_univ, Fintype.card_fin, smul_eq_mul]
  rfl
theorem expect_snd (q) (h : tgt c q ≠ c) : (Rd (F := F) m ρ).expect (sndCell c q) 0 = N := by
  unfold Schedule.expect Schedule.amountOf; rw [duties_snd m ρ c q h, Finset.sum_singleton, amount_snd]
theorem expect_rcv (s) : (Rd (F := F) m ρ).expect (rcvCell c s) 0 = N := by
  unfold Schedule.expect Schedule.amountOf; rw [duties_rcv, Finset.sum_singleton, amount_rcv]
theorem expect_wgt (b) {r} (h : r < 4) : (Rd (F := F) m ρ).expect (wgtCell c b) r = NW := by
  unfold Schedule.expect Schedule.amountOf; rw [duties_wgt m ρ c b h, Finset.sum_singleton, amount_wgt]

theorem pay_bar (r d) : (Rd (F := F) m ρ).payload (barCell c) r d = iprop(∃ f, colPts d c f) := rfl
theorem pay_snd (q r d) : (Rd (F := F) m ρ).payload (sndCell c q) r d = rowPts m ρ c (tgt c q) := by
  show payOf m ρ c (kd _) r d = _; rw [kd_snd]; rfl
theorem pay_rcv (s r d) : (Rd (F := F) m ρ).payload (rcvCell c s) r d = iprop(colPts c s (landed m ρ c) ∗ ownRow m ρ c s) := by
  show payOf m ρ c (kd _) r d = _; rw [kd_rcv]; rfl
theorem pay_wgt (b r d) : (Rd (F := F) m ρ).payload (wgtCell c b) r d
    = iprop(slotPts c b (wbuf m ρ c (chk c (2 * r + b.val))) ∗ wPts m ρ c (chk c (2 * r + b.val))) := by
  show payOf m ρ c (kd _) r d = _; rw [kd_wgt]; rfl

theorem rest_bar : bigSep ((Rd (F := F) m ρ).duties (barCell c) 0 \ ∅) (fun d => (Rd (F := F) m ρ).payload (barCell c) 0 d)
    = bigSep (Finset.univ.erase c) (fun d => iprop(∃ f, colPts d c f)) := by
  rw [Finset.sdiff_empty, duties_bar]; rfl
theorem rest_snd (q) (h : tgt c q ≠ c) : bigSep ((Rd (F := F) m ρ).duties (sndCell c q) 0 \ ∅) (fun d => (Rd (F := F) m ρ).payload (sndCell c q) 0 d)
    = rowPts m ρ c (tgt c q) := by
  rw [Finset.sdiff_empty, duties_snd m ρ c q h, bigSep_singleton, pay_snd]
theorem rest_rcv (s) : bigSep ((Rd (F := F) m ρ).duties (rcvCell c s) 0 \ ∅) (fun d => (Rd (F := F) m ρ).payload (rcvCell c s) 0 d)
    = iprop(colPts c s (landed m ρ c) ∗ ownRow m ρ c s) := by
  rw [Finset.sdiff_empty, duties_rcv, bigSep_singleton, pay_rcv]
theorem rest_wgt (b) {r} (h : r < 4) : bigSep ((Rd (F := F) m ρ).duties (wgtCell c b) r \ ∅) (fun d => (Rd (F := F) m ρ).payload (wgtCell c b) r d)
    = iprop(slotPts c b (wbuf m ρ c (chk c (2 * r + b.val))) ∗ wPts m ρ c (chk c (2 * r + b.val))) := by
  rw [Finset.sdiff_empty, duties_wgt m ρ c b h, bigSep_singleton, pay_wgt]

end Sched

/-! ## What each device owes; the levels -/

/-- The barrier units still owed before signal `n`. -/
def Obar (c : Dev nD) (n : ℕ) : CellTallies nD τ sig Unit := ∑ k ∈ geF 32 n, tallyAt (barCell (rot c k)) () 1
/-- The transfers still owed before transfer `n`. -/
def Orcv (c : Dev nD) (n : ℕ) : CellTallies nD τ sig Unit :=
  ∑ q ∈ geF 32 n, if tgt c q = c then 0 else tallyAt (rcvCell (tgt c q) c) () N
def O₀ (c : Dev nD) : CellTallies nD τ sig Unit := Orcv c 0 + Obar c 1

theorem Obar_peel (c : Dev nD) {n : ℕ} (h : n < 32) : Obar c n = Obar c (n + 1) + tallyAt (barCell (rot c ⟨n, h⟩)) () 1 := by
  unfold Obar; rw [geF_succ h, Finset.sum_insert (not_mem_geF h), add_comm]
theorem Obar_end (c : Dev nD) : Obar c 32 = 0 := by unfold Obar; rw [geF_end, Finset.sum_empty]
theorem Orcv_peel (c : Dev nD) {n : ℕ} (h : n < 32) (hne : tgt c ⟨n, h⟩ ≠ c) :
    Orcv c n = Orcv c (n + 1) + tallyAt (rcvCell (tgt c ⟨n, h⟩) c) () N := by
  unfold Orcv; rw [geF_succ h, Finset.sum_insert (not_mem_geF h), if_neg hne, add_comm]
theorem Orcv_skip (c : Dev nD) {n : ℕ} (h : n < 32) (he : tgt c ⟨n, h⟩ = c) : Orcv c n = Orcv c (n + 1) := by
  unfold Orcv; rw [geF_succ h, Finset.sum_insert (not_mem_geF h), if_pos he, zero_add]
theorem Orcv_end (c : Dev nD) : Orcv c 32 = 0 := by unfold Orcv; rw [geF_end, Finset.sum_empty]

def L (g : GSem nD τ sig) : Finset Unit := if g.1.2 = .tc then {()} else ∅
def lvOf : Kd → ℕ
  | .bar => 1 | .rcv _ => 2 | _ => 0
/-- Barrier cells at 1, receive cells at 2, everything else at 0. -/
def lv (g : GSem nD τ sig) (_ : Unit) : ℕ := lvOf (kd g.2)

theorem L_of_ne (g : GSem nD τ sig) (h : g.1.2 ≠ .tc) : L g = ∅ := if_neg h
theorem L_tc (c : Dev nD) (sm : SemLoc sig) : L ((c : Thread nD τ), sm) = {()} := if_pos rfl

theorem Orcv_pos {c : Dev nD} {n : ℕ} {g : GSem nD τ sig} {u : Unit} (h : 0 < Orcv c n g u) : ∃ d, g = rcvCell d c := by
  unfold Orcv at h
  rw [Finset.sum_apply, Finsupp.finset_sum_apply] at h
  obtain ⟨q, -, hq⟩ := Finset.exists_ne_zero_of_sum_ne_zero (Nat.pos_iff_ne_zero.mp h)
  by_cases ht : tgt c q = c
  · rw [if_pos ht] at hq; exact absurd rfl hq
  · rw [if_neg ht, tallyAt_apply] at hq
    by_cases hg : g = rcvCell (tgt c q) c ∧ u = ()
    · exact ⟨_, hg.1⟩
    · rw [if_neg hg] at hq; exact absurd rfl hq
theorem Obar_pos {c : Dev nD} {n : ℕ} {g : GSem nD τ sig} {u : Unit} (h : 0 < Obar c n g u) : ∃ d, g = barCell d := by
  unfold Obar at h
  rw [Finset.sum_apply, Finsupp.finset_sum_apply] at h
  obtain ⟨q, -, hq⟩ := Finset.exists_ne_zero_of_sum_ne_zero (Nat.pos_iff_ne_zero.mp h)
  rw [tallyAt_apply] at hq
  by_cases hg : g = barCell (rot c q) ∧ u = ()
  · exact ⟨_, hg.1⟩
  · rw [if_neg hg] at hq; exact absurd rfl hq
theorem O₀_pos {c : Dev nD} {g : GSem nD τ sig} {u : Unit} (h : 0 < O₀ c g u) : (∃ d, g = rcvCell d c) ∨ ∃ d, g = barCell d := by
  unfold O₀ at h
  rw [Pi.add_apply, Finsupp.add_apply] at h
  rcases Nat.eq_zero_or_pos (Orcv c 0 g u) with h0 | h0
  · rw [h0, zero_add] at h; exact .inr (Obar_pos h)
  · exact .inl (Orcv_pos h0)

/-- A semaphore at level 0 may be waited on while everything of the launch is owed, or nothing. -/
theorem mayWait_stage (c : Dev nD) (q : DmaSem sig) (hq : lvOf (kd (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; exact le_of_eq hq)
      (fun g u hg => by
        rcases O₀_pos hg with ⟨d, rfl⟩ | ⟨d, rfl⟩
        · show 0 < lvOf (kd _); rw [kd_rcv]; exact Nat.two_pos
        · show 0 < lvOf (kd _); rw [kd_bar]; decide)
  · rw [MayWait_zero]; iintro -; iempintro

/-- At its barrier wait a device owes transfers only: receive cells, above its barrier cell. -/
theorem mayWait_bar (c : Dev nD) (n : ℕ) :
    (levAts L lv : sProp 𝕄) ⊢ MayWait (c : Thread nD τ) (.reg barS) () (Orcv c n) :=
  MayOwe.of_cut (L := L) (lev := lv) 1 (fun p hp => by rw [Finset.mem_singleton.mp hp, L_tc]; exact Finset.mem_singleton_self _)
    (fun g u hg => by obtain ⟨d, rfl⟩ := Orcv_pos hg; exact Finset.mem_singleton_self _)
    (fun p hp => by rw [Finset.mem_singleton.mp hp]; exact le_of_eq (congrArg lvOf kd_bar))
    (fun g u hg => by
      obtain ⟨d, rfl⟩ := Orcv_pos hg
      show 1 < lvOf (kd _); rw [kd_rcv]; exact Nat.lt_succ_self _)

end Cert.Exchange

end
-- ==== Proof.Views.lean ====
/-
# Blocks of the buffers

Which elements each view covers, that a buffer is the union of its blocks, and what a transfer writes.
-/
module
public import proofs.«01_k».proof.Proof.Protocol
@[expose] public section
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
variable {F : FTy → Type} [FloatOps F]
local notation "𝕄" => MT nD τ sig Unit (Elt F) ℕ UU ℕ

variable (m : (ℓ : Loc nD τ sig) → Buf (Elt F) ℓ) (ρ : Dev nD → PrngReg)

/-! ## Which elements a view covers -/

theorem mem_row (r : Fin 32) (i : S8192x256.Idx) : i ∈ (rowV r).view.set ↔ (i 0).val / 256 = r.val := by
  have h0 : (i 0).val < 8192 := (i 0).isLt
  have h1 : (i 1).val < 256 := (i 1).isLt
  refine (iff_of_eq (congrArg (fun S : Finset S8192x256.Idx => i ∈ S) (View.set_slice_whole cc0_scratch0 _))).trans (Rect.mem_set_unit.trans ?_)
  rw [Fin.forall_fin_two]
  show (256 * r.val ≤ (i 0).val ∧ (i 0).val < 256 * r.val + 256) ∧ (0 ≤ (i 1).val ∧ (i 1).val < 0 + 256) ↔ _
  omega
theorem mem_col (s : Fin 32) (i : S256x8192.Idx) : i ∈ (colV s).view.set ↔ (i 1).val / 256 = s.val := by
  have h0 : (i 0).val < 256 := (i 0).isLt
  have h1 : (i 1).val < 8192 := (i 1).isLt
  refine (iff_of_eq (congrArg (fun S : Finset S256x8192.Idx => i ∈ S) (View.set_slice_whole cc0_scratch1 _))).trans (Rect.mem_set_unit.trans ?_)
  rw [Fin.forall_fin_two]
  show (0 ≤ (i 0).val ∧ (i 0).val < 0 + 256) ∧ (256 * s.val ≤ (i 1).val ∧ (i 1).val < 256 * s.val + 256) ↔ _
  omega
theorem mem_w (g : Fin 8) (i : S8192x4096.Idx) : i ∈ (wV g).view.set ↔ (i 0).val / 1024 = g.val := by
  have h0 : (i 0).val < 8192 := (i 0).isLt
  have h1 : (i 1).val < 4096 := (i 1).isLt
  refine (iff_of_eq (congrArg (fun S : Finset S8192x4096.Idx => i ∈ S) (View.set_slice_whole main_arg1 _))).trans (Rect.mem_set_unit.trans ?_)
  rw [Fin.forall_fin_two]
  show (1024 * g.val ≤ (i 0).val ∧ (i 0).val < 1024 * g.val + 1024) ∧ (0 ≤ (i 1).val ∧ (i 1).val < 0 + 4096) ↔ _
  omega
theorem slot_set (b : Fin 2) : (slotV b).view.set = (slotU b).view.set :=
  View.set_reshape (slotU b).view _
theorem mem_slot (b : Fin 2) (i : S2x1024x4096.Idx) : i ∈ (slotV b).view.set ↔ (i 0).val = b.val := by
  have h0 : (i 0).val < 2 := (i 0).isLt
  have h1 : (i 1).val < 1024 := (i 1).isLt
  have h2 : (i 2).val < 4096 := (i 2).isLt
  rw [slot_set]
  refine (iff_of_eq (congrArg (fun S : Finset S2x1024x4096.Idx => i ∈ S) (View.set_slice_whole cc0_scratch2 _))).trans (Rect.mem_set_unit.trans ?_)
  rw [Fin.forall_fin_succ, Fin.forall_fin_two]
  show (b.val ≤ (i 0).val ∧ (i 0).val < b.val + 1) ∧ (0 ≤ (i 1).val ∧ (i 1).val < 0 + 1024) ∧ (0 ≤ (i 2).val ∧ (i 2).val < 0 + 4096) ↔ _
  omega

/-- The columns of the receive buffer one product reads. -/
abbrev rChunk (g : Fin 8) : Rect S256x8192 := Rect.unit (s := S256x8192) ![0, 1024 * g.val] S256x1024.size (inbChunk g)
/-- Slot `b`, as a rectangle of the weight buffer. -/
abbrev rSlot (b : Fin 2) : Rect S2x1024x4096 := Rect.unit (s := S2x1024x4096) ![b.val, 0, 0] S1x1024x4096.size (inbSlot b)
/-- The column block `4 g + u`. -/
def blk4 (g : Fin 8) (u : Fin 4) : Fin 32 := ⟨4 * g.val + u.val, by omega⟩

theorem mem_chunk (g : Fin 8) (i : S256x8192.Idx) : i ∈ (rbM.access (rChunk g)).set ↔ (i 1).val / 1024 = g.val := by
  have h0 : (i 0).val < 256 := (i 0).isLt
  have h1 : (i 1).val < 8192 := (i 1).isLt
  refine (iff_of_eq (congrArg (fun S : Finset S256x8192.Idx => i ∈ S) (View.set_slice_whole cc0_scratch1 _))).trans (Rect.mem_set_unit.trans ?_)
  rw [Fin.forall_fin_two]
  show (0 ≤ (i 0).val ∧ (i 0).val < 0 + 256) ∧ (1024 * g.val ≤ (i 1).val ∧ (i 1).val < 1024 * g.val + 1024) ↔ _
  omega

/-! ## A whole buffer is its blocks -/

/-- Sets told apart by an index-valued function are disjoint. -/
theorem disj_of_mem {I T : Type} [DecidableEq I] {K : T → Finset I} {φ : I → ℕ} {v : T → ℕ} (hv : Function.Injective v)
    (h : ∀ t i, i ∈ K t ↔ φ i = v t) (t t' : T) (hne : t ≠ t') : Disjoint (K t) (K t') :=
  Finset.disjoint_left.mpr fun i hi hi' => hne (hv (((h t i).mp hi).symm.trans ((h t' i).mp hi')))

omit [FloatOps F] in
theorem whole_eq_blocks {T : Type} [Fintype T] {c : Dev nD} {b : Ref sig .tc} (K : T → Finset b.ty.Idx) (φ : b.ty.Idx → ℕ) (v : T → ℕ)
    (hv : Function.Injective v) (h : ∀ t i, i ∈ K t ↔ φ i = v t) (hc : ∀ i, ∃ t, φ i = v t) (f : b.ty.Contents (Elt F)) :
    (((c : Thread nD τ).loc b ↦{fullShare} f) : sProp 𝕄) = bigSep Finset.univ fun t => (c : Thread nD τ).loc b ↦[K t]{fullShare} f := by
  classical
  refine Eq.trans ?_ (pointsTo_biUnion (ℓ := (c : Thread nD τ).loc b) Finset.univ K fun t _ t' _ hne => disj_of_mem hv h t t' hne)
  refine congrArg (fun S : Finset b.ty.Idx => (((c : Thread nD τ).loc b ↦[S]{fullShare} f) : sProp 𝕄)) ?_
  refine (Finset.eq_univ_iff_forall.mpr fun i => ?_).symm
  obtain ⟨t, ht⟩ := hc i
  exact Finset.mem_biUnion.mpr ⟨t, Finset.mem_univ t, (h t i).mpr ht⟩

theorem xb_blocks (c : Dev nD) :
    (((c : Thread nD τ).loc cc0_scratch0 ↦{fullShare} xb m ρ c) : sProp 𝕄) = bigSep Finset.univ fun r => rowPts m ρ c r :=
  whole_eq_blocks (b := cc0_scratch0) (fun r => (rowV r).view.set) (fun (i : S8192x256.Idx) => (i 0).val / 256) Fin.val Fin.val_injective mem_row
    (fun (i : S8192x256.Idx) => ⟨⟨(i 0).val / 256, by have : (i 0).val < 8192 := (i 0).isLt; omega⟩, rfl⟩) _
omit [FloatOps F] in
theorem rb_blocks (c : Dev nD) (f : (cc0_scratch1 : Ref sig .tc).ty.Contents (Elt F)) :
    (((c : Thread nD τ).loc cc0_scratch1 ↦{fullShare} f) : sProp 𝕄) = bigSep Finset.univ fun s => colPts c s f :=
  whole_eq_blocks (b := cc0_scratch1) (fun r => (colV r).view.set) (fun (i : S256x8192.Idx) => (i 1).val / 256) Fin.val Fin.val_injective mem_col
    (fun (i : S256x8192.Idx) => ⟨⟨(i 1).val / 256, by have : (i 1).val < 8192 := (i 1).isLt; omega⟩, rfl⟩) _
omit [FloatOps F] in
theorem w_blocks (c : Dev nD) :
    (((c : Thread nD τ).loc main_arg1 ↦{fullShare} wArr m ρ c) : sProp 𝕄) = bigSep Finset.univ fun g => wPts m ρ c g :=
  whole_eq_blocks (b := main_arg1) (fun r => (wV r).view.set) (fun (i : S8192x4096.Idx) => (i 0).val / 1024) Fin.val Fin.val_injective mem_w
    (fun (i : S8192x4096.Idx) => ⟨⟨(i 0).val / 1024, by have : (i 0).val < 8192 := (i 0).isLt; omega⟩, rfl⟩) _
omit [FloatOps F] in
theorem wb_blocks (c : Dev nD) (f : (cc0_scratch2 : Ref sig .tc).ty.Contents (Elt F)) :
    (((c : Thread nD τ).loc cc0_scratch2 ↦{fullShare} f) : sProp 𝕄) = iprop(slotPts c 0 f ∗ slotPts c 1 f) :=
  (whole_eq_blocks (b := cc0_scratch2) (fun r => (slotV r).view.set) (fun (i : S2x1024x4096.Idx) => (i 0).val) Fin.val Fin.val_injective mem_slot
    (fun (i : S2x1024x4096.Idx) => ⟨⟨(i 0).val, (i 0).isLt⟩, rfl⟩) f).trans (BI.bigSep_fin_two _)

omit [FloatOps F] in
/-- The four column blocks of chunk `g`, together, are what its product reads. -/
theorem chunk_blocks (c : Dev nD) (g : Fin 8) (f : (cc0_scratch1 : Ref sig .tc).ty.Contents (Elt F)) :
    (((rbM.access (rChunk g)).loc (c : Thread nD τ) ↦[(rbM.access (rChunk g)).set]{fullShare} f) : sProp 𝕄)
      = bigSep Finset.univ fun u => colPts c (blk4 g u) f := by
  classical
  have hset : ((rbM.access (rChunk g)).set : Finset S256x8192.Idx) = (Finset.univ : Finset (Fin 4)).biUnion fun u => ((colV (blk4 g u)).view.set : Finset S256x8192.Idx) := by
    ext i
    refine (mem_chunk g i).trans ⟨fun h => ?_, fun h => ?_⟩
    · have hu : (blk4 g ⟨(i 1).val / 256 % 4, by omega⟩).val = (i 1).val / 256 := by simp only [blk4]; omega
      exact Finset.mem_biUnion.mpr ⟨⟨(i 1).val / 256 % 4, by omega⟩, Finset.mem_univ _, (mem_col (blk4 g _) i).mpr hu.symm⟩
    · obtain ⟨u, -, hu⟩ := Finset.mem_biUnion.mp h
      have := (mem_col (blk4 g u) i).mp hu
      simp only [blk4] at this
      omega
  refine Eq.trans ?_ (pointsTo_biUnion (ℓ := (c : Thread nD τ).loc cc0_scratch1) Finset.univ (fun u : Fin 4 => ((colV (blk4 g u)).view.set : Finset S256x8192.Idx))
    fun t _ t' _ hne => disj_of_mem (v := fun u => (blk4 g u).val) (φ := fun i : S256x8192.Idx => (i 1).val / 256)
      (fun a b h => Fin.ext (by simp only [blk4] at h; omega)) (fun t i => mem_col (blk4 g t) i) t t' hne)
  exact congrArg (fun S : Finset S256x8192.Idx => (((c : Thread nD τ).loc cc0_scratch1 ↦[S]{fullShare} f) : sProp 𝕄)) hset

/-! ## What lands -/

/-- Device `s`'s row block `t`, written to its place in device `t`'s receive buffer. -/
theorem col_write (s t : Dev nD) (fn : (cc0_scratch1 : Ref sig .tc).ty.Contents (Elt F)) :
    ∀ i ∈ (colV s).view.set, (colV s).view.write (Elt F) fn ((rowV t).view.read (Elt F) (xb m ρ s)) Finset.univ i = landed m ρ t i := by
  intro i hi
  obtain ⟨x, -, rfl⟩ := Finset.mem_map.mp hi
  rw [View.write_emb_of_mem _ _ (Finset.mem_univ x), View.read_apply]
  have h0 : (x 0).val < 256 := (x 0).isLt
  have h1 : (x 1).val < 256 := (x 1).isLt
  have e0 : ((colV s).view.emb x 0).val = (x 0).val := by show 0 + 1 * (x 0).val = _; omega
  have e1 : ((colV s).view.emb x 1).val = 256 * s.val + (x 1).val := by show 256 * s.val + 1 * (x 1).val = _; omega
  show xb m ρ s ((rowV t).view.emb x) = landed m ρ t ((colV s).view.emb x)
  unfold landed
  have es : (⟨((colV s).view.emb x 1).val / 256, by rw [e1]; show _ < 32; have : s.val < 32 := s.isLt; omega⟩ : Dev nD) = s := Fin.ext (by simp only [e1]; omega)
  rw [es]
  congr 1
  funext a
  match a with
  | ⟨0, _⟩ => exact Fin.ext (by show 256 * t.val + 1 * (x 0).val = 256 * t.val + ((colV s).view.emb x 0).val; rw [e0]; omega)
  | ⟨1, _⟩ => exact Fin.ext (by show 0 + 1 * (x 1).val = ((colV s).view.emb x 1).val % 256; rw [e1]; omega)

/-- Chunk `g` of `w`, written to a slot. -/
theorem slot_write (c : Dev nD) (b : Fin 2) (g : Fin 8) (fn : (cc0_scratch2 : Ref sig .tc).ty.Contents (Elt F)) :
    ∀ i ∈ (slotV b).view.set, (slotV b).view.write (Elt F) fn ((wV g).view.read (Elt F) (wArr m ρ c)) Finset.univ i = wbuf m ρ c g i := by
  intro i hi
  obtain ⟨x, -, rfl⟩ := Finset.mem_map.mp hi
  rw [View.write_emb_of_mem _ _ (Finset.mem_univ x), View.read_apply]
  have hx : (slotV b).view.emb x = (slotU b).view.emb (Fin.cons ⟨0, Nat.one_pos⟩ x) := by
    show (slotU b).view.emb (Shape.reshapeEquiv _ x) = _
    exact congrArg _ (Shape.reshapeEquiv_cons_one _ x)
  have e1 : ((slotV b).view.emb x 1).val = (x 0).val := by rw [hx]; show 0 + 1 * (x 0).val = _; omega
  have e2 : ((slotV b).view.emb x 2).val = (x 1).val := by rw [hx]; show 0 + 1 * (x 1).val = _; omega
  show wArr m ρ c ((wV g).view.emb x) = wbuf m ρ c g ((slotV b).view.emb x)
  unfold wbuf
  congr 1
  funext a
  match a with
  | ⟨0, _⟩ => exact Fin.ext (by show 1024 * g.val + 1 * (x 0).val = 1024 * g.val + ((slotV b).view.emb x 1).val; rw [e1]; omega)
  | ⟨1, _⟩ => exact Fin.ext (by show 0 + 1 * (x 1).val = ((slotV b).view.emb x 2).val; rw [e2]; omega)

/-! ## What a product reads -/

/-- The four landed blocks of chunk `g`. -/
def xin (c : Dev nD) (g : Fin 8) : Vec F S256x1024 .bf16 := (rbM.access (rChunk g)).read (Elt F) (landed m ρ c)
/-- Chunk `g` of `w`. -/
def win (c : Dev nD) (g : Fin 8) : Vec F S1x1024x4096 .f32 := fun i =>
  wArr m ρ c (ix2 (n0 := 8192) (n1 := 4096) ⟨1024 * g.val + (i 1).val, by have : (i 1).val < 1024 := (i 1).isLt; omega⟩ ⟨(i 2).val, (i 2).isLt⟩)

theorem read_slot (c : Dev nD) (b : Fin 2) (g : Fin 8) : (wbM.access (rSlot b)).read (Elt F) (wbuf m ρ c g) = win m ρ c g := by
  funext x
  show wbuf m ρ c g ((slotU b).view.emb x) = win m ρ c g x
  have e1 : ((slotU b).view.emb x 1).val = (x 1).val := by show 0 + 1 * (x 1).val = _; omega
  have e2 : ((slotU b).view.emb x 2).val = (x 2).val := by show 0 + 1 * (x 2).val = _; omega
  unfold wbuf win
  congr 1
  funext a
  match a with
  | ⟨0, _⟩ => exact Fin.ext (by show 1024 * g.val + ((slotU b).view.emb x 1).val = _; rw [e1])
  | ⟨1, _⟩ => exact Fin.ext (by show ((slotU b).view.emb x 2).val = _; rw [e2])

end Cert.Exchange

end
-- ==== Proof.Steps.lean ====
/-
# One effect at a time

What device `c` holds between the effects of its body, and for each effect that the body performs the step from what is held before it
to what is held after it.  `R` is whatever else is held.
-/
module
public import proofs.«01_k».proof.Proof.Views
@[expose] public section
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
variable {F : FTy → Type} [FloatOps F]
local notation "𝕄" => MT nD τ sig Unit (Elt F) ℕ UU ℕ

variable (m : (ℓ : Loc nD τ sig) → Buf (Elt F) ℓ) (ρ : Dev nD → PrngReg)

abbrev 𝒱₀ : Variants := Variants.none
/-- A program of device `c`'s body runs and leaves `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The cells -/

/-- A device's scoped semaphores, and with the barrier all its cells. -/
abbrev OI := Fin 32 ⊕ Fin 32 ⊕ Fin 2
abbrev CI := Unit ⊕ OI
def osm : OI → SemLoc sig
  | .inl q => .dma (sndS q)
  | .inr (.inl s) => .dma (rcvS s)
  | .inr (.inr b) => .dma (wgtS b)
def csm : CI → SemLoc sig
  | .inl _ => .reg barS
  | .inr o => osm o
abbrev cellAt (p : Dev nD × CI) : GSem nD τ sig := ((p.1 : Thread nD τ), csm p.2)

variable (K : Dev nD × CI → ℕ)

/-- What every device knows of every cell: its invariant, and that it has reached round 0; and the levels. -/
def Env : sProp 𝕄 :=
  iprop((bigSep Finset.univ fun p : Dev nD × CI => iprop(cellInv ER (Rd m ρ) (K p) (cellAt p) ∗ reached ER (cellAt p) 0)) ∗ levAts L lv)

instance Env_persistent : Persistent (Env (F := F) m ρ K) := by unfold Env; infer_instance

theorem env_cell (p : Dev nD × CI) :
    Env (F := F) m ρ K ⊢ iprop(cellInv ER (Rd m ρ) (K p) (cellAt p) ∗ reached ER (cellAt p) 0) := by
  unfold Env
  exact (BI.sep_and.trans BI.and_elimL).trans (BI.bigSep_elim (Finset.mem_univ p))
theorem env_bar (c : Dev nD) :
    Env (F := F) m ρ K ⊢ iprop(cellInv ER (Rd m ρ) (K (c, .inl ())) (barCell c) ∗ reached ER (barCell c) 0) := env_cell m ρ K (c, .inl ())
theorem env_snd (c : Dev nD) (q : Fin 32) :
    Env (F := F) m ρ K ⊢ iprop(cellInv ER (Rd m ρ) (K (c, .inr (.inl q))) (sndCell c q) ∗ reached ER (sndCell c q) 0) :=
  env_cell m ρ K (c, .inr (.inl q))
theorem env_rcv (c : Dev nD) (s : Fin 32) :
    Env (F := F) m ρ K ⊢ iprop(cellInv ER (Rd m ρ) (K (c, .inr (.inr (.inl s)))) (rcvCell c s) ∗ reached ER (rcvCell c s) 0) :=
  env_cell m ρ K (c, .inr (.inr (.inl s)))
theorem env_wgt (c : Dev nD) (b : Fin 2) :
    Env (F := F) m ρ K ⊢ iprop(cellInv ER (Rd m ρ) (K (c, .inr (.inr (.inr b)))) (wgtCell c b) ∗ reached ER (wgtCell c b) 0) :=
  env_cell m ρ K (c, .inr (.inr (.inr b)))
theorem may_bar (c : Dev nD) : Env (F := F) m ρ K ⊢ MayWait (c : Thread nD τ) (.reg barS) () (Orcv c 0) := by
  unfold Env; iintro ⟨-, H⟩; iapply (mayWait_bar c 0); iexact H

/-- What device `c` owes, whatever waits are recorded. -/
def owesE (c : Dev nD) (O : CellTallies nD τ sig Unit) : sProp 𝕄 := iprop(∃ W, owes (c : Thread nD τ) O W)

/-! ## The barrier signals -/

/-- Before the signal at distance `n`: the signals and the landings still owed, and for each device not yet signalled the token of
    its barrier and the column block it is to write. -/
def SigSt (c : Dev nD) (n : ℕ) : sProp 𝕄 :=
  iprop(owesE c (Orcv c 0 + Obar c n)
    ∗ bigSep (geF 32 n) fun k => iprop(dutyTok ER (barCell (rot c k)) 0 c ∗ ∃ f, colPts c (rot c k) f))

section Steps
variable (c : Dev nD) {α : Type} {Q : α → sProp (MT nD τ sig Unit (Elt F) ℕ UU ℕ)} {R : sProp (MT nD τ sig Unit (Elt F) ℕ UU ℕ)}
  {k : PUnit → Prog (TpuEff nD τ sig (Elt F) Λ₀ .tc) α}

theorem signal_op (n : ℕ) (hn : n < 32) (h1 : 1 ≤ n) {d : Dev nD} (hd : d = rot c ⟨n, hn⟩) {S : Sem sig} (hS : S = barS)
    (h : iprop(Env m ρ K ∗ SigSt c (n + 1) ∗ R) ⊢ WP c (k ⟨⟩) Q) :
    iprop(Env m ρ K ∗ SigSt c n ∗ R) ⊢ WP c (.op (.semSignal ((d, Proc.tc) : Thread nD τ) S (1#32).toInt) k) Q := by
  subst hd; subst hS
  have hne : c ≠ rot c ⟨n, hn⟩ := fun e => rot_ne c ⟨n, hn⟩ (by show 1 ≤ n; exact h1) e.symm
  iintro ⟨#HE, HS, HR⟩
  unfold SigSt owesE
  rw [bigSep_ge hn]
  icases HS with ⟨⟨%W, HO⟩, ⟨Ht, Hc⟩, Hrest⟩
  ihave #HI := (env_bar m ρ K (rot c ⟨n, hn⟩)) $$ HE
  icases HI with ⟨#HI, #Hr⟩
  iapply (Rounds.wp_signal 𝒱₀ ER (Rd m ρ) (c : Thread nD τ) none (dst := (rot c ⟨n, hn⟩ : Thread nD τ)) (κ := K (rot c ⟨n, hn⟩, .inl ()))
      (d := c) (by rw [duties_bar]; exact Finset.mem_erase.mpr ⟨hne, Finset.mem_univ _⟩) ((amount_bar m ρ _ 0 c).trans (by decide)) ()
      (Orcv c 0 + Obar c (n + 1)) ((congrArg (Orcv c 0 + ·) (Obar_peel c hn)).trans (add_assoc _ _ _).symm)) $$ [HO Ht Hc]
  · isplitr; · iexact HI
    isplitl [HO]; · iexact HO
    isplitl [Ht]; · iexact Ht
    isplitl [Hc]; · rw [pay_bar]; iexact Hc
    iexact Hr
  iintro HO
  iapply h
  isplitr; · iexact HE
  isplitr [HR]
  · unfold SigSt owesE
    isplitl [HO]
    · iexists W; iexact HO
    · iexact Hrest
  · iexact HR

/-- The signal at distance `n`, its device read off the program. -/
theorem signal_step (n : ℕ) (hn : n < 32) (h1 : 1 ≤ n) (f : Dev nD → ℕ) (hf : ∀ c : Dev nD, f c = (rot c ⟨n, hn⟩).val) {hlt : f c < nD}
    {S : Sem sig} (hS : S = barS)
    (h : iprop(Env m ρ K ∗ SigSt c (n + 1) ∗ R) ⊢ WP c (k ⟨⟩) Q) :
    iprop(Env m ρ K ∗ SigSt c n ∗ R)
      ⊢ WP c (.op (.semSignal (((⟨f c, hlt⟩ : Dev nD), Proc.tc) : Thread nD τ) S (1#32).toInt) k) Q :=
  signal_op m ρ K c n hn h1 (Fin.ext (hf c)) hS h

/-! ## The sends -/

/-- What send `q` uses, and what it leaves to be waited for. -/
def sendRes (q : Fin 32) : sProp 𝕄 :=
  if tgt c q = c then iprop(emp)
  else iprop((∃ f, colPts (tgt c q) c f) ∗ dutyTok ER (rcvCell (tgt c q) c) 0 c ∗ dutyTok ER (sndCell c q) 0 c ∗ rowPts m ρ c (tgt c q))
def sentRes (q : Fin 32) : sProp 𝕄 :=
  if tgt c q = c then iprop(emp) else cred (tallyAt (sndCell c q) () N)

theorem sendRes_self {q : Fin 32} (h : tgt c q = c) : sendRes (F := F) m ρ c q = iprop(emp) := if_pos h
theorem sendRes_ne {q : Fin 32} (h : tgt c q ≠ c) : sendRes (F := F) m ρ c q
    = iprop((∃ f, colPts (tgt c q) c f) ∗ dutyTok ER (rcvCell (tgt c q) c) 0 c ∗ dutyTok ER (sndCell c q) 0 c ∗ rowPts m ρ c (tgt c q)) := if_neg h
theorem sentRes_self {q : Fin 32} (h : tgt c q = c) : sentRes (F := F) c q = iprop(emp) := if_pos h
theorem sentRes_ne {q : Fin 32} (h : tgt c q ≠ c) : sentRes (F := F) c q = cred (tallyAt (sndCell c q) () N) := if_neg h

/-- Before send `n`. -/
def SendSt (n : ℕ) : sProp 𝕄 :=
  iprop(owesE c (Orcv c n) ∗ bigSep (geF 32 n) (sendRes m ρ c) ∗ bigSep (ltF 32 n) (sentRes c))

/-- What a landing hands over: the block as `landed`, and nothing more when it comes from another device. -/
theorem landing_pay (t : Dev nD) (hne : t ≠ c) (fn : Buf (Elt F) ((colV c).view.loc (t : Thread nD τ))) :
    iprop((colV c).view.loc (t : Thread nD τ) ↦[(colV c).view.set]{fullShare}
        (colV c).view.write (Elt F) fn ((rowV t).view.read (Elt F) (xb m ρ c)) Finset.univ)
      ⊢ (Rd (F := F) m ρ).payload (rcvCell t c) 0 c := by
  rw [pay_rcv]; unfold ownRow colPts; rw [if_neg (fun e => hne e.symm)]
  rw [pointsTo_congr (col_write m ρ c t fn)]
  iintro H; isplitl [H]; · iexact H
  iempintro

theorem wp_send_blk (t : Dev nD) (q : Fin 32) (ht : tgt c q = t) (hne : t ≠ c) (O : CellTallies nD τ sig Unit)
    {hsc : (colV c : Memref sig (Dev.tc t : Thread nD τ).2.kind .vmem S256x256 .bf16).view.ref.isScScratch = false}
    {hsrc : (rowV t).view.WordExact} {hdst : (colV c).view.WordExact}
    {hsem : DmaTarget.Typed .vmem (.dma (rcvS c)) (.remote (Dev.tc t : Thread nD τ) (colV c) (.dma (sndS q)) hsc)}
    (fn : (cc0_scratch1 : Ref sig .tc).ty.Contents (Elt F)) (W : Waits sig Unit) :
    iprop(cellInv ER (Rd m ρ) (K (c, .inr (.inl q))) (sndCell c q) ∗ cellInv ER (Rd m ρ) (K (t, .inr (.inr (.inl c)))) (rcvCell t c)
        ∗ rowPts m ρ c t ∗ colPts t c fn
        ∗ owes (c : Thread nD τ) (O + tallyAt (rcvCell t c) () N) W
        ∗ dutyTok ER (sndCell c q) 0 c ∗ reached ER (sndCell c q) 0
        ∗ dutyTok ER (rcvCell t c) 0 c ∗ reached ER (rcvCell t c) 0)
      ⊢ iprop(((cred (tallyAt (sndCell c q) () N) ∗ owes (c : Thread nD τ) O W) -∗ WP c (k ⟨⟩) Q)
          -∗ WP c (.op (.enqueueDma (rowV t) (.remote (Dev.tc t : Thread nD τ) (colV c) (.dma (sndS q)) hsc) (.dma (rcvS c)) hsrc hdst hsem) k) Q) := by
  unfold rowPts colPts
  exact Rounds.wp_send_pointsTo 𝒱₀ ER (Rd m ρ) (c : Thread nD τ) none (κ₁ := K (c, .inr (.inl q)))
    (κ₂ := K (t, .inr (.inr (.inl c)))) (r₁ := 0) (r₂ := 0) (d₁ := c) (d₂ := c) (c' := (t : Thread nD τ)) (src := rowV t) (dst := colV c) (fd := fn) (fs := xb m ρ c)
    (by rw [duties_snd m ρ c _ (ht ▸ hne)]; exact Finset.mem_singleton_self _) (by rw [duties_rcv]; exact Finset.mem_singleton_self _)
    () () N rfl (amount_snd m ρ c _ 0 c) (amount_rcv m ρ _ c 0 c) O rfl (W := W)
    (by rw [pay_snd, ht]; unfold rowPts; exact BI.Entails.refl _)
    (landing_pay m ρ c t hne fn)

theorem send_op (n : ℕ) (hn : n < 32) (hne : tgt c ⟨n, hn⟩ ≠ c)
    {srcM dstM : Memref sig .tc .vmem S256x256 .bf16} (hs : srcM = rowV (tgt c ⟨n, hn⟩)) (hdm : dstM = colV c)
    {d : Dev nD} (hd : d = tgt c ⟨n, hn⟩) {sS sR : DmaSem sig} (hsS : sS = sndS ⟨n, hn⟩) (hsR : sR = rcvS c)
    {hsc : (dstM : Memref sig (Dev.tc d : Thread nD τ).2.kind .vmem S256x256 .bf16).view.ref.isScScratch = false}
    {hsrc : srcM.view.WordExact} {hdst : dstM.view.WordExact}
    {hsem : DmaTarget.Typed .vmem (.dma sR) (.remote (Dev.tc d : Thread nD τ) dstM (.dma sS) hsc)}
    (h : iprop(Env m ρ K ∗ SendSt m ρ c (n + 1) ∗ R) ⊢ WP c (k ⟨⟩) Q) :
    iprop(Env m ρ K ∗ SendSt m ρ c n ∗ R)
      ⊢ WP c (.op (.enqueueDma srcM (.remote (Dev.tc d : Thread nD τ) dstM (.dma sS) hsc) (.dma sR) hsrc hdst hsem) k) Q := by
  subst hs; subst hdm; subst hd; subst hsS; subst hsR
  iintro ⟨#HE, HS, HR⟩
  unfold SendSt owesE
  rw [bigSep_ge hn, sendRes_ne m ρ c hne]
  icases HS with ⟨⟨%W, HO⟩, ⟨⟨⟨%fn, Hc⟩, Htr, Hts, Hrow⟩, Hrest⟩, Hsent⟩
  ihave #HI := (env_snd m ρ K c ⟨n, hn⟩) $$ HE
  icases HI with ⟨#HIs, #Hrs⟩
  ihave #HI := (env_rcv m ρ K (tgt c ⟨n, hn⟩) c) $$ HE
  icases HI with ⟨#HIr, #Hrr⟩
  rw [Orcv_peel c hn hne]
  iapply (wp_send_blk m ρ K c (tgt c ⟨n, hn⟩) ⟨n, hn⟩ rfl hne (Orcv c (n + 1)) fn W) $$ [HO Hc Htr Hts Hrow]
  · isplitr; · iexact HIs
    isplitr; · iexact HIr
    isplitl [Hrow]; · iexact Hrow
    isplitl [Hc]; · iexact Hc
    isplitl [HO]; · iexact HO
    isplitl [Hts]; · iexact Hts
    isplitr; · iexact Hrs
    isplitl [Htr]; · iexact Htr
    iexact Hrr
  iintro ⟨Hcr, HO⟩
  iapply h
  isplitr; · iexact HE
  isplitr [HR]
  · unfold SendSt owesE
    isplitl [HO]; · iexists W; iexact HO
    isplitl [Hrest]; · iexact Hrest
    rw [bigSep_lt hn]
    isplitl [Hcr]; · rw [sentRes_ne c hne]; iexact Hcr
    iexact Hsent
  · iexact HR

/-- A send that its guard skips: the target is the device itself. -/
theorem send_skip (n : ℕ) (hn : n < 32) (he : tgt c ⟨n, hn⟩ = c) : SendSt m ρ c n ⊢ SendSt m ρ c (n + 1) := by
  unfold SendSt
  rw [bigSep_ge hn, bigSep_lt hn, Orcv_skip c hn he]
  rw [sendRes_self m ρ c he, sentRes_self c he]
  iintro ⟨HO, ⟨-, Hrest⟩, Hs⟩
  isplitl [HO]; · iexact HO
  isplitl [Hrest]; · iexact Hrest
  isplitr; · iempintro
  iexact Hs

/-- Send `n` under its guard, its device, offsets and semaphores read off the program. -/
theorem send_step (n : ℕ) (hn : n < 32) (cnd : Dev nD → BitVec 1) (dv : Dev nD → ℕ) (oS : Dev nD → Fin 2 → ℕ) (oD : Dev nD → Fin 2 → ℕ)
    (hcnd : ∀ c : Dev nD, cnd c = 1#1 ↔ tgt c ⟨n, hn⟩ ≠ c) (hdv : ∀ c : Dev nD, dv c = (tgt c ⟨n, hn⟩).val)
    (hoS : ∀ c : Dev nD, oS c = ![256 * (tgt c ⟨n, hn⟩).val, 0]) (hoD : ∀ c : Dev nD, oD c = ![0, 256 * c.val])
    {sS sR : cnd c = 1#1 → DmaSem sig} (hsS : ∀ h, sS h = sndS ⟨n, hn⟩) (hsR : ∀ h, sR h = rcvS c)
    {hlt : cnd c = 1#1 → dv c < nD}
    {iS : cnd c = 1#1 → ∀ a, oS c a + S256x256.size a ≤ S8192x256.size a} {tS : ∀ h, ∀ a, (Rect.unit (s := S8192x256) (oS c) S256x256.size (iS h)).stride a = 1}
    {iD : cnd c = 1#1 → ∀ a, oD c a + S256x256.size a ≤ S256x8192.size a} {tD : ∀ h, ∀ a, (Rect.unit (s := S256x8192) (oD c) S256x256.size (iD h)).stride a = 1}
    {hsc : ∀ h, (rbM.slice (Rect.unit (s := S256x8192) (oD c) S256x256.size (iD h)) (tD h) : Memref sig (Dev.tc ⟨dv c, hlt h⟩ : Thread nD τ).2.kind .vmem S256x256 .bf16).view.ref.isScScratch = false}
    {hsrc : ∀ h, (xbM.slice (Rect.unit (s := S8192x256) (oS c) S256x256.size (iS h)) (tS h) : Memref sig .tc .vmem S256x256 .bf16).view.WordExact}
    {hdst : ∀ h, (rbM.slice (Rect.unit (s := S256x8192) (oD c) S256x256.size (iD h)) (tD h) : Memref sig .tc .vmem S256x256 .bf16).view.WordExact}
    {hsem : ∀ h, DmaTarget.Typed .vmem (.dma (sR h)) (.remote (Dev.tc (⟨dv c, hlt h⟩ : Dev nD) : Thread nD τ)
      (rbM.slice (Rect.unit (s := S256x8192) (oD c) S256x256.size (iD h)) (tD h) : Memref sig .tc .vmem S256x256 .bf16) (.dma (sS h)) (hsc h))}
    (h : iprop(Env m ρ K ∗ SendSt m ρ c (n + 1) ∗ R) ⊢ WP c (k ⟨⟩) Q) :
    iprop(Env m ρ K ∗ SendSt m ρ c n ∗ R)
      ⊢ WP c (dite (cnd c = 1#1) (fun hc => .op (.enqueueDma (xbM.slice (Rect.unit (s := S8192x256) (oS c) S256x256.size (iS hc)) (tS hc))
            (.remote (Dev.tc (⟨dv c, hlt hc⟩ : Dev nD) : Thread nD τ) (rbM.slice (Rect.unit (s := S256x8192) (oD c) S256x256.size (iD hc)) (tD hc)) (.dma (sS hc)) (hsc hc))
            (.dma (sR hc)) (hsrc hc) (hdst hc) (hsem hc)) fun _ => k PUnit.unit) (fun _ => k PUnit.unit)) Q := by
  by_cases he : tgt c ⟨n, hn⟩ = c
  · rw [dif_neg (fun hc => (hcnd c).mp hc he)]
    exact BI.Entails.trans (sep_mono (BI.Entails.refl _) (sep_mono (send_skip m ρ c n hn he) (BI.Entails.refl _))) h
  · have hc : cnd c = 1#1 := (hcnd c).mpr he
    rw [dif_pos hc]
    exact send_op m ρ K c n hn he (k := fun _ => k PUnit.unit) (Memref.slice_unit_congr xbM (hoS c) _ _ _ _) (Memref.slice_unit_congr rbM (hoD c) _ _ _ _)
      (Fin.ext (hdv c)) (hsS hc) (hsR hc) h

end Steps
end Cert.Exchange
-- ==== Proof.Waits.lean ====
/-
# The waits, the weight chunks and the products, one effect at a time
-/
module
public import proofs.«01_k».proof.Proof.Steps
@[expose] public section
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
variable {F : FTy → Type} [FloatOps F]
local notation "𝕄" => MT nD τ sig Unit (Elt F) ℕ UU ℕ

variable (m : (ℓ : Loc nD τ sig) → Buf (Elt F) ℓ) (ρ : Dev nD → PrngReg)
variable (K : Dev nD × CI → ℕ)

theorem snd_sem (q : Fin 32) : ∀ {i : ∀ a, (![q.val] : Fin 1 → ℕ) a + S1.size a ≤ S32.size a},
    ((SemArray.slice cc0_scratch3 (Rect.unit (s := S32) ![q.val] S1.size i)).squeeze S_ squeezes_S1_S_).sem = sndS q := by
  intro i; revert q; decide +kernel
theorem rcv_sem (s : Fin 32) {o : Fin 1 → ℕ} (ho : o = ![s.val]) {i : ∀ a, o a + S1.size a ≤ S32.size a} :
    ((SemArray.slice cc0_scratch4 (Rect.unit (s := S32) o S1.size i)).squeeze S_ squeezes_S1_S_).sem = rcvS s := by
  subst ho; revert s; decide +kernel
theorem wgt_sem (b : Fin 2) {o : Fin 1 → ℕ} (ho : o = ![b.val]) {i : ∀ a, o a + S1.size a ≤ S2.size a} :
    ((SemArray.slice cc0_scratch5 (Rect.unit (s := S2) o S1.size i)).squeeze S_ squeezes_S1_S_).sem = wgtS b := by
  subst ho; revert b; decide +kernel

/-! ## What is held while the products accumulate -/

/-- The landings: those not yet waited for, and those that have landed. -/
def RSt (c : Dev nD) (n : ℕ) : sProp 𝕄 :=
  iprop((bigSep (geF 32 n) fun u => iprop(atPos ER (rcvCell c (src c u)) 0 ∅ 0 ∗ cred (tallyAt (rcvCell c (src c u)) () N)))
    ∗ (bigSep (ltF 32 n) fun u => colPts c (src c u) (landed m ρ c))
    ∗ bigSep (ltF 32 n) fun u => iprop(ownRow m ρ c (src c u) ∗ semVal (rcvCell c (src c u)) 0))

/-- The slot of the `j`-th chunk. -/
def sb (j : ℕ) : Fin 2 := ⟨j % 2, Nat.mod_lt _ Nat.two_pos⟩

/-- The slot free for the `j`-th chunk, holding `f`. -/
def idleW (c : Dev nD) (j : ℕ) (f : (cc0_scratch2 : Ref sig .tc).ty.Contents (Elt F)) : sProp 𝕄 :=
  iprop((atPos ER (wgtCell c (sb j)) (j / 2) ∅ 0 ∗ reached ER (wgtCell c (sb j)) (j / 2)) ∗ slotPts c (sb j) f)
/-- The `j`-th chunk on its way. -/
def pendW (c : Dev nD) (j : ℕ) : sProp 𝕄 :=
  iprop(cred (tallyAt (wgtCell c (sb j)) () NW) ∗ atPos ER (wgtCell c (sb j)) (j / 2) ∅ 0)
def todoW (c : Dev nD) (n : ℕ) : sProp 𝕄 :=
  bigSep (geF 8 n) fun j => iprop(wPts m ρ c (chk c j.val) ∗ dutyTok ER (wgtCell c (sb j.val)) (j.val / 2) c)
def doneW (c : Dev nD) (n : ℕ) : sProp 𝕄 := bigSep (ltF 8 n) fun j => wPts m ρ c (chk c j.val)
/-- The `j`-th chunk on its way, or no such chunk and its slot free. -/
def nextW (c : Dev nD) (j : ℕ) : sProp 𝕄 := if j < 8 then pendW c j else iprop(∃ f, idleW c j f)

/-- Before any chunk; before chunk `j + 1` is started; with both on their way; and with chunk `j` in its slot. -/
def W0 (c : Dev nD) : sProp 𝕄 := iprop((∃ f, idleW c 0 f) ∗ (∃ f, idleW c 1 f) ∗ todoW m ρ c 0 ∗ doneW m ρ c 0)
def WA (c : Dev nD) (j : ℕ) : sProp 𝕄 := iprop(nextW c j ∗ (∃ f, idleW c (j + 1) f) ∗ todoW m ρ c (j + 1) ∗ doneW m ρ c j)
def WB (c : Dev nD) (j : ℕ) : sProp 𝕄 := iprop(nextW c j ∗ nextW c (j + 1) ∗ todoW m ρ c (j + 2) ∗ doneW m ρ c j)
def WC (c : Dev nD) (j : ℕ) : sProp 𝕄 :=
  iprop(idleW c (j + 2) (wbuf m ρ c (chk c j)) ∗ nextW c (j + 1) ∗ todoW m ρ c (j + 2) ∗ doneW m ρ c (j + 1))

abbrev oPts (c : Dev nD) (v : (cc0_stg1_0 : Ref sig .tc).ty.Contents (Elt F)) : sProp 𝕄 := ((c : Thread nD τ).loc cc0_stg1_0) ↦{fullShare} v

/-- The landings at `n`, the chunks as `W` says, and the result buffer at `v`. -/
def MainSt (c : Dev nD) (n : ℕ) (W : sProp 𝕄) (v : (cc0_stg1_0 : Ref sig .tc).ty.Contents (Elt F)) : sProp 𝕄 :=
  iprop(owesE c 0 ∗ RSt m ρ c n ∗ W ∗ oPts c v)

theorem WC_WA (c : Dev nD) (j : ℕ) : WC (F := F) m ρ c j ⊢ WA m ρ c (j + 1) := by
  unfold WC WA
  iintro ⟨Hi, Hn, Ht, Hd⟩
  isplitl [Hn]; · iexact Hn
  isplitl [Hi]; · iexists _; iexact Hi
  isplitl [Ht]; · iexact Ht
  iexact Hd

theorem WA_WB_last (c : Dev nD) : WA (F := F) m ρ c 7 ⊢ WB m ρ c 7 := by
  unfold WA WB
  have e : ∀ n, 8 ≤ n → todoW (F := F) m ρ c n = iprop(emp) := fun n hn => by
    have : geF 8 n = ∅ := by ext i; simp only [geF, Finset.mem_filter, Finset.mem_univ, true_and, Finset.notMem_empty, iff_false]; omega
    unfold todoW; rw [this]; exact bigSep_empty
  rw [e (7 + 1) (by omega), e (7 + 2) (by omega), show nextW (F := F) c (7 + 1) = iprop(∃ f, idleW c (7 + 1) f) from if_neg (by omega)]

section Steps
variable (c : Dev nD) {α : Type} {Q : α → sProp (MT nD τ sig Unit (Elt F) ℕ UU ℕ)} {R : sProp (MT nD τ sig Unit (Elt F) ℕ UU ℕ)}
  {k : PUnit → Prog (TpuEff nD τ sig (Elt F) Λ₀ .tc) α}

/-! ## Starting a chunk of `w` -/

theorem chunk_pay (j : ℕ) (fn : (cc0_scratch2 : Ref sig .tc).ty.Contents (Elt F)) :
    iprop(((slotV (sb j)).view.loc (c : Thread nD τ) ↦[(slotV (sb j)).view.set]{fullShare}
          (slotV (sb j)).view.write (Elt F) fn ((wV (chk c j)).view.read (Elt F) (wArr m ρ c)) Finset.univ)
        ∗ ((wV (chk c j)).view.loc (c : Thread nD τ) ↦[(wV (chk c j)).view.set]{fullShare} wArr m ρ c))
      ⊢ (Rd (F := F) m ρ).payload (wgtCell c (sb j)) (j / 2) c := by
  rw [pay_wgt, show 2 * (j / 2) + (sb j).val = j from by show 2 * (j / 2) + j % 2 = j; omega]
  unfold slotPts wPts
  rw [pointsTo_congr (slot_write m ρ c (sb j) (chk c j) fn)]

theorem wp_start (j : ℕ) (hj : j < 8)
    {hsrc : (wV (chk c j)).view.WordExact} {hdst : (slotV (sb j)).view.WordExact}
    {hsem : DmaTarget.Typed (nD := nD) (τ := τ) (p := (Proc.tc : Proc τ)) .hbm (.dma (wgtS (sb j))) (.here (slotV (sb j)))}
    (fn : (cc0_scratch2 : Ref sig .tc).ty.Contents (Elt F)) :
    iprop(cellInv ER (Rd m ρ) (K (c, .inr (.inr (.inr (sb j))))) (wgtCell c (sb j)) ∗ wPts m ρ c (chk c j) ∗ slotPts c (sb j) fn
        ∗ dutyTok ER (wgtCell c (sb j)) (j / 2) c ∗ reached ER (wgtCell c (sb j)) (j / 2))
      ⊢ iprop((cred (tallyAt (wgtCell c (sb j)) () NW) -∗ WP c (k ⟨⟩) Q)
          -∗ WP c (.op (.enqueueDma (wV (chk c j)) (.here (slotV (sb j))) (.dma (wgtS (sb j))) hsrc hdst hsem) k) Q) := by
  unfold wPts slotPts
  exact Rounds.wp_copy_pointsTo 𝒱₀ ER (Rd m ρ) (c : Thread nD τ) none (κ := K (c, .inr (.inr (.inr (sb j)))))
    (r := j / 2) (d := c) (src := wV (chk c j)) (dst := slotV (sb j)) (fd := fn) (fs := wArr m ρ c)
    (by rw [duties_wgt m ρ c _ (by omega)]; exact Finset.mem_singleton_self _) () NW rfl (amount_wgt m ρ c _ _ c) (chunk_pay m ρ c j fn)

theorem start_op (j : ℕ) (hj : j < 8) {srcM : Memref sig .tc .hbm S1024x4096 .f32} {dstM : Memref sig .tc .vmem S1024x4096 .f32}
    (hs : srcM = wV (chk c j)) (hd : dstM = slotV (sb j)) {S : DmaSem sig} (hS : S = wgtS (sb j))
    {hsrc : srcM.view.WordExact} {hdst : dstM.view.WordExact} {hsem : DmaTarget.Typed (nD := nD) (τ := τ) (p := (Proc.tc : Proc τ)) .hbm (.dma S) (.here dstM)}
    (h : iprop(Env m ρ K ∗ (pendW c j ∗ todoW m ρ c (j + 1)) ∗ R) ⊢ WP c (k ⟨⟩) Q) :
    iprop(Env m ρ K ∗ ((∃ f, idleW c j f) ∗ todoW m ρ c j) ∗ R)
      ⊢ WP c (.op (.enqueueDma srcM (.here dstM) (.dma S) hsrc hdst hsem) k) Q := by
  subst hs; subst hd; subst hS
  iintro ⟨#HE, HS, HR⟩
  unfold todoW idleW
  rw [bigSep_ge hj]
  icases HS with ⟨⟨%fn, ⟨Hat, #Hre⟩, Hsl⟩, ⟨Hw, Ht⟩, Hrest⟩
  ihave #HI := (env_wgt m ρ K c (sb j)) $$ HE
  icases HI with ⟨#HI, -⟩
  iapply (wp_start m ρ K c j hj fn) $$ [Hw Hsl Ht]
  · isplitr; · iexact HI
    isplitl [Hw]; · iexact Hw
    isplitl [Hsl]; · iexact Hsl
    isplitl [Ht]; · iexact Ht
    iexact Hre
  iintro Hc
  iapply h
  isplitr; · iexact HE
  isplitr [HR]
  · isplitl [Hc Hat]
    · unfold pendW; isplitl [Hc]; · iexact Hc
      iexact Hat
    unfold todoW; iexact Hrest
  · iexact HR

/-- Starting chunk `j + 1`. -/
theorem start_step (j : ℕ) (hj : j < 7) {n : ℕ} {v} {o : Fin 2 → ℕ} (ho : o = ![1024 * (chk c (j + 1)).val, 0])
    {o' : Fin 3 → ℕ} (ho' : o' = ![(sb (j + 1)).val, 0, 0]) {S : DmaSem sig} (hS : S = wgtS (sb (j + 1)))
    {i : ∀ a, o a + S1024x4096.size a ≤ S8192x4096.size a} {t : ∀ a, (Rect.unit (s := S8192x4096) o S1024x4096.size i).stride a = 1}
    {i' : ∀ a, o' a + S1x1024x4096.size a ≤ S2x1024x4096.size a} {t' : ∀ a, (Rect.unit (s := S2x1024x4096) o' S1x1024x4096.size i').stride a = 1}
    {hsrc : (wM.slice (Rect.unit (s := S8192x4096) o S1024x4096.size i) t : Memref sig .tc .hbm S1024x4096 .f32).view.WordExact}
    {hdst : ((wbM.slice (Rect.unit (s := S2x1024x4096) o' S1x1024x4096.size i') t' : Memref sig .tc .vmem S1x1024x4096 .f32).squeeze S1024x4096 squeezes_S1x1024x4096_S1024x4096).view.WordExact}
    {hsem : DmaTarget.Typed (nD := nD) (τ := τ) (p := (Proc.tc : Proc τ)) .hbm (.dma S) (.here ((wbM.slice (Rect.unit (s := S2x1024x4096) o' S1x1024x4096.size i') t' : Memref sig .tc .vmem S1x1024x4096 .f32).squeeze S1024x4096 squeezes_S1x1024x4096_S1024x4096))}
    (h : iprop(Env m ρ K ∗ MainSt m ρ c n (WB m ρ c j) v ∗ R) ⊢ WP c (k ⟨⟩) Q) :
    iprop(Env m ρ K ∗ MainSt m ρ c n (WA m ρ c j) v ∗ R)
      ⊢ WP c (.op (.enqueueDma (wM.slice (Rect.unit (s := S8192x4096) o S1024x4096.size i) t)
          (.here ((wbM.slice (Rect.unit (s := S2x1024x4096) o' S1x1024x4096.size i') t' : Memref sig .tc .vmem S1x1024x4096 .f32).squeeze S1024x4096 squeezes_S1x1024x4096_S1024x4096)) (.dma S) hsrc hdst hsem) k) Q := by
  subst ho; subst ho'
  refine BIBase.Entails.trans ?_ (start_op m ρ K c (R := iprop(nextW c j ∗ doneW m ρ c j ∗ owesE c 0 ∗ RSt m ρ c n ∗ oPts c v ∗ R)) (j + 1) (by omega) rfl rfl hS (BIBase.Entails.trans ?_ h))
  · unfold MainSt WA
    iintro ⟨HE, ⟨HO, HRS, ⟨Hn, Hi, Ht, Hd⟩, Ho⟩, HR⟩
    iframe
  · unfold MainSt WB
    rw [show nextW (F := F) c (j + 1) = pendW c (j + 1) from if_pos (by omega)]
    iintro ⟨HE, ⟨Hp, Ht⟩, Hn, Hd, HO, HRS, Ho, HR⟩
    iframe

/-- Starting the first chunk, the last send done. -/
theorem start_first {v} {o : Fin 2 → ℕ} (ho : o = ![1024 * (chk c 0).val, 0])
    {o' : Fin 3 → ℕ} (ho' : o' = ![(sb 0).val, 0, 0]) {S : DmaSem sig} (hS : S = wgtS (sb 0))
    {i : ∀ a, o a + S1024x4096.size a ≤ S8192x4096.size a} {t : ∀ a, (Rect.unit (s := S8192x4096) o S1024x4096.size i).stride a = 1}
    {i' : ∀ a, o' a + S1x1024x4096.size a ≤ S2x1024x4096.size a} {t' : ∀ a, (Rect.unit (s := S2x1024x4096) o' S1x1024x4096.size i').stride a = 1}
    {hsrc : (wM.slice (Rect.unit (s := S8192x4096) o S1024x4096.size i) t : Memref sig .tc .hbm S1024x4096 .f32).view.WordExact}
    {hdst : ((wbM.slice (Rect.unit (s := S2x1024x4096) o' S1x1024x4096.size i') t' : Memref sig .tc .vmem S1x1024x4096 .f32).squeeze S1024x4096 squeezes_S1x1024x4096_S1024x4096).view.WordExact}
    {hsem : DmaTarget.Typed (nD := nD) (τ := τ) (p := (Proc.tc : Proc τ)) .hbm (.dma S) (.here ((wbM.slice (Rect.unit (s := S2x1024x4096) o' S1x1024x4096.size i') t' : Memref sig .tc .vmem S1x1024x4096 .f32).squeeze S1024x4096 squeezes_S1x1024x4096_S1024x4096))}
    (h : iprop(Env m ρ K ∗ MainSt m ρ c 0 (WA m ρ c 0) v ∗ (bigSep Finset.univ (sentRes c) ∗ R)) ⊢ WP c (k ⟨⟩) Q) :
    iprop(Env m ρ K ∗ SendSt m ρ c 32 ∗ (RSt m ρ c 0 ∗ W0 m ρ c ∗ oPts c v) ∗ R)
      ⊢ WP c (.op (.enqueueDma (wM.slice (Rect.unit (s := S8192x4096) o S1024x4096.size i) t)
          (.here ((wbM.slice (Rect.unit (s := S2x1024x4096) o' S1x1024x4096.size i') t' : Memref sig .tc .vmem S1x1024x4096 .f32).squeeze S1024x4096 squeezes_S1x1024x4096_S1024x4096)) (.dma S) hsrc hdst hsem) k) Q := by
  subst ho; subst ho'
  refine BIBase.Entails.trans ?_ (start_op m ρ K c (R := iprop((∃ f, idleW c 1 f) ∗ doneW m ρ c 0 ∗ owesE c 0 ∗ RSt m ρ c 0 ∗ oPts c v ∗ bigSep Finset.univ (sentRes c) ∗ R))
    0 (by omega) rfl rfl hS (BIBase.Entails.trans ?_ h))
  · unfold SendSt W0
    rw [Orcv_end, ltF_end]
    iintro ⟨HE, ⟨HO, -, Hs⟩, ⟨HRS, ⟨Hi, Hj, Ht, Hd⟩, Ho⟩, HR⟩
    iframe
  · unfold MainSt WA
    rw [show nextW (F := F) c 0 = pendW c 0 from if_pos (by omega)]
    iintro ⟨HE, ⟨Hp, Ht⟩, Hi, Hd, HO, HRS, Ho, Hs, HR⟩
    iframe

/-! ## Waiting for a chunk of `w` -/

theorem wait_step (j : ℕ) (hj : j < 8) {n : ℕ} {v} {S : DmaSem sig} (hS : S = wgtS (sb j))
    {sp sp' : Space} {s' s : Shape} {e' e : EltTy} {srcM : Memref sig .tc sp' s' e'} {dstM : Memref sig .tc sp s e}
    {hsrc : srcM.view.WordExact} {hdst : dstM.view.WordExact} (hN : dstM.view.dmaCredit = NW)
    (h : iprop(Env m ρ K ∗ MainSt m ρ c n (WC m ρ c j) v ∗ R) ⊢ WP c (k ⟨⟩) Q) :
    iprop(Env m ρ K ∗ MainSt m ρ c n (WB m ρ c j) v ∗ R) ⊢ WP c (.op (.waitDma2 S srcM dstM hsrc hdst) k) Q := by
  subst hS
  iintro ⟨#HE, HS, HR⟩
  unfold MainSt WB owesE
  rw [show nextW (F := F) c j = pendW c j from if_pos hj]
  unfold pendW
  icases HS with ⟨⟨%W, HO⟩, HRS, ⟨⟨Hc, Hat⟩, Hn, Ht, Hd⟩, Ho⟩
  ihave #HI := (env_wgt m ρ K c (sb j)) $$ HE
  icases HI with ⟨#HI, -⟩
  iapply (Rounds.wp_wait_rest_token 𝒱₀ ER (Rd m ρ) (c : Thread nD τ) none (κ := K (c, .inr (.inr (.inr (sb j)))))
      (wpE_waitDma2_eq 𝒱₀ (c : Thread nD τ) none Set.univ) (Set.mem_univ _) () (O := 0) (W := W) (R := j / 2) (m := 0) (T := ∅)
      (by rw [Nat.zero_add, hN, expect_wgt m ρ c (sb j) (by omega)])) $$ [Hc HO Hat]
  · isplitr; · iexact HI
    isplitl [Hc]; · rw [hN]; iexact Hc
    isplitl [HO]; · iexact HO
    isplitr; · rw [MayWait_zero]; iempintro
    iexact Hat
  iintro ⟨HO, Hat, Hr, Hpay⟩
  ihave Hp := (Entails.of_eq (rest_wgt m ρ c (sb j) (r := j / 2) (by omega))) $$ Hpay
  rw [show 2 * (j / 2) + (sb j).val = j from by show 2 * (j / 2) + j % 2 = j; omega]
  icases Hp with ⟨Hsl, Hw⟩
  iapply h
  isplitr; · iexact HE
  isplitr [HR]
  · unfold MainSt WC idleW owesE
    rw [show sb (j + 2) = sb j from Fin.ext (by show (j + 2) % 2 = j % 2; omega), show (j + 2) / 2 = j / 2 + 1 by omega]
    isplitl [HO]; · iexists _; iexact HO
    isplitl [HRS]; · iexact HRS
    isplitr [Ho]
    · isplitl [Hat Hr Hsl]
      · isplitl [Hat Hr]
        · isplitl [Hat]; · iexact Hat
          iexact Hr
        iexact Hsl
      isplitl [Hn]; · iexact Hn
      isplitl [Ht]; · iexact Ht
      unfold doneW; rw [bigSep_lt hj]
      isplitl [Hw]; · iexact Hw
      iexact Hd
    iexact Ho
  · iexact HR

/-! ## Waiting for a landing -/

theorem recv_step (n : ℕ) (hn : n < 32) {W v} {S : DmaSem sig} (hS : S = rcvS (src c ⟨n, hn⟩))
    {sp sp' : Space} {s' s : Shape} {e' e : EltTy} {srcM : Memref sig .tc sp' s' e'} {dstM : Memref sig .tc sp s e}
    {hsrc : srcM.view.WordExact} {hdst : dstM.view.WordExact} (hN : dstM.view.dmaCredit = N)
    (h : iprop(Env m ρ K ∗ MainSt m ρ c (n + 1) W v ∗ R) ⊢ WP c (k ⟨⟩) Q) :
    iprop(Env m ρ K ∗ MainSt m ρ c n W v ∗ R) ⊢ WP c (.op (.waitDma2 S srcM dstM hsrc hdst) k) Q := by
  subst hS
  iintro ⟨#HE, HS, HR⟩
  unfold MainSt RSt owesE
  rw [bigSep_ge hn]
  icases HS with ⟨⟨%Wt, HO⟩, ⟨⟨⟨Hat, Hc⟩, Hrest⟩, Hl, Hd⟩, HW, Ho⟩
  ihave #HI := (env_rcv m ρ K c (src c ⟨n, hn⟩)) $$ HE
  icases HI with ⟨#HI, -⟩
  iapply (Rounds.wp_wait_rest_token 𝒱₀ ER (Rd m ρ) (c : Thread nD τ) none (κ := K (c, .inr (.inr (.inl (src c ⟨n, hn⟩)))))
      (wpE_waitDma2_eq 𝒱₀ (c : Thread nD τ) none Set.univ) (Set.mem_univ _) () (O := 0) (W := Wt) (R := 0) (m := 0) (T := ∅)
      (by rw [Nat.zero_add, hN, expect_rcv])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_rcv m ρ c (src c ⟨n, hn⟩))) $$ Hpay
  icases Hp with ⟨Hcol, Hown⟩
  imod (Rounds.cell_close ER (Rd m ρ) (Set.mem_univ (K (c, .inr (.inr (.inl (src c ⟨n, hn⟩)))))) (fun h => h) (R := 0 + 1)
    (duties_rcv_later m ρ c (src c ⟨n, hn⟩))) $$ [Hat] with Hz
  · isplitr; · iexact HI
    iexact Hat
  iapply h
  isplitr; · iexact HE
  isplitr [HR]
  · unfold MainSt RSt owesE
    rw [bigSep_lt hn, bigSep_lt hn]
    isplitl [HO]; · iexists _; iexact HO
    isplitr [HW Ho]
    · isplitl [Hrest]; · iexact Hrest
      isplitl [Hcol Hl]
      · isplitl [Hcol]; · iexact Hcol
        iexact Hl
      isplitl [Hown Hz]
      · isplitl [Hown]; · iexact Hown
        iexact Hz
      iexact Hd
    isplitl [HW]; · iexact HW
    iexact Ho
  · iexact HR

/-! ## The loads and stores of a product -/

/-- The four column blocks of the `j`-th chunk among those that have landed. -/
theorem landed_chunk (j : ℕ) (hj : j < 8) (f : (cc0_scratch1 : Ref sig .tc).ty.Contents (Elt F)) :
    ∃ rest : sProp 𝕄, bigSep (ltF 32 (4 * j + 4)) (fun u => colPts c (src c u) f)
      = iprop(((rbM.access (rChunk (chk c j))).loc (c : Thread nD τ) ↦[(rbM.access (rChunk (chk c j))).set]{fullShare} f) ∗ rest) := by
  refine ⟨bigSep (ltF 32 (4 * j)) (fun u => colPts c (src c u) f), ?_⟩
  have hs : ∀ (a : Fin 4) (n : ℕ) (h : n < 32), n = 4 * j + a.val → src c ⟨n, h⟩ = blk4 (chk c j) a := fun a n h e => Fin.ext (by
    have := a.isLt
    show 4 * ((c.val / 4 + n / 4) % 8) + n % 4 = 4 * ((c.val / 4 + j) % 8) + a.val
    rw [show n / 4 = j by omega, show n % 4 = a.val by omega])
  have e4 : (bigSep Finset.univ fun a : Fin 4 => colPts c (blk4 (chk c j) a) f : sProp 𝕄)
      = iprop(colPts c (blk4 (chk c j) 3) f ∗ colPts c (blk4 (chk c j) 2) f ∗ colPts c (blk4 (chk c j) 1) f ∗ colPts c (blk4 (chk c j) 0) f ∗ emp) := by
    rw [← ltF_end 4, bigSep_lt (by omega : 3 < 4), bigSep_lt (by omega : 2 < 4), bigSep_lt (by omega : 1 < 4), bigSep_lt (by omega : 0 < 4), ltF_zero, bigSep_empty]
    rfl
  rw [chunk_blocks, e4, show 4 * j + 4 = 4 * j + 3 + 1 from rfl, bigSep_lt (by omega : 4 * j + 3 < 32), bigSep_lt (by omega : 4 * j + 2 < 32), bigSep_lt (by omega : 4 * j + 1 < 32),
    bigSep_lt (by omega : 4 * j < 32)]
  rw [hs 3 (4 * j + 3) (by omega) rfl, hs 2 (4 * j + 2) (by omega) rfl, hs 1 (4 * j + 1) (by omega) rfl, hs 0 (4 * j) (by omega) rfl]
  refine BI.Entails.antisymm (show BIBase.Entails (PROP := sProp 𝕄) _ _ from ?_) (show BIBase.Entails (PROP := sProp 𝕄) _ _ from ?_)
  · iintro ⟨H3, H2, H1, H0, HR⟩; iframe
  · iintro ⟨⟨H3, H2, H1, H0, -⟩, HR⟩; iframe

theorem load_chunk_step (j : ℕ) (hj : j < 8) {W v} {o : Fin 2 → ℕ} (ho : o = ![0, 1024 * (chk c j).val])
    {i : ∀ a, o a + S256x1024.size a ≤ S256x8192.size a} {hl : rbM.view.LoadsAt (Rect.unit (s := S256x8192) o S256x1024.size i).toLoadRect}
    {k : Vec F S256x1024 .bf16 → Prog (TpuEff nD τ sig (Elt F) Λ₀ .tc) α}
    (h : iprop(Env m ρ K ∗ MainSt m ρ c (4 * j + 4) W v ∗ R) ⊢ WP c (k (xin m ρ c (chk c j))) Q) :
    iprop(Env m ρ K ∗ MainSt m ρ c (4 * j + 4) W v ∗ R)
      ⊢ WP c (.op (.load rbM (Rect.unit (s := S256x8192) o S256x1024.size i).toLoadRect hl) k) Q := by
  subst ho
  obtain ⟨rest, hrest⟩ := landed_chunk c j hj (landed m ρ c)
  unfold MainSt RSt at h ⊢
  rw [hrest] at h ⊢
  iintro ⟨#HE, ⟨HO, ⟨Hge, ⟨Hch, Hrest⟩, Hd⟩, HW, Ho⟩, HR⟩
  iapply (wp_load_rect 𝒱₀ (c : Thread nD τ) none Set.univ (m := rbM) (r := rChunk (chk c j)) (Finset.Subset.refl _)) $$ Hch
  iintro Hch
  iapply h
  iframe
  iexact HE

theorem load_slot_step (j : ℕ) {n : ℕ} {v} {o : Fin 3 → ℕ} (ho : o = ![(sb j).val, 0, 0])
    {i : ∀ a, o a + S1x1024x4096.size a ≤ S2x1024x4096.size a} {hl : wbM.view.LoadsAt (Rect.unit (s := S2x1024x4096) o S1x1024x4096.size i).toLoadRect}
    {k : Vec F S1x1024x4096 .f32 → Prog (TpuEff nD τ sig (Elt F) Λ₀ .tc) α}
    (h : iprop(Env m ρ K ∗ MainSt m ρ c n (WC m ρ c j) v ∗ R) ⊢ WP c (k (win m ρ c (chk c j))) Q) :
    iprop(Env m ρ K ∗ MainSt m ρ c n (WC m ρ c j) v ∗ R)
      ⊢ WP c (.op (.load wbM (Rect.unit (s := S2x1024x4096) o S1x1024x4096.size i).toLoadRect hl) k) Q := by
  subst ho
  rw [← read_slot m ρ c (sb j) (chk c j)] at h
  unfold MainSt WC idleW slotPts at h ⊢
  rw [show sb (j + 2) = sb j from Fin.ext (by show (j + 2) % 2 = j % 2; omega)] at h ⊢
  iintro ⟨#HE, ⟨HO, HRS, ⟨⟨Hat, Hsl⟩, HW⟩, Ho⟩, HR⟩
  iapply (wp_load_rect 𝒱₀ (c : Thread nD τ) none Set.univ (m := wbM) (r := rSlot (sb j)) (slot_set (sb j)).symm.subset) $$ Hsl
  iintro Hsl
  iapply h
  iframe
  iexact HE

theorem load_out_step {n : ℕ} {W v}
    {i : ∀ a, (![0, 0] : Fin 2 → ℕ) a + S256x4096.size a ≤ S256x4096.size a} {hl : oM.view.LoadsAt (Rect.unit (s := S256x4096) ![0, 0] S256x4096.size i).toLoadRect}
    {k : Vec F S256x4096 .f32 → Prog (TpuEff nD τ sig (Elt F) Λ₀ .tc) α}
    (h : iprop(Env m ρ K ∗ MainSt m ρ c n W v ∗ R) ⊢ WP c (k v) Q) :
    iprop(Env m ρ K ∗ MainSt m ρ c n W v ∗ R)
      ⊢ WP c (.op (.load oM (Rect.unit (s := S256x4096) ![0, 0] S256x4096.size i).toLoadRect hl) k) Q := by
  have hz : (![0, 0] : Fin 2 → Nat) = fun _ => 0 := funext fun a => by fin_cases a <;> rfl
  have e := Memref.readAt_unit_zero (Elt F) cc0_stg1_0 hz i v
  rw [← e] at h
  unfold MainSt at h ⊢
  iintro ⟨#HE, ⟨HO, HRS, HW, Ho⟩, HR⟩
  iapply (wp_load 𝒱₀ (c : Thread nD τ) none Set.univ (m := oM) (Finset.subset_univ _)) $$ Ho
  iintro Ho
  iapply h
  rw [e]
  iframe
  iexact HE

theorem store_out_step {n : ℕ} {W v w}
    {i : ∀ a, (![0, 0] : Fin 2 → ℕ) a + S256x4096.size a ≤ S256x4096.size a}
    {hx : (oM.access (Rect.unit (s := S256x4096) ![0, 0] S256x4096.size i)).Stores Finset.univ}
    {hm : (Finset.univ : Finset (Rect.unit (s := S256x4096) ![0, 0] S256x4096.size i).shape.Idx) = Finset.univ ∨ ∀ a, (Rect.unit (s := S256x4096) ![0, 0] S256x4096.size i).stride a = 1}
    (h : iprop(Env m ρ K ∗ MainSt m ρ c n W w ∗ R) ⊢ WP c (k ⟨⟩) Q) :
    iprop(Env m ρ K ∗ MainSt m ρ c n W v ∗ R)
      ⊢ WP c (.op (.store oM (Rect.unit (s := S256x4096) ![0, 0] S256x4096.size i) w Finset.univ hx hm) k) Q := by
  have hz : (![0, 0] : Fin 2 → Nat) = fun _ => 0 := funext fun a => by fin_cases a <;> rfl
  have e : (oM.access (Rect.unit (s := S256x4096) ![0, 0] S256x4096.size i)).write (Elt F) v w Finset.univ = w :=
    Memref.write_access_unit_zero_univ (Elt F) cc0_stg1_0 hz i v w
  unfold MainSt at h ⊢
  iintro ⟨#HE, ⟨HO, HRS, HW, Ho⟩, HR⟩
  iapply (wp_store 𝒱₀ (c : Thread nD τ) none Set.univ (m := oM) (r := Rect.unit (s := S256x4096) ![0, 0] S256x4096.size i) (Mk := Finset.univ) (Finset.subset_univ _)) $$ Ho
  iintro Ho
  rw [e]
  iapply h
  iframe
  iexact HE

end Steps
end Cert.Exchange
-- ==== Proof.Turns.lean ====
/-
# The start and the end of a body, one effect at a time

The staged columns are loaded and rounded, the barrier waited for, the device's own block copied; and at the end each send is waited for.
-/
module
public import proofs.«01_k».proof.Proof.Waits
@[expose] public section
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
variable {F : FTy → Type} [FloatOps F]
local notation "𝕄" => MT nD τ sig Unit (Elt F) ℕ UU ℕ

variable (m : (ℓ : Loc nD τ sig) → Buf (Elt F) ℓ) (ρ : Dev nD → PrngReg)
variable (K : Dev nD × CI → ℕ)

abbrev xPts (c : Dev nD) (v : (cc0_stg0_0 : Ref sig .tc).ty.Contents (Elt F)) : sProp 𝕄 := ((c : Thread nD τ).loc cc0_stg0_0) ↦{fullShare} v
abbrev xbPts (c : Dev nD) (v : (cc0_scratch0 : Ref sig .tc).ty.Contents (Elt F)) : sProp 𝕄 := ((c : Thread nD τ).loc cc0_scratch0) ↦{fullShare} v

/-! ## Families over the other devices -/

omit [FloatOps F] in
theorem erase_split {I : Type} [Fintype I] [DecidableEq I] (i : I) (Φ : I → sProp 𝕄) :
    bigSep Finset.univ Φ = iprop(Φ i ∗ bigSep (Finset.univ.erase i) Φ) := BI.bigSep_erase (Finset.mem_univ i)
omit [FloatOps F] in
theorem fam_join {I : Type} {s : Finset I} {Φ Ψ : I → sProp 𝕄} :
    iprop(bigSep s Φ ∗ bigSep s Ψ) ⊢ bigSep s fun i => iprop(Φ i ∗ Ψ i) := Entails.of_eq (bigSep_sep' _ _ _).symm

omit [FloatOps F] in
/-- A family over the devices other than `c`, in the order of `c`'s sends. -/
theorem erase_tgt (c : Dev nD) (Ψ : Dev nD → sProp 𝕄) :
    bigSep (Finset.univ.erase c) Ψ = bigSep Finset.univ fun q => if tgt c q = c then iprop(emp) else Ψ (tgt c q) := by
  rw [show (bigSep Finset.univ fun q => if tgt c q = c then iprop(emp) else Ψ (tgt c q))
    = bigSep Finset.univ fun d : Dev nD => if d = c then iprop(emp) else Ψ d from
      (bigSep_univ_equiv (tgtE c) (fun d : Dev nD => if d = c then iprop(emp) else Ψ d)).symm]
  rw [erase_split c, if_pos rfl]
  refine BI.Entails.antisymm (show BIBase.Entails (PROP := sProp 𝕄) _ _ from ?_) (show BIBase.Entails (PROP := sProp 𝕄) _ _ from ?_)
  · rw [show bigSep (Finset.univ.erase c) Ψ = bigSep (Finset.univ.erase c) fun d => if d = c then iprop(emp) else Ψ d from
      bigSep_congr fun d hd => (if_neg (Finset.ne_of_mem_erase hd)).symm]
    iintro H; isplitr; · iempintro
    iexact H
  · rw [show bigSep (Finset.univ.erase c) Ψ = bigSep (Finset.univ.erase c) fun d => if d = c then iprop(emp) else Ψ d from
      bigSep_congr fun d hd => (if_neg (Finset.ne_of_mem_erase hd)).symm]
    iintro ⟨-, H⟩; iexact H

/-- What the sends are made of, brought together. -/
theorem send_intro (c : Dev nD) :
    iprop(owesE c (Orcv c 0) ∗ bigSep (Finset.univ.erase c) (fun d => iprop(∃ f, colPts d c f))
        ∗ bigSep (Finset.univ.erase c) (fun d => dutyTok ER (rcvCell d c) 0 c) ∗ bigSep Finset.univ (fun q => dutyTok ER (sndCell c q) 0 c)
        ∗ bigSep (Finset.univ.erase c) (fun d => rowPts m ρ c d))
      ⊢ SendSt m ρ c 0 := by
  have hcomb : iprop(bigSep (Finset.univ.erase c) (fun d => iprop(∃ f, colPts d c f))
        ∗ bigSep (Finset.univ.erase c) (fun d => dutyTok ER (rcvCell d c) 0 c) ∗ bigSep Finset.univ (fun q => dutyTok ER (sndCell c q) 0 c)
        ∗ bigSep (Finset.univ.erase c) (fun d => rowPts m ρ c d))
      ⊢ bigSep Finset.univ (sendRes m ρ c) := by
    have hall : (bigSep Finset.univ fun q => iprop((if tgt c q = c then iprop(emp) else iprop(∃ f, colPts (tgt c q) c f))
          ∗ (if tgt c q = c then iprop(emp) else dutyTok ER (rcvCell (tgt c q) c) 0 c) ∗ dutyTok ER (sndCell c q) 0 c
          ∗ (if tgt c q = c then iprop(emp) else rowPts m ρ c (tgt c q))))
        ⊢ (bigSep Finset.univ (sendRes m ρ c) : sProp 𝕄) := by
      refine bigSep_mono fun q _ => ?_
      by_cases hq : tgt c q = c
      · rw [sendRes_self m ρ c hq]
        exact (show iprop(_) ⊢ (iprop(emp) : sProp 𝕄) from by iintro -; iempintro)
      · rw [sendRes_ne m ρ c hq, if_neg hq, if_neg hq, if_neg hq]
        exact BI.Entails.refl _
    rw [erase_tgt c, erase_tgt c, erase_tgt c]
    iintro ⟨H1, H2, H3, H4⟩
    ihave H := fam_join $$ [H3 H4]
    · isplitl [H3]; · iexact H3
      iexact H4
    ihave H := fam_join $$ [H2 H]
    · isplitl [H2]; · iexact H2
      iexact H
    ihave H := fam_join $$ [H1 H]
    · isplitl [H1]; · iexact H1
      iexact H
    iapply hall $$ H
  unfold SendSt
  rw [geF_zero, ltF_zero, bigSep_empty]
  iintro ⟨HO, H⟩
  isplitl [HO]; · iexact HO
  isplitl [H]; · iapply hcomb $$ H
  iempintro

/-- The landings to wait for, brought together in the order of the waits. -/
theorem recv_intro (c : Dev nD) :
    iprop(bigSep Finset.univ (fun s => atPos ER (rcvCell c s) 0 ∅ 0) ∗ cred (tallyAt (rcvCell c c) () N)
        ∗ bigSep (Finset.univ.erase c) (fun s => cred (tallyAt (rcvCell c s) () N)))
      ⊢ RSt (F := F) m ρ c 0 := by
  unfold RSt
  rw [geF_zero, ltF_zero, bigSep_empty, bigSep_empty]
  iintro ⟨H1, H2, H3⟩
  ihave H4 := (Entails.of_eq (erase_split c (fun s => cred (tallyAt (rcvCell c s) () N))).symm) $$ [H2 H3]
  · isplitl [H2]; · iexact H2
    iexact H3
  ihave H := fam_join $$ [H1 H4]
  · isplitl [H1]; · iexact H1
    iexact H4
  isplitl [H]
  · rw [show (bigSep Finset.univ fun u => iprop(atPos ER (rcvCell c (src c u)) 0 ∅ 0 ∗ cred (tallyAt (rcvCell c (src c u)) () N)))
      = bigSep Finset.univ fun s => iprop(atPos ER (rcvCell c s) 0 ∅ 0 ∗ cred (tallyAt (rcvCell c s) () N)) from
        (bigSep_univ_equiv (srcE c) (fun s => iprop(atPos ER (rcvCell c s) 0 ∅ 0 ∗ cred (tallyAt (rcvCell c s) () N)))).symm]
    iexact H
  isplitr <;> iempintro

/-! ## Waiting for the sends -/

def backRes (c : Dev nD) (q : Fin 32) : sProp 𝕄 := if tgt c q = c then iprop(emp) else rowPts m ρ c (tgt c q)

/-- The sends waited for before `n`, their row blocks back; the others still out. -/
def SWSt (c : Dev nD) (n : ℕ) : sProp 𝕄 :=
  iprop(owesE c 0 ∗ (bigSep (geF 32 n) fun q => iprop(atPos ER (sndCell c q) 0 ∅ 0 ∗ sentRes c q))
    ∗ bigSep (ltF 32 n) fun q => iprop(semVal (sndCell c q) 0 ∗ backRes m ρ c q))

theorem main_sw (c : Dev nD) {n W v} {R : sProp 𝕄} :
    iprop(Env m ρ K ∗ MainSt m ρ c n W v ∗ bigSep Finset.univ (sentRes c) ∗ bigSep Finset.univ (fun q => atPos ER (sndCell c q) 0 ∅ 0) ∗ R)
      ⊢ iprop(Env m ρ K ∗ SWSt m ρ c 0 ∗ (RSt m ρ c n ∗ W ∗ oPts c v) ∗ R) := by
  unfold MainSt SWSt
  rw [geF_zero, ltF_zero, bigSep_empty]
  iintro ⟨HE, ⟨HO, HRS, HW, Ho⟩, Hs, Ha, HR⟩
  ihave H := fam_join $$ [Ha Hs]
  · isplitl [Ha]; · iexact Ha
    iexact Hs
  iframe
  iempintro

section Steps
variable (c : Dev nD) {α : Type} {Q : α → sProp (MT nD τ sig Unit (Elt F) ℕ UU ℕ)} {R : sProp (MT nD τ sig Unit (Elt F) ℕ UU ℕ)}
  {k : PUnit → Prog (TpuEff nD τ sig (Elt F) Λ₀ .tc) α}

theorem sendwait_op (n : ℕ) (hn : n < 32) (hne : tgt c ⟨n, hn⟩ ≠ c) {S : DmaSem sig} (hS : S = sndS ⟨n, hn⟩)
    {sp sp' : Space} {s' s : Shape} {e' e : EltTy} {srcM : Memref sig .tc sp' s' e'} {dstM : Memref sig .tc sp s e}
    {hsrc : srcM.view.WordExact} {hdst : dstM.view.WordExact} (hN : dstM.view.dmaCredit = N)
    (h : iprop(Env m ρ K ∗ SWSt m ρ c (n + 1) ∗ R) ⊢ WP c (k ⟨⟩) Q) :
    iprop(Env m ρ K ∗ SWSt m ρ c n ∗ R) ⊢ WP c (.op (.waitDma2 S srcM dstM hsrc hdst) k) Q := by
  subst hS
  iintro ⟨#HE, HS, HR⟩
  ihave #HI := (env_snd m ρ K c ⟨n, hn⟩) $$ HE
  icases HI with ⟨#HI, -⟩
  unfold SWSt owesE
  rw [bigSep_ge hn, sentRes_ne c hne]
  icases HS with ⟨⟨%W, HO⟩, ⟨⟨Hat, Hc⟩, Hrest⟩, Hd⟩
  iapply (Rounds.wp_wait_rest_token 𝒱₀ ER (Rd m ρ) (c : Thread nD τ) none (κ := K (c, .inr (.inl ⟨n, hn⟩)))
      (wpE_waitDma2_eq 𝒱₀ (c : Thread nD τ) none Set.univ) (Set.mem_univ _) () (O := 0) (W := W) (R := 0) (m := 0) (T := ∅)
      (by rw [Nat.zero_add, hN, expect_snd m ρ c _ hne])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hrow := (Entails.of_eq (rest_snd m ρ c ⟨n, hn⟩ hne)) $$ Hpay
  imod (Rounds.cell_close ER (Rd m ρ) (Set.mem_univ (K (c, .inr (.inl ⟨n, hn⟩)))) (fun h => h) (R := 0 + 1)
    (duties_snd_later m ρ c ⟨n, hn⟩)) $$ [Hat] with Hz
  · isplitr; · iexact HI
    iexact Hat
  iapply h
  isplitr; · iexact HE
  isplitr [HR]
  · unfold SWSt owesE
    rw [bigSep_lt hn, show backRes m ρ c ⟨n, hn⟩ = rowPts m ρ c (tgt c ⟨n, hn⟩) from if_neg hne]
    isplitl [HO]; · iexists _; iexact HO
    isplitl [Hrest]; · iexact Hrest
    isplitl [Hz Hrow]
    · isplitl [Hz]; · iexact Hz
      iexact Hrow
    iexact Hd
  iexact HR

theorem sendwait_skip (n : ℕ) (hn : n < 32) (he : tgt c ⟨n, hn⟩ = c) {p : Prog (TpuEff nD τ sig (Elt F) Λ₀ .tc) α}
    (h : iprop(Env m ρ K ∗ SWSt m ρ c (n + 1) ∗ R) ⊢ WP c p Q) : iprop(Env m ρ K ∗ SWSt m ρ c n ∗ R) ⊢ WP c p Q := by
  iintro ⟨#HE, HS, HR⟩
  ihave #HI := (env_snd m ρ K c ⟨n, hn⟩) $$ HE
  icases HI with ⟨#HI, -⟩
  unfold SWSt
  rw [bigSep_ge hn]
  icases HS with ⟨HO, ⟨⟨Hat, -⟩, Hrest⟩, Hd⟩
  imod (Rounds.cell_close ER (Rd m ρ) (Set.mem_univ (K (c, .inr (.inl ⟨n, hn⟩)))) (fun h => h) (R := 0)
    (duties_snd_self m ρ c ⟨n, hn⟩ he)) $$ [Hat] with Hz
  · isplitr; · iexact HI
    iexact Hat
  iapply h
  isplitr; · iexact HE
  isplitr [HR]
  · unfold SWSt
    rw [bigSep_lt hn, show backRes m ρ c ⟨n, hn⟩ = iprop(emp) from if_pos he]
    isplitl [HO]; · iexact HO
    isplitl [Hrest]; · iexact Hrest
    isplitl [Hz]
    · isplitl [Hz]; · iexact Hz
      iempintro
    iexact Hd
  iexact HR

theorem sendwait_step (n : ℕ) (hn : n < 32) (cnd : Dev nD → BitVec 1) (hcnd : ∀ c : Dev nD, cnd c = 1#1 ↔ tgt c ⟨n, hn⟩ ≠ c)
    {S : cnd c = 1#1 → DmaSem sig} (hS : ∀ h, S h = sndS ⟨n, hn⟩)
    {sp sp' : Space} {s' s : Shape} {e' e : EltTy} {srcM : cnd c = 1#1 → Memref sig .tc sp' s' e'} {dstM : cnd c = 1#1 → Memref sig .tc sp s e}
    {hsrc : ∀ h, (srcM h).view.WordExact} {hdst : ∀ h, (dstM h).view.WordExact} (hN : ∀ h, (dstM h).view.dmaCredit = N)
    (h : iprop(Env m ρ K ∗ SWSt m ρ c (n + 1) ∗ R) ⊢ WP c (k ⟨⟩) Q) :
    iprop(Env m ρ K ∗ SWSt m ρ c n ∗ R)
      ⊢ WP c (dite (cnd c = 1#1) (fun hc => .op (.waitDma2 (S hc) (srcM hc) (dstM hc) (hsrc hc) (hdst hc)) fun _ => k PUnit.unit) (fun _ => k PUnit.unit)) Q := by
  by_cases he : tgt c ⟨n, hn⟩ = c
  · rw [dif_neg (fun hc => (hcnd c).mp hc he)]
    exact sendwait_skip m ρ K c n hn he h
  · rw [dif_pos ((hcnd c).mpr he)]
    exact sendwait_op m ρ K c n hn he (hS _) (hN _) h

/-! ## The staged columns and the barrier -/

theorem load_x_step {S : sProp 𝕄} {v}
    {i : ∀ a, (![0, 0] : Fin 2 → ℕ) a + S8192x256.size a ≤ S8192x256.size a} {hl : xM.view.LoadsAt (Rect.unit (s := S8192x256) ![0, 0] S8192x256.size i).toLoadRect}
    {k : Vec F S8192x256 .f32 → Prog (TpuEff nD τ sig (Elt F) Λ₀ .tc) α}
    (h : iprop(Env m ρ K ∗ S ∗ xPts c v ∗ R) ⊢ WP c (k v) Q) :
    iprop(Env m ρ K ∗ S ∗ xPts c v ∗ R)
      ⊢ WP c (.op (.load xM (Rect.unit (s := S8192x256) ![0, 0] S8192x256.size i).toLoadRect hl) k) Q := by
  have hz : (![0, 0] : Fin 2 → Nat) = fun _ => 0 := funext fun a => by fin_cases a <;> rfl
  have e := Memref.readAt_unit_zero (Elt F) cc0_stg0_0 hz i v
  rw [← e] at h
  iintro ⟨#HE, HS, Hx, HR⟩
  iapply (wp_load 𝒱₀ (c : Thread nD τ) none Set.univ (m := xM) (Finset.subset_univ _)) $$ Hx
  iintro Hx
  iapply h
  rw [e]
  iframe
  iexact HE

theorem load_xb_step {S : sProp 𝕄} {v}
    {i : ∀ a, (![0, 0] : Fin 2 → ℕ) a + S8192x256.size a ≤ S8192x256.size a} {hl : xbM.view.LoadsAt (Rect.unit (s := S8192x256) ![0, 0] S8192x256.size i).toLoadRect}
    {k : Vec F S8192x256 .bf16 → Prog (TpuEff nD τ sig (Elt F) Λ₀ .tc) α}
    (h : ∀ w, iprop(Env m ρ K ∗ S ∗ xbPts c v ∗ R) ⊢ WP c (k w) Q) :
    iprop(Env m ρ K ∗ S ∗ xbPts c v ∗ R)
      ⊢ WP c (.op (.load xbM (Rect.unit (s := S8192x256) ![0, 0] S8192x256.size i).toLoadRect hl) k) Q := by
  iintro ⟨#HE, HS, Hx, HR⟩
  iapply (wp_load 𝒱₀ (c : Thread nD τ) none Set.univ (m := xbM) (Finset.subset_univ _)) $$ Hx
  iintro Hx
  iapply h
  iframe
  iexact HE

theorem store_xb_step {S : sProp 𝕄} {v w}
    {i : ∀ a, (![0, 0] : Fin 2 → ℕ) a + S8192x256.size a ≤ S8192x256.size a}
    {hx : (xbM.access (Rect.unit (s := S8192x256) ![0, 0] S8192x256.size i)).Stores Finset.univ}
    {hm : (Finset.univ : Finset (Rect.unit (s := S8192x256) ![0, 0] S8192x256.size i).shape.Idx) = Finset.univ ∨ ∀ a, (Rect.unit (s := S8192x256) ![0, 0] S8192x256.size i).stride a = 1}
    (h : iprop(Env m ρ K ∗ S ∗ xbPts c w ∗ R) ⊢ WP c (k ⟨⟩) Q) :
    iprop(Env m ρ K ∗ S ∗ xbPts c v ∗ R)
      ⊢ WP c (.op (.store xbM (Rect.unit (s := S8192x256) ![0, 0] S8192x256.size i) w Finset.univ hx hm) k) Q := by
  have hz : (![0, 0] : Fin 2 → Nat) = fun _ => 0 := funext fun a => by fin_cases a <;> rfl
  have e : (xbM.access (Rect.unit (s := S8192x256) ![0, 0] S8192x256.size i)).write (Elt F) v w Finset.univ = w :=
    Memref.write_access_unit_zero_univ (Elt F) cc0_scratch0 hz i v w
  iintro ⟨#HE, HS, Hx, HR⟩
  iapply (wp_store 𝒱₀ (c : Thread nD τ) none Set.univ (m := xbM) (r := Rect.unit (s := S8192x256) ![0, 0] S8192x256.size i) (Mk := Finset.univ) (Finset.subset_univ _)) $$ Hx
  iintro Hx
  rw [e]
  iapply h
  iframe
  iexact HE

/-- The barrier: every other device has handed over its column block for this one. -/
theorem bar_step {S : Sem sig} (hS : S = barS) {a : ℕ} (ha : a = 31)
    (h : iprop(Env m ρ K ∗ (owesE c (Orcv c 0) ∗ semVal (barCell c) 0 ∗ bigSep (Finset.univ.erase c) (fun d => iprop(∃ f, colPts d c f))) ∗ R) ⊢ WP c (k ⟨⟩) Q) :
    iprop(Env m ρ K ∗ (owesE c (Orcv c 0) ∗ cred (tallyAt (barCell c) () 31) ∗ atPos ER (barCell c) 0 ∅ 0) ∗ R)
      ⊢ WP c (.op (.semWait S a) k) Q := by
  subst hS; subst ha
  iintro ⟨#HE, HS, HR⟩
  ihave #HI := (env_bar m ρ K c) $$ HE
  icases HI with ⟨#HI, -⟩
  unfold owesE
  icases HS with ⟨⟨%W, HO⟩, Hc, Hat⟩
  iapply (Rounds.wp_wait_rest_token 𝒱₀ ER (Rd m ρ) (c : Thread nD τ) none (κ := K (c, .inl ()))
      (wpE_semWait_eq 𝒱₀ (c : Thread nD τ) none Set.univ) (Set.mem_univ _) () (O := Orcv c 0) (W := W) (R := 0) (m := 0) (T := ∅)
      ((Nat.zero_add 31).trans (expect_bar m ρ c).symm)) $$ [Hc HO Hat]
  · isplitr; · iexact HI
    isplitl [Hc]; · iexact Hc
    isplitl [HO]; · iexact HO
    isplitr; · iapply (may_bar m ρ K c) $$ HE
    iexact Hat
  iintro ⟨HO, Hat, -, Hpay⟩
  ihave Hp := (Entails.of_eq (rest_bar m ρ c)) $$ Hpay
  imod (Rounds.cell_close ER (Rd m ρ) (Set.mem_univ (K (c, .inl ()))) (fun h => h) (R := 0 + 1) (duties_bar_later m ρ c)) $$ [Hat] with Hz
  · isplitr; · iexact HI
    iexact Hat
  iapply h
  isplitr; · iexact HE
  isplitr [HR]
  · unfold owesE
    isplitl [HO]; · iexists _; iexact HO
    isplitl [Hz]; · iexact Hz
    iexact Hp
  iexact HR

theorem own_pay (fn : (cc0_scratch1 : Ref sig .tc).ty.Contents (Elt F)) :
    iprop(((colV c).view.loc (c : Thread nD τ) ↦[(colV c).view.set]{fullShare}
          (colV c).view.write (Elt F) fn ((rowV c).view.read (Elt F) (xb m ρ c)) Finset.univ)
        ∗ ((rowV c).view.loc (c : Thread nD τ) ↦[(rowV c).view.set]{fullShare} xb m ρ c))
      ⊢ (Rd (F := F) m ρ).payload (rcvCell c c) 0 c := by
  rw [pay_rcv]; unfold ownRow colPts rowPts; rw [if_pos rfl]
  rw [pointsTo_congr (col_write m ρ c c fn)]

theorem wp_own {hsrc : (rowV c).view.WordExact} {hdst : (colV c).view.WordExact}
    {hsem : DmaTarget.Typed (nD := nD) (τ := τ) (p := (Proc.tc : Proc τ)) .vmem (.dma (rcvS c)) (.here (colV c))}
    (fn : (cc0_scratch1 : Ref sig .tc).ty.Contents (Elt F)) :
    iprop(cellInv ER (Rd m ρ) (K (c, .inr (.inr (.inl c)))) (rcvCell c c) ∗ rowPts m ρ c c ∗ colPts c c fn
        ∗ dutyTok ER (rcvCell c c) 0 c ∗ reached ER (rcvCell c c) 0)
      ⊢ iprop((cred (tallyAt (rcvCell c c) () N) -∗ WP c (k ⟨⟩) Q)
          -∗ WP c (.op (.enqueueDma (rowV c) (.here (colV c)) (.dma (rcvS c)) hsrc hdst hsem) k) Q) := by
  unfold rowPts colPts
  exact Rounds.wp_copy_pointsTo 𝒱₀ ER (Rd m ρ) (c : Thread nD τ) none (κ := K (c, .inr (.inr (.inl c))))
    (r := 0) (d := c) (src := rowV c) (dst := colV c) (fd := fn) (fs := xb m ρ c)
    (by rw [duties_rcv]; exact Finset.mem_singleton_self _) () N rfl (amount_rcv m ρ c _ _ c) (own_pay m ρ c fn)

theorem own_step {oS oD : Fin 2 → ℕ} (hoS : oS = ![256 * c.val, 0]) (hoD : oD = ![0, 256 * c.val]) {S : DmaSem sig} (hS : S = rcvS c)
    {i : ∀ a, oS a + S256x256.size a ≤ S8192x256.size a} {t : ∀ a, (Rect.unit (s := S8192x256) oS S256x256.size i).stride a = 1}
    {i' : ∀ a, oD a + S256x256.size a ≤ S256x8192.size a} {t' : ∀ a, (Rect.unit (s := S256x8192) oD S256x256.size i').stride a = 1}
    {hsrc : (xbM.slice (Rect.unit (s := S8192x256) oS S256x256.size i) t : Memref sig .tc .vmem S256x256 .bf16).view.WordExact}
    {hdst : (rbM.slice (Rect.unit (s := S256x8192) oD S256x256.size i') t' : Memref sig .tc .vmem S256x256 .bf16).view.WordExact}
    {hsem : DmaTarget.Typed (nD := nD) (τ := τ) (p := (Proc.tc : Proc τ)) .vmem (.dma S) (.here (rbM.slice (Rect.unit (s := S256x8192) oD S256x256.size i') t' : Memref sig .tc .vmem S256x256 .bf16))}
    (h : iprop(Env m ρ K ∗ cred (tallyAt (rcvCell c c) () N) ∗ R) ⊢ WP c (k ⟨⟩) Q) :
    iprop(Env m ρ K ∗ (rowPts m ρ c c ∗ (∃ f, colPts c c f) ∗ dutyTok ER (rcvCell c c) 0 c) ∗ R)
      ⊢ WP c (.op (.enqueueDma (xbM.slice (Rect.unit (s := S8192x256) oS S256x256.size i) t)
          (.here (rbM.slice (Rect.unit (s := S256x8192) oD S256x256.size i') t')) (.dma S) hsrc hdst hsem) k) Q := by
  subst hoS; subst hoD; subst hS
  iintro ⟨#HE, ⟨Hrow, ⟨%fn, Hcol⟩, Ht⟩, HR⟩
  ihave #HI := (env_rcv m ρ K c c) $$ HE
  icases HI with ⟨#HI, #Hre⟩
  iapply (wp_own m ρ K c fn) $$ [Hrow Hcol Ht]
  · isplitr; · iexact HI
    isplitl [Hrow]; · iexact Hrow
    isplitl [Hcol]; · iexact Hcol
    isplitl [Ht]; · iexact Ht
    iexact Hre
  iintro Hc
  iapply h
  isplitr; · iexact HE
  isplitl [Hc]; · iexact Hc
  iexact HR

end Steps
end Cert.Exchange
-- ==== Proof.Signals.lean ====
/-
# The body's first half, part by part

The barrier signals, the store of the rounded columns, the barrier wait, the device's own block, and the sends.  Each statement takes
what is held before a part of the body and what its continuation needs after it.
-/
module
public import proofs.«01_k».proof.Proof.Turns
@[expose] public section
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
variable {F : FTy → Type} [FloatOps F]
local notation "𝕄" => MT nD τ sig Unit (Elt F) ℕ UU ℕ

variable (m : (ℓ : Loc nD τ sig) → Buf (Elt F) ℓ) (ρ : Dev nD → PrngReg)

variable (K : Dev nD × CI → ℕ)

universe u in
/-- A part of the body at the kernel's own memrefs and semaphores. -/
abbrev onM {α : Type u} (p : (arg0 : Memref sig .tc .vmem S8192x256 .f32) → arg0.IsWhole → (arg1 : Memref sig .tc .hbm S8192x4096 .f32) → arg1.IsWhole
    → (arg2 : Memref sig .tc .vmem S256x4096 .f32) → arg2.IsWhole → (arg3 : Memref sig .tc .vmem S8192x256 .bf16) → arg3.IsWhole
    → (arg4 : Memref sig .tc .vmem S256x8192 .bf16) → arg4.IsWhole → (arg5 : Memref sig .tc .vmem S2x1024x4096 .f32) → arg5.IsWhole
    → DmaSems sig S32 → DmaSems sig S32 → DmaSems sig S2 → α) : α :=
  p xM (Memref.isWhole_whole _) wM (Memref.isWhole_whole _) oM (Memref.isWhole_whole _) xbM (Memref.isWhole_whole _)
    rbM (Memref.isWhole_whole _) wbM (Memref.isWhole_whole _) cc0_scratch3 cc0_scratch4 cc0_scratch5
/-- The barrier semaphore, as the body passes it from part to part. -/
abbrev bS : Sems sig S_ := SemArray.scalar (sig.barrier 0 rfl)

section Parts
variable (c : Dev nD) {R : sProp (MT nD τ sig Unit (Elt F) ℕ UU ℕ)}

theorem end_step {α : Type} {P : sProp 𝕄} {Q : α → sProp 𝕄} {a : α} (h : P ⊢ Q a) : P ⊢ WP c (.ret a) Q := by
  unfold WP; rw [wp_ret]; iintro H; imodintro; iapply h; iexact H
theorem bind_step {α β : Type} {P : sProp 𝕄} {p : Prog (TpuEff nD τ sig (Elt F) Λ₀ .tc) β} {k : β → Prog (TpuEff nD τ sig (Elt F) Λ₀ .tc) α} {Q : α → sProp 𝕄}
    (h : P ⊢ WP c p fun b => WP c (k b) Q) : P ⊢ WP c (p >>= k) Q := by
  unfold WP; rw [wp_bind]; exact h

theorem device_step {α : Type} {P : sProp 𝕄} {k : Dev nD → Prog (TpuEff nD τ sig (Elt F) Λ₀ .tc) α} {Q : α → sProp 𝕄}
    (h : P ⊢ WP c (k c) Q) : P ⊢ WP c (.op .deviceId k) Q := by
  unfold WP; rw [wp_deviceId]; exact h

/-- `send_step` with the semaphores as the body slices them. -/
theorem send_at {α : Type} {Q : α → sProp 𝕄} {p : Prog (TpuEff nD τ sig (Elt F) Λ₀ .tc) α}
    (n : ℕ) (hn : n < 32) (cnd : Dev nD → BitVec 1) (dv : Dev nD → ℕ) (oS : Dev nD → Fin 2 → ℕ) (oD : Dev nD → Fin 2 → ℕ)
    (oT : Fin 1 → ℕ) (oR : Dev nD → Fin 1 → ℕ)
    (hcnd : ∀ c : Dev nD, cnd c = 1#1 ↔ tgt c ⟨n, hn⟩ ≠ c) (hdv : ∀ c : Dev nD, dv c = (tgt c ⟨n, hn⟩).val)
    (hoS : ∀ c : Dev nD, oS c = ![256 * (tgt c ⟨n, hn⟩).val, 0]) (hoD : ∀ c : Dev nD, oD c = ![0, 256 * c.val])
    (hoT : oT = ![n]) (hoR : ∀ c : Dev nD, oR c = ![c.val])
    {iT : ∀ a, oT a + S1.size a ≤ S32.size a} {iR : cnd c = 1#1 → ∀ a, oR c a + S1.size a ≤ S32.size a}
    {hlt : cnd c = 1#1 → dv c < nD}
    {iS : cnd c = 1#1 → ∀ a, oS c a + S256x256.size a ≤ S8192x256.size a} {tS : ∀ h, ∀ a, (Rect.unit (s := S8192x256) (oS c) S256x256.size (iS h)).stride a = 1}
    {iD : cnd c = 1#1 → ∀ a, oD c a + S256x256.size a ≤ S256x8192.size a} {tD : ∀ h, ∀ a, (Rect.unit (s := S256x8192) (oD c) S256x256.size (iD h)).stride a = 1}
    {hsc : ∀ h, (rbM.slice (Rect.unit (s := S256x8192) (oD c) S256x256.size (iD h)) (tD h) : Memref sig (Dev.tc ⟨dv c, hlt h⟩ : Thread nD τ).2.kind .vmem S256x256 .bf16).view.ref.isScScratch = false}
    {hsrc : ∀ h, (xbM.slice (Rect.unit (s := S8192x256) (oS c) S256x256.size (iS h)) (tS h) : Memref sig .tc .vmem S256x256 .bf16).view.WordExact}
    {hdst : ∀ h, (rbM.slice (Rect.unit (s := S256x8192) (oD c) S256x256.size (iD h)) (tD h) : Memref sig .tc .vmem S256x256 .bf16).view.WordExact}
    {hsem : ∀ h, DmaTarget.Typed .vmem (.dma ((SemArray.slice cc0_scratch4 (Rect.unit (s := S32) (oR c) S1.size (iR h))).squeeze S_ squeezes_S1_S_).sem)
      (.remote (Dev.tc (⟨dv c, hlt h⟩ : Dev nD) : Thread nD τ)
      (rbM.slice (Rect.unit (s := S256x8192) (oD c) S256x256.size (iD h)) (tD h) : Memref sig .tc .vmem S256x256 .bf16)
      (.dma ((SemArray.slice cc0_scratch3 (Rect.unit (s := S32) oT S1.size iT)).squeeze S_ squeezes_S1_S_).sem) (hsc h))}
    (h : iprop(Env m ρ K ∗ SendSt m ρ c (n + 1) ∗ R) ⊢ WP c p Q) :
    iprop(Env m ρ K ∗ SendSt m ρ c n ∗ R)
      ⊢ WP c (dite (cnd c = 1#1) (fun hc => .op (.enqueueDma (xbM.slice (Rect.unit (s := S8192x256) (oS c) S256x256.size (iS hc)) (tS hc))
            (.remote (Dev.tc (⟨dv c, hlt hc⟩ : Dev nD) : Thread nD τ) (rbM.slice (Rect.unit (s := S256x8192) (oD c) S256x256.size (iD hc)) (tD hc))
              (.dma ((SemArray.slice cc0_scratch3 (Rect.unit (s := S32) oT S1.size iT)).squeeze S_ squeezes_S1_S_).sem) (hsc hc))
            (.dma ((SemArray.slice cc0_scratch4 (Rect.unit (s := S32) (oR c) S1.size (iR hc))).squeeze S_ squeezes_S1_S_).sem) (hsrc hc) (hdst hc) (hsem hc))
            fun _ => p) (fun _ => p)) Q := by
  subst hoT
  exact send_step m ρ K c (k := fun (_ : PUnit.{1}) => p) n hn cnd dv oS oD hcnd hdv hoS hoD (fun _ => snd_sem ⟨n, hn⟩) (fun _ => rcv_sem c (hoR c)) h

theorem p1 {Q : _ → sProp 𝕄} (h : ∀ v2 v19 v34 v35, iprop(Env m ρ K ∗ SigSt c 2 ∗ R) ⊢ Q ⟨c, v2, v19, bS, v34, 32#32, v35⟩) :
    iprop(Env m ρ K ∗ SigSt c 1 ∗ R) ⊢ WP c (onM (k0_part1 (F := F))) Q := by
  dsimp only [onM]
  rw [k0_part1_eq_skeleton]; unfold k0_part1_skel; simp -zeta only [semSignalWord, Prog.lift, Prog.bind_op, Prog.bind_ret, Prog.pure_eq_ret]
  refine device_step c ?_
  refine signal_step m ρ K c _ (by decide) (by decide) _ (by decide +kernel) rfl ?_
  refine end_step c ?_
  exact h _ _ _ _

theorem p2 {Q : _ → sProp 𝕄} (a b d e) (h : ∀ v, iprop(Env m ρ K ∗ SigSt c 4 ∗ R) ⊢ Q v) :
    iprop(Env m ρ K ∗ SigSt c 2 ∗ R) ⊢ WP c (onM (k0_part2 (F := F)) c a bS b d e) Q := by
  dsimp only [onM]
  rw [k0_part2_eq_skeleton]; unfold k0_part2_skel; simp -zeta only [semSignalWord, Prog.lift, Prog.bind_op, Prog.bind_ret, Prog.pure_eq_ret]
  iterate 2 refine signal_step m ρ K c _ (by decide) (by decide) _ (by decide +kernel) rfl ?_
  exact end_step c (h _)

theorem p3 {Q : _ → sProp 𝕄} (a b d e) (h : ∀ v, iprop(Env m ρ K ∗ SigSt c 7 ∗ R) ⊢ Q v) :
    iprop(Env m ρ K ∗ SigSt c 4 ∗ R) ⊢ WP c (onM (k0_part3 (F := F)) c a bS b d e) Q := by
  dsimp only [onM]
  rw [k0_part3_eq_skeleton]; unfold k0_part3_skel; simp -zeta only [semSignalWord, Prog.lift, Prog.bind_op, Prog.bind_ret, Prog.pure_eq_ret]
  iterate 3 refine signal_step m ρ K c _ (by decide) (by decide) _ (by decide +kernel) rfl ?_
  exact end_step c (h _)

theorem p4 {Q : _ → sProp 𝕄} (a b d e) (h : ∀ v, iprop(Env m ρ K ∗ SigSt c 9 ∗ R) ⊢ Q v) :
    iprop(Env m ρ K ∗ SigSt c 7 ∗ R) ⊢ WP c (onM (k0_part4 (F := F)) c a bS b d e) Q := by
  dsimp only [onM]
  rw [k0_part4_eq_skeleton]; unfold k0_part4_skel; simp -zeta only [semSignalWord, Prog.lift, Prog.bind_op, Prog.bind_ret, Prog.pure_eq_ret]
  iterate 2 refine signal_step m ρ K c _ (by decide) (by decide) _ (by decide +kernel) rfl ?_
  exact end_step c (h _)

theorem p5 {Q : _ → sProp 𝕄} (a b d e) (h : ∀ v, iprop(Env m ρ K ∗ SigSt c 12 ∗ R) ⊢ Q v) :
    iprop(Env m ρ K ∗ SigSt c 9 ∗ R) ⊢ WP c (onM (k0_part5 (F := F)) c a bS b d e) Q := by
  dsimp only [onM]
  rw [k0_part5_eq_skeleton]; unfold k0_part5_skel; simp -zeta only [semSignalWord, Prog.lift, Prog.bind_op, Prog.bind_ret, Prog.pure_eq_ret]
  iterate 3 refine signal_step m ρ K c _ (by decide) (by decide) _ (by decide +kernel) rfl ?_
  exact end_step c (h _)

theorem p6 {Q : _ → sProp 𝕄} (a b d e) (h : ∀ v, iprop(Env m ρ K ∗ SigSt c 14 ∗ R) ⊢ Q v) :
    iprop(Env m ρ K ∗ SigSt c 12 ∗ R) ⊢ WP c (onM (k0_part6 (F := F)) c a bS b d e) Q := by
  dsimp only [onM]
  rw [k0_part6_eq_skeleton]; unfold k0_part6_skel; simp -zeta only [semSignalWord, Prog.lift, Prog.bind_op, Prog.bind_ret, Prog.pure_eq_ret]
  iterate 2 refine signal_step m ρ K c _ (by decide) (by decide) _ (by decide +kernel) rfl ?_
  exact end_step c (h _)

theorem p7 {Q : _ → sProp 𝕄} (a b d e) (h : ∀ v, iprop(Env m ρ K ∗ SigSt c 17 ∗ R) ⊢ Q v) :
    iprop(Env m ρ K ∗ SigSt c 14 ∗ R) ⊢ WP c (onM (k0_part7 (F := F)) c a bS b d e) Q := by
  dsimp only [onM]
  rw [k0_part7_eq_skeleton]; unfold k0_part7_skel; simp -zeta only [semSignalWord, Prog.lift, Prog.bind_op, Prog.bind_ret, Prog.pure_eq_ret]
  iterate 3 refine signal_step m ρ K c _ (by decide) (by decide) _ (by decide +kernel) rfl ?_
  exact end_step c (h _)

theorem p8 {Q : _ → sProp 𝕄} (a b d e) (h : ∀ v, iprop(Env m ρ K ∗ SigSt c 19 ∗ R) ⊢ Q v) :
    iprop(Env m ρ K ∗ SigSt c 17 ∗ R) ⊢ WP c (onM (k0_part8 (F := F)) c a bS b d e) Q := by
  dsimp only [onM]
  rw [k0_part8_eq_skeleton]; unfold k0_part8_skel; simp -zeta only [semSignalWord, Prog.lift, Prog.bind_op, Prog.bind_ret, Prog.pure_eq_ret]
  iterate 2 refine signal_step m ρ K c _ (by decide) (by decide) _ (by decide +kernel) rfl ?_
  exact end_step c (h _)

theorem p9 {Q : _ → sProp 𝕄} (a b d e) (h : ∀ v, iprop(Env m ρ K ∗ SigSt c 22 ∗ R) ⊢ Q v) :
    iprop(Env m ρ K ∗ SigSt c 19 ∗ R) ⊢ WP c (onM (k0_part9 (F := F)) c a bS b d e) Q := by
  dsimp only [onM]
  rw [k0_part9_eq_skeleton]; unfold k0_part9_skel; simp -zeta only [semSignalWord, Prog.lift, Prog.bind_op, Prog.bind_ret, Prog.pure_eq_ret]
  iterate 3 refine signal_step m ρ K c _ (by decide) (by decide) _ (by decide +kernel) rfl ?_
  exact end_step c (h _)

theorem p10 {Q : _ → sProp 𝕄} (a b d e) (h : ∀ v, iprop(Env m ρ K ∗ SigSt c 24 ∗ R) ⊢ Q v) :
    iprop(Env m ρ K ∗ SigSt c 22 ∗ R) ⊢ WP c (onM (k0_part10 (F := F)) c a bS b d e) Q := by
  dsimp only [onM]
  rw [k0_part10_eq_skeleton]; unfold k0_part10_skel; simp -zeta only [semSignalWord, Prog.lift, Prog.bind_op, Prog.bind_ret, Prog.pure_eq_ret]
  iterate 2 refine signal_step m ρ K c _ (by decide) (by decide) _ (by decide +kernel) rfl ?_
  exact end_step c (h _)

theorem p11 {Q : _ → sProp 𝕄} (a b d e) (h : ∀ v, iprop(Env m ρ K ∗ SigSt c 27 ∗ R) ⊢ Q v) :
    iprop(Env m ρ K ∗ SigSt c 24 ∗ R) ⊢ WP c (onM (k0_part11 (F := F)) c a bS b d e) Q := by
  dsimp only [onM]
  rw [k0_part11_eq_skeleton]; unfold k0_part11_skel; simp -zeta only [semSignalWord, Prog.lift, Prog.bind_op, Prog.bind_ret, Prog.pure_eq_ret]
  iterate 3 refine signal_step m ρ K c _ (by decide) (by decide) _ (by decide +kernel) rfl ?_
  exact end_step c (h _)

theorem p12 {Q : _ → sProp 𝕄} (a b d e) (h : ∀ v, iprop(Env m ρ K ∗ SigSt c 29 ∗ R) ⊢ Q v) :
    iprop(Env m ρ K ∗ SigSt c 27 ∗ R) ⊢ WP c (onM (k0_part12 (F := F)) c a bS b d e) Q := by
  dsimp only [onM]
  rw [k0_part12_eq_skeleton]; unfold k0_part12_skel; simp -zeta only [semSignalWord, Prog.lift, Prog.bind_op, Prog.bind_ret, Prog.pure_eq_ret]
  iterate 2 refine signal_step m ρ K c _ (by decide) (by decide) _ (by decide +kernel) rfl ?_
  exact end_step c (h _)

theorem p13 {Q : _ → sProp 𝕄} (a b d e) {v} (h : iprop(Env m ρ K ∗ SigSt c 32 ∗ xPts c v ∗ R) ⊢ Q (k0_pay1 v)) :
    iprop(Env m ρ K ∗ SigSt c 29 ∗ xPts c v ∗ R) ⊢ WP c (onM (k0_part13 (F := F)) c a bS b d e) Q := by
  dsimp only [onM]
  rw [k0_part13_eq_skeleton]; unfold k0_part13_skel; simp -zeta only [semSignalWord, Prog.lift, Prog.bind_op, Prog.bind_ret, Prog.pure_eq_ret]
  iterate 3 refine signal_step m ρ K c _ (by decide) (by decide) _ (by decide +kernel) rfl ?_
  refine load_x_step m ρ K c ?_
  exact end_step c h

/-- What the first half of the body uses besides the signals. -/
def B0 : sProp 𝕄 :=
  iprop(cred (tallyAt (barCell c) () 31) ∗ atPos ER (barCell c) 0 ∅ 0 ∗ (∃ f, colPts c c f)
    ∗ bigSep Finset.univ (fun r => dutyTok ER (rcvCell r c) 0 c) ∗ bigSep Finset.univ (fun q => dutyTok ER (sndCell c q) 0 c)
    ∗ bigSep Finset.univ (fun s => atPos ER (rcvCell c s) 0 ∅ 0)
    ∗ bigSep (Finset.univ.erase c) (fun s => cred (tallyAt (rcvCell c s) () N)))

theorem signals_done : SigSt (F := F) c 32 ⊢ owesE c (Orcv c 0) := by
  unfold SigSt
  rw [Obar_end, add_zero, geF_end]
  iintro ⟨H, -⟩
  iexact H

theorem p14 {Q : _ → sProp 𝕄} (a b) {v} (h : ∀ r, iprop(Env m ρ K ∗ SendSt m ρ c 1 ∗ (RSt m ρ c 0 ∗ semVal (barCell c) 0) ∗ R) ⊢ Q r) :
    iprop(Env m ρ K ∗ SigSt c 32 ∗ xbPts c v ∗ B0 c ∗ R) ⊢ WP c (onM (k0_part14 (F := F)) c a b bS (k0_pay1 (xstg m ρ c))) Q := by
  dsimp only [onM]
  rw [k0_part14_eq_skeleton]; unfold k0_part14_skel; simp -zeta only [semWaitWord, Prog.lift, Prog.bind_op, Prog.bind_ret, Prog.pure_eq_ret]
  refine load_xb_step m ρ K c fun w => ?_
  refine store_xb_step m ρ K c (w := xb m ρ c) ?_
  refine BIBase.Entails.trans (Q := iprop(Env m ρ K ∗ (owesE c (Orcv c 0) ∗ cred (tallyAt (barCell c) () 31) ∗ atPos ER (barCell c) 0 ∅ 0)
      ∗ xbPts c (xb m ρ c) ∗ ((∃ f, colPts c c f)
        ∗ bigSep Finset.univ (fun r => dutyTok ER (rcvCell r c) 0 c) ∗ bigSep Finset.univ (fun q => dutyTok ER (sndCell c q) 0 c)
        ∗ bigSep Finset.univ (fun s => atPos ER (rcvCell c s) 0 ∅ 0)
        ∗ bigSep (Finset.univ.erase c) (fun s => cred (tallyAt (rcvCell c s) () N))) ∗ R)) ?_ ?_
  · unfold B0
    iintro ⟨#HE, HS, Hx, ⟨H1, H2, H3⟩, HR⟩
    ihave HS := (signals_done c) $$ HS
    iframe
    iexact HE
  refine bar_step m ρ K c rfl rfl ?_
  refine BIBase.Entails.trans (Q := iprop(Env m ρ K ∗ (rowPts m ρ c c ∗ (∃ f, colPts c c f) ∗ dutyTok ER (rcvCell c c) 0 c)
      ∗ (owesE c (Orcv c 0) ∗ bigSep (Finset.univ.erase c) (fun d => iprop(∃ f, colPts d c f))
        ∗ bigSep (Finset.univ.erase c) (fun d => dutyTok ER (rcvCell d c) 0 c) ∗ bigSep Finset.univ (fun q => dutyTok ER (sndCell c q) 0 c)
        ∗ bigSep (Finset.univ.erase c) (fun d => rowPts m ρ c d))
      ∗ (bigSep Finset.univ (fun s => atPos ER (rcvCell c s) 0 ∅ 0)
        ∗ bigSep (Finset.univ.erase c) (fun s => cred (tallyAt (rcvCell c s) () N))) ∗ semVal (barCell c) 0 ∗ R)) ?_ ?_
  · iintro ⟨#HE, ⟨HO, Hb, Hcols⟩, Hx, ⟨Hc, Htr, Hts, Hat, Hcr⟩, HR⟩
    ihave Hx := (Entails.of_eq ((xb_blocks m ρ c).trans (erase_split c _))) $$ Hx
    ihave Htr := (Entails.of_eq (erase_split c _)) $$ Htr
    icases Hx with ⟨Hx1, Hx⟩
    icases Htr with ⟨Ht1, Htr⟩
    iframe
    iexact HE
  refine own_step m ρ K c (k0_off3_eq c) (k0_off2_eq c) (rcv_sem c (k0_off1_eq c)) ?_
  refine BIBase.Entails.trans (Q := iprop(Env m ρ K ∗ SendSt m ρ c 0 ∗ (RSt m ρ c 0 ∗ semVal (barCell c) 0) ∗ R)) ?_ ?_
  · iintro ⟨#HE, Hc, HS, ⟨Hat, Hcr⟩, Hb, HR⟩
    ihave HS := (send_intro m ρ c) $$ HS
    ihave HR0 := (recv_intro m ρ c) $$ [Hat Hc Hcr]
    · iframe
    iframe
    iexact HE
  refine send_at m ρ K c _ (by decide) _ _ _ _ _ _ (by decide +kernel) (by decide +kernel) (by decide +kernel) (by decide +kernel) rfl (by decide +kernel) ?_
  exact end_step c (h _)

theorem p15 {Q : _ → sProp 𝕄} (a b d e) (h : ∀ v, iprop(Env m ρ K ∗ SendSt m ρ c 4 ∗ R) ⊢ Q v) :
    iprop(Env m ρ K ∗ SendSt m ρ c 1 ∗ R) ⊢ WP c (onM (k0_part15 (F := F)) c a b d e) Q := by
  dsimp only [onM]
  rw [k0_part15_eq_skeleton]; unfold k0_part15_skel; simp -zeta only [Prog.lift, Prog.bind_op, Prog.bind_ret, Prog.pure_eq_ret]
  iterate 3 refine send_at m ρ K c _ (by decide) _ _ _ _ _ _ (by decide +kernel) (by decide +kernel) (by decide +kernel) (by decide +kernel) rfl (by decide +kernel) ?_
  exact end_step c (h _)

theorem p16 {Q : _ → sProp 𝕄} (a b d e) (h : ∀ v, iprop(Env m ρ K ∗ SendSt m ρ c 8 ∗ R) ⊢ Q v) :
    iprop(Env m ρ K ∗ SendSt m ρ c 4 ∗ R) ⊢ WP c (onM (k0_part16 (F := F)) c a b d e) Q := by
  dsimp only [onM]
  rw [k0_part16_eq_skeleton]; unfold k0_part16_skel; simp -zeta only [Prog.lift, Prog.bind_op, Prog.bind_ret, Prog.pure_eq_ret]
  iterate 4 refine send_at m ρ K c _ (by decide) _ _ _ _ _ _ (by decide +kernel) (by decide +kernel) (by decide +kernel) (by decide +kernel) rfl (by decide +kernel) ?_
  exact end_step c (h _)

theorem p17 {Q : _ → sProp 𝕄} (a b d e g) (h : ∀ v, iprop(Env m ρ K ∗ SendSt m ρ c 11 ∗ R) ⊢ Q v) :
    iprop(Env m ρ K ∗ SendSt m ρ c 8 ∗ R) ⊢ WP c (onM (k0_part17 (F := F)) c a b d e g) Q := by
  dsimp only [onM]
  rw [k0_part17_eq_skeleton]; unfold k0_part17_skel; simp -zeta only [Prog.lift, Prog.bind_op, Prog.bind_ret, Prog.pure_eq_ret]
  iterate 3 refine send_at m ρ K c _ (by decide) _ _ _ _ _ _ (by decide +kernel) (by decide +kernel) (by decide +kernel) (by decide +kernel) rfl (by decide +kernel) ?_
  exact end_step c (h _)

theorem p18 {Q : _ → sProp 𝕄} (a b d) (h : ∀ v, iprop(Env m ρ K ∗ SendSt m ρ c 14 ∗ R) ⊢ Q v) :
    iprop(Env m ρ K ∗ SendSt m ρ c 11 ∗ R) ⊢ WP c (onM (k0_part18 (F := F)) c a b d) Q := by
  dsimp only [onM]
  rw [k0_part18_eq_skeleton]; unfold k0_part18_skel; simp -zeta only [Prog.lift, Prog.bind_op, Prog.bind_ret, Prog.pure_eq_ret]
  iterate 3 refine send_at m ρ K c _ (by decide) _ _ _ _ _ _ (by decide +kernel) (by decide +kernel) (by decide +kernel) (by decide +kernel) rfl (by decide +kernel) ?_
  exact end_step c (h _)

theorem p19 {Q : _ → sProp 𝕄} (a b d e) (h : ∀ v, iprop(Env m ρ K ∗ SendSt m ρ c 17 ∗ R) ⊢ Q v) :
    iprop(Env m ρ K ∗ SendSt m ρ c 14 ∗ R) ⊢ WP c (onM (k0_part19 (F := F)) c a b d e) Q := by
  dsimp only [onM]
  rw [k0_part19_eq_skeleton]; unfold k0_part19_skel; simp -zeta only [Prog.lift, Prog.bind_op, Prog.bind_ret, Prog.pure_eq_ret]
  iterate 3 refine send_at m ρ K c _ (by decide) _ _ _ _ _ _ (by decide +kernel) (by decide +kernel) (by decide +kernel) (by decide +kernel) rfl (by decide +kernel) ?_
  exact end_step c (h _)

theorem p20 {Q : _ → sProp 𝕄} (a b d e) (h : ∀ v, iprop(Env m ρ K ∗ SendSt m ρ c 20 ∗ R) ⊢ Q v) :
    iprop(Env m ρ K ∗ SendSt m ρ c 17 ∗ R) ⊢ WP c (onM (k0_part20 (F := F)) c a b d e) Q := by
  dsimp only [onM]
  rw [k0_part20_eq_skeleton]; unfold k0_part20_skel; simp -zeta only [Prog.lift, Prog.bind_op, Prog.bind_ret, Prog.pure_eq_ret]
  iterate 3 refine send_at m ρ K c _ (by decide) _ _ _ _ _ _ (by decide +kernel) (by decide +kernel) (by decide +kernel) (by decide +kernel) rfl (by decide +kernel) ?_
  exact end_step c (h _)

theorem p21 {Q : _ → sProp 𝕄} (a b d) (h : ∀ v, iprop(Env m ρ K ∗ SendSt m ρ c 24 ∗ R) ⊢ Q v) :
    iprop(Env m ρ K ∗ SendSt m ρ c 20 ∗ R) ⊢ WP c (onM (k0_part21 (F := F)) c a b d) Q := by
  dsimp only [onM]
  rw [k0_part21_eq_skeleton]; unfold k0_part21_skel; simp -zeta only [Prog.lift, Prog.bind_op, Prog.bind_ret, Prog.pure_eq_ret]
  iterate 4 refine send_at m ρ K c _ (by decide) _ _ _ _ _ _ (by decide +kernel) (by decide +kernel) (by decide +kernel) (by decide +kernel) rfl (by decide +kernel) ?_
  exact end_step c (h _)

theorem p22 {Q : _ → sProp 𝕄} (a b) (h : ∀ v, iprop(Env m ρ K ∗ SendSt m ρ c 27 ∗ R) ⊢ Q v) :
    iprop(Env m ρ K ∗ SendSt m ρ c 24 ∗ R) ⊢ WP c (onM (k0_part22 (F := F)) c a b) Q := by
  dsimp only [onM]
  rw [k0_part22_eq_skeleton]; unfold k0_part22_skel; simp -zeta only [Prog.lift, Prog.bind_op, Prog.bind_ret, Prog.pure_eq_ret]
  iterate 3 refine send_at m ρ K c _ (by decide) _ _ _ _ _ _ (by decide +kernel) (by decide +kernel) (by decide +kernel) (by decide +kernel) rfl (by decide +kernel) ?_
  exact end_step c (h _)

theorem p23 {Q : _ → sProp 𝕄} (a b d) (h : ∀ v, iprop(Env m ρ K ∗ SendSt m ρ c 30 ∗ R) ⊢ Q v) :
    iprop(Env m ρ K ∗ SendSt m ρ c 27 ∗ R) ⊢ WP c (onM (k0_part23 (F := F)) c a b d) Q := by
  dsimp only [onM]
  rw [k0_part23_eq_skeleton]; unfold k0_part23_skel; simp -zeta only [Prog.lift, Prog.bind_op, Prog.bind_ret, Prog.pure_eq_ret]
  iterate 3 refine send_at m ρ K c _ (by decide) _ _ _ _ _ _ (by decide +kernel) (by decide +kernel) (by decide +kernel) (by decide +kernel) rfl (by decide +kernel) ?_
  exact end_step c (h _)

theorem off100 : ∀ (c : Dev nD) (j : Fin 8), k0_off100 c (BitVec.ofNat 32 j.val) = ![1024 * (chk c j.val).val, 0] := by decide +kernel

theorem p24 {Q : _ → sProp 𝕄} (a b d) {v}
    (h : ∀ r, iprop(Env m ρ K ∗ MainSt m ρ c 0 (WA m ρ c 0) v ∗ (bigSep Finset.univ (sentRes c) ∗ R)) ⊢ Q r) :
    iprop(Env m ρ K ∗ SendSt m ρ c 30 ∗ ((RSt m ρ c 0 ∗ W0 m ρ c ∗ oPts c v) ∗ R)) ⊢ WP c (onM (k0_part24 (F := F)) c a b d) Q := by
  dsimp only [onM]
  rw [k0_part24_eq_skeleton]; unfold k0_part24_skel; simp -zeta only [Prog.lift, Prog.bind_op, Prog.bind_ret, Prog.pure_eq_ret]
  iterate 2 refine send_at m ρ K c _ (by decide) _ _ _ _ _ _ (by decide +kernel) (by decide +kernel) (by decide +kernel) (by decide +kernel) rfl (by decide +kernel) ?_
  refine start_first m ρ K c (off100 c 0) rfl (wgt_sem 0 rfl) ?_
  exact end_step c (h _)

end Parts
end Cert.Exchange
-- ==== Proof.Products.lean ====
/-
# The body's second half, part by part

The weight chunks, the landings, the products, the result and the waits for the sends.
-/
module
public import proofs.«01_k».proof.Proof.Signals
@[expose] public section
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
variable {F : FTy → Type} [FloatOps F]
local notation "𝕄" => MT nD τ sig Unit (Elt F) ℕ UU ℕ

variable (m : (ℓ : Loc nD τ sig) → Buf (Elt F) ℓ) (ρ : Dev nD → PrngReg)

variable (K : Dev nD × CI → ℕ)

theorem off103 : ∀ (c : Dev nD) (j : Fin 8), k0_off103 c (BitVec.ofNat 32 j.val) = ![0, 1024 * (chk c j.val).val] := by decide +kernel

/-- The result rows after the products of the chunks `0, …, j`. -/
def accF (c : Dev nD) : ℕ → FVec F S256x4096 .f32
  | 0 => k0_pay3 (xin m ρ c (chk c 0)) (win m ρ c (chk c 0))
  | j + 1 => k0_pay4 (xin m ρ c (chk c (j + 1))) (win m ρ c (chk c (j + 1))) (accF c j)
/-- What device `c` leaves as its rows of the result. -/
def outAt (c : Dev nD) : FVec F S256x4096 .f32 := k0_pay13 (accF m ρ c 7)

theorem rb_credit {o : Fin 2 → ℕ} {i : ∀ a, o a + S256x256.size a ≤ S256x8192.size a} {t : ∀ a, (Rect.unit (s := S256x8192) o S256x256.size i).stride a = 1} :
    (rbM.slice (Rect.unit (s := S256x8192) o S256x256.size i) t : Memref sig .tc .vmem S256x256 .bf16).view.dmaCredit = N := by
  unfold N; rfl
theorem xb_credit {o : Fin 2 → ℕ} {i : ∀ a, o a + S256x256.size a ≤ S8192x256.size a} {t : ∀ a, (Rect.unit (s := S8192x256) o S256x256.size i).stride a = 1} :
    (xbM.slice (Rect.unit (s := S8192x256) o S256x256.size i) t : Memref sig .tc .vmem S256x256 .bf16).view.dmaCredit = N := by
  unfold N; rfl

section Parts
variable (c : Dev nD) {R : sProp (MT nD τ sig Unit (Elt F) ℕ UU ℕ)}

/-- `recv_step` with the semaphore as the body slices it. -/
theorem recv_at {α : Type} {Q : α → sProp 𝕄} {k : PUnit → Prog (TpuEff nD τ sig (Elt F) Λ₀ .tc) α} (n : ℕ) (hn : n < 32) {W v}
    (j u : BitVec 32) (hoR : ∀ c : Dev nD, k0_off101 c j u = ![(src c ⟨n, hn⟩).val]) {iR : ∀ a, k0_off101 c j u a + S1.size a ≤ S32.size a}
    {sp sp' : Space} {s' s : Shape} {e' e : EltTy} {srcM : Memref sig .tc sp' s' e'} {dstM : Memref sig .tc sp s e}
    {hsrc : srcM.view.WordExact} {hdst : dstM.view.WordExact} (hN : dstM.view.dmaCredit = N)
    (h : iprop(Env m ρ K ∗ MainSt m ρ c (n + 1) W v ∗ R) ⊢ WP c (k ⟨⟩) Q) :
    iprop(Env m ρ K ∗ MainSt m ρ c n W v ∗ R)
      ⊢ WP c (.op (.waitDma2 ((SemArray.slice cc0_scratch4 (Rect.unit (s := S32) (k0_off101 c j u) S1.size iR)).squeeze S_ squeezes_S1_S_).sem srcM dstM hsrc hdst) k) Q :=
  recv_step m ρ K c n hn (rcv_sem _ (hoR c)) hN h

/-- `sendwait_step` with the semaphore as the body slices it. -/
theorem sendwait_at {α : Type} {Q : α → sProp 𝕄} {p : Prog (TpuEff nD τ sig (Elt F) Λ₀ .tc) α}
    (n : ℕ) (hn : n < 32) (cnd : Dev nD → BitVec 1) (oT : Fin 1 → ℕ) (hcnd : ∀ c : Dev nD, cnd c = 1#1 ↔ tgt c ⟨n, hn⟩ ≠ c) (hoT : oT = ![n])
    {iT : ∀ a, oT a + S1.size a ≤ S32.size a}
    {sp sp' : Space} {s' s : Shape} {e' e : EltTy} {srcM : cnd c = 1#1 → Memref sig .tc sp' s' e'} {dstM : cnd c = 1#1 → Memref sig .tc sp s e}
    {hsrc : ∀ h, (srcM h).view.WordExact} {hdst : ∀ h, (dstM h).view.WordExact} (hN : ∀ h, (dstM h).view.dmaCredit = N)
    (h : iprop(Env m ρ K ∗ SWSt m ρ c (n + 1) ∗ R) ⊢ WP c p Q) :
    iprop(Env m ρ K ∗ SWSt m ρ c n ∗ R)
      ⊢ WP c (dite (cnd c = 1#1) (fun hc => .op (.waitDma2 ((SemArray.slice cc0_scratch3 (Rect.unit (s := S32) oT S1.size iT)).squeeze S_ squeezes_S1_S_).sem
          (srcM hc) (dstM hc) (hsrc hc) (hdst hc)) fun _ => p) (fun _ => p)) Q := by
  subst hoT
  exact sendwait_step m ρ K c (k := fun (_ : PUnit.{1}) => p) n hn cnd hcnd (fun _ => snd_sem ⟨n, hn⟩) hN h

theorem main_mono {n : ℕ} {W W' : sProp 𝕄} {v} (h : W ⊢ W') :
    iprop(Env m ρ K ∗ MainSt m ρ c n W v ∗ R) ⊢ iprop(Env m ρ K ∗ MainSt m ρ c n W' v ∗ R) := by
  unfold MainSt
  iintro ⟨HE, ⟨HO, HS, HW, Ho⟩, HR⟩
  ihave HW := h $$ HW
  iframe

theorem p25 {Q : _ → sProp 𝕄} (a b) {v} (h : ∀ r, iprop(Env m ρ K ∗ MainSt m ρ c 0 (WB m ρ c 0) v ∗ R) ⊢ Q r) :
    iprop(Env m ρ K ∗ MainSt m ρ c 0 (WA m ρ c 0) v ∗ R) ⊢ WP c (onM (k0_part25 (F := F)) c a b) Q := by
  dsimp only [onM]
  rw [k0_part25_eq_skeleton]; unfold k0_part25_skel; simp -zeta only [Prog.lift, Prog.bind_op, Prog.bind_ret, Prog.pure_eq_ret]
  refine start_step m ρ K c 0 (by decide) (off100 c 1) rfl (wgt_sem (sb 1) rfl) ?_
  exact end_step c (h _)

theorem p26 {Q : _ → sProp 𝕄} (a b d e g i) {v} (h : ∀ r, iprop(Env m ρ K ∗ MainSt m ρ c 2 (WC m ρ c 0) v ∗ R) ⊢ Q r) :
    iprop(Env m ρ K ∗ MainSt m ρ c 0 (WB m ρ c 0) v ∗ R) ⊢ WP c (onM (k0_part26 (F := F)) c a b d e g i) Q := by
  dsimp only [onM]
  rw [k0_part26_eq_skeleton]; unfold k0_part26_skel; simp -zeta only [Prog.lift, Prog.bind_op, Prog.bind_ret, Prog.pure_eq_ret]
  refine wait_step m ρ K c 0 (by decide) (wgt_sem (sb 0) rfl) rfl ?_
  iterate 2 refine recv_at m ρ K c _ (by decide) _ _ (by decide +kernel) rb_credit ?_
  exact end_step c (h _)

theorem p27 {Q : _ → sProp 𝕄} (a b d e) {v} (h : ∀ r, iprop(Env m ρ K ∗ MainSt m ρ c 4 (WC m ρ c 0) (accF m ρ c 0) ∗ R) ⊢ Q r) :
    iprop(Env m ρ K ∗ MainSt m ρ c 2 (WC m ρ c 0) v ∗ R) ⊢ WP c (onM (k0_part27 (F := F)) c a b d e) Q := by
  dsimp only [onM]
  rw [k0_part27_eq_skeleton]; unfold k0_part27_skel; simp -zeta only [Prog.lift, Prog.bind_op, Prog.bind_ret, Prog.pure_eq_ret]
  iterate 2 refine recv_at m ρ K c _ (by decide) _ _ (by decide +kernel) rb_credit ?_
  refine load_chunk_step m ρ K c 0 (by decide) (off103 c 0) ?_
  refine load_slot_step m ρ K c 0 rfl ?_
  refine load_out_step m ρ K c ?_
  refine store_out_step m ρ K c (w := accF m ρ c 0) ?_
  exact end_step c (h _)

theorem p28 {Q : _ → sProp 𝕄} (a b d e) (h : ∀ r, iprop(Env m ρ K ∗ MainSt m ρ c 4 (WB m ρ c 1) (accF m ρ c 0) ∗ R) ⊢ Q r) :
    iprop(Env m ρ K ∗ MainSt m ρ c 4 (WC m ρ c 0) (accF m ρ c 0) ∗ R) ⊢ WP c (onM (k0_part28 (F := F)) c a b d e) Q := by
  dsimp only [onM]
  rw [k0_part28_eq_skeleton]; unfold k0_part28_skel; simp -zeta only [Prog.lift, Prog.bind_op, Prog.bind_ret, Prog.pure_eq_ret]
  refine (main_mono m ρ K c (WC_WA m ρ c 0)).trans ?_
  refine start_step m ρ K c 1 (by decide) (off100 c 2) rfl (wgt_sem (sb 2) rfl) ?_
  exact end_step c (h _)

theorem p29 {Q : _ → sProp 𝕄} (a b d e g i) (h : ∀ r, iprop(Env m ρ K ∗ MainSt m ρ c 6 (WC m ρ c 1) (accF m ρ c 0) ∗ R) ⊢ Q r) :
    iprop(Env m ρ K ∗ MainSt m ρ c 4 (WB m ρ c 1) (accF m ρ c 0) ∗ R) ⊢ WP c (onM (k0_part29 (F := F)) c a b d e g i) Q := by
  dsimp only [onM]
  rw [k0_part29_eq_skeleton]; unfold k0_part29_skel; simp -zeta only [Prog.lift, Prog.bind_op, Prog.bind_ret, Prog.pure_eq_ret]
  refine wait_step m ρ K c 1 (by decide) (wgt_sem (sb 1) rfl) rfl ?_
  iterate 2 refine recv_at m ρ K c _ (by decide) _ _ (by decide +kernel) rb_credit ?_
  exact end_step c (h _)

theorem p30 {Q : _ → sProp 𝕄} (a b d e) (h : ∀ r, iprop(Env m ρ K ∗ MainSt m ρ c 8 (WC m ρ c 1) (accF m ρ c 1) ∗ R) ⊢ Q r) :
    iprop(Env m ρ K ∗ MainSt m ρ c 6 (WC m ρ c 1) (accF m ρ c 0) ∗ R) ⊢ WP c (onM (k0_part30 (F := F)) c a b d e) Q := by
  dsimp only [onM]
  rw [k0_part30_eq_skeleton]; unfold k0_part30_skel; simp -zeta only [Prog.lift, Prog.bind_op, Prog.bind_ret, Prog.pure_eq_ret]
  iterate 2 refine recv_at m ρ K c _ (by decide) _ _ (by decide +kernel) rb_credit ?_
  refine load_chunk_step m ρ K c 1 (by decide) (off103 c 1) ?_
  refine load_slot_step m ρ K c 1 rfl ?_
  refine load_out_step m ρ K c ?_
  refine load_out_step m ρ K c ?_
  refine store_out_step m ρ K c (w := accF m ρ c 1) ?_
  exact end_step c (h _)

theorem p31 {Q : _ → sProp 𝕄} (a b) (h : ∀ r, iprop(Env m ρ K ∗ MainSt m ρ c 8 (WB m ρ c 2) (accF m ρ c 1) ∗ R) ⊢ Q r) :
    iprop(Env m ρ K ∗ MainSt m ρ c 8 (WC m ρ c 1) (accF m ρ c 1) ∗ R) ⊢ WP c (onM (k0_part31 (F := F)) c a b) Q := by
  dsimp only [onM]
  rw [k0_part31_eq_skeleton]; unfold k0_part31_skel; simp -zeta only [Prog.lift, Prog.bind_op, Prog.bind_ret, Prog.pure_eq_ret]
  refine (main_mono m ρ K c (WC_WA m ρ c 1)).trans ?_
  refine start_step m ρ K c 2 (by decide) (off100 c 3) rfl (wgt_sem (sb 3) rfl) ?_
  exact end_step c (h _)

theorem p32 {Q : _ → sProp 𝕄} (a b d e g i j) (h : ∀ r, iprop(Env m ρ K ∗ MainSt m ρ c 10 (WC m ρ c 2) (accF m ρ c 1) ∗ R) ⊢ Q r) :
    iprop(Env m ρ K ∗ MainSt m ρ c 8 (WB m ρ c 2) (accF m ρ c 1) ∗ R) ⊢ WP c (onM (k0_part32 (F := F)) c a b d e g i j) Q := by
  dsimp only [onM]
  rw [k0_part32_eq_skeleton]; unfold k0_part32_skel; simp -zeta only [Prog.lift, Prog.bind_op, Prog.bind_ret, Prog.pure_eq_ret]
  refine wait_step m ρ K c 2 (by decide) (wgt_sem (sb 2) rfl) rfl ?_
  iterate 2 refine recv_at m ρ K c _ (by decide) _ _ (by decide +kernel) rb_credit ?_
  exact end_step c (h _)

theorem p33 {Q : _ → sProp 𝕄} (a b d) (h : ∀ r, iprop(Env m ρ K ∗ MainSt m ρ c 12 (WC m ρ c 2) (accF m ρ c 2) ∗ R) ⊢ Q r) :
    iprop(Env m ρ K ∗ MainSt m ρ c 10 (WC m ρ c 2) (accF m ρ c 1) ∗ R) ⊢ WP c (onM (k0_part33 (F := F)) c a b d) Q := by
  dsimp only [onM]
  rw [k0_part33_eq_skeleton]; unfold k0_part33_skel; simp -zeta only [Prog.lift, Prog.bind_op, Prog.bind_ret, Prog.pure_eq_ret]
  iterate 2 refine recv_at m ρ K c _ (by decide) _ _ (by decide +kernel) rb_credit ?_
  refine load_chunk_step m ρ K c 2 (by decide) (off103 c 2) ?_
  refine load_slot_step m ρ K c 2 rfl ?_
  refine load_out_step m ρ K c ?_
  refine load_out_step m ρ K c ?_
  refine store_out_step m ρ K c (w := accF m ρ c 2) ?_
  exact end_step c (h _)

theorem p34 {Q : _ → sProp 𝕄} (a) (h : ∀ r, iprop(Env m ρ K ∗ MainSt m ρ c 12 (WB m ρ c 3) (accF m ρ c 2) ∗ R) ⊢ Q r) :
    iprop(Env m ρ K ∗ MainSt m ρ c 12 (WC m ρ c 2) (accF m ρ c 2) ∗ R) ⊢ WP c (onM (k0_part34 (F := F)) c a) Q := by
  dsimp only [onM]
  rw [k0_part34_eq_skeleton]; unfold k0_part34_skel; simp -zeta only [Prog.lift, Prog.bind_op, Prog.bind_ret, Prog.pure_eq_ret]
  refine (main_mono m ρ K c (WC_WA m ρ c 2)).trans ?_
  refine start_step m ρ K c 3 (by decide) (off100 c 4) rfl (wgt_sem (sb 4) rfl) ?_
  exact end_step c (h _)

theorem p35 {Q : _ → sProp 𝕄} (a b d e g i) (h : ∀ r, iprop(Env m ρ K ∗ MainSt m ρ c 14 (WC m ρ c 3) (accF m ρ c 2) ∗ R) ⊢ Q r) :
    iprop(Env m ρ K ∗ MainSt m ρ c 12 (WB m ρ c 3) (accF m ρ c 2) ∗ R) ⊢ WP c (onM (k0_part35 (F := F)) c a b d e g i) Q := by
  dsimp only [onM]
  rw [k0_part35_eq_skeleton]; unfold k0_part35_skel; simp -zeta only [Prog.lift, Prog.bind_op, Prog.bind_ret, Prog.pure_eq_ret]
  refine wait_step m ρ K c 3 (by decide) (wgt_sem (sb 3) rfl) rfl ?_
  iterate 2 refine recv_at m ρ K c _ (by decide) _ _ (by decide +kernel) rb_credit ?_
  exact end_step c (h _)

theorem p36 {Q : _ → sProp 𝕄} (a b) (h : iprop(Env m ρ K ∗ MainSt m ρ c 16 (WC m ρ c 3) (accF m ρ c 2) ∗ R) ⊢ Q (accF m ρ c 3)) :
    iprop(Env m ρ K ∗ MainSt m ρ c 14 (WC m ρ c 3) (accF m ρ c 2) ∗ R) ⊢ WP c (onM (k0_part36 (F := F)) c a b) Q := by
  dsimp only [onM]
  rw [k0_part36_eq_skeleton]; unfold k0_part36_skel; simp -zeta only [Prog.lift, Prog.bind_op, Prog.bind_ret, Prog.pure_eq_ret]
  iterate 2 refine recv_at m ρ K c _ (by decide) _ _ (by decide +kernel) rb_credit ?_
  refine load_chunk_step m ρ K c 3 (by decide) (off103 c 3) ?_
  refine load_slot_step m ρ K c 3 rfl ?_
  refine load_out_step m ρ K c ?_
  exact end_step c h

theorem p37 {Q : _ → sProp 𝕄} (a) (h : ∀ r, iprop(Env m ρ K ∗ MainSt m ρ c 16 (WB m ρ c 4) (accF m ρ c 3) ∗ R) ⊢ Q r) :
    iprop(Env m ρ K ∗ MainSt m ρ c 16 (WC m ρ c 3) (accF m ρ c 2) ∗ R) ⊢ WP c (onM (k0_part37 (F := F)) c a (accF m ρ c 3)) Q := by
  dsimp only [onM]
  rw [k0_part37_eq_skeleton]; unfold k0_part37_skel; simp -zeta only [Prog.lift, Prog.bind_op, Prog.bind_ret, Prog.pure_eq_ret]
  refine load_out_step m ρ K c ?_
  refine store_out_step m ρ K c (w := accF m ρ c 3) ?_
  refine (main_mono m ρ K c (WC_WA m ρ c 3)).trans ?_
  refine start_step m ρ K c 4 (by decide) (off100 c 5) rfl (wgt_sem (sb 5) rfl) ?_
  exact end_step c (h _)

theorem p38 {Q : _ → sProp 𝕄} (a b d e g) (h : ∀ r, iprop(Env m ρ K ∗ MainSt m ρ c 17 (WC m ρ c 4) (accF m ρ c 3) ∗ R) ⊢ Q r) :
    iprop(Env m ρ K ∗ MainSt m ρ c 16 (WB m ρ c 4) (accF m ρ c 3) ∗ R) ⊢ WP c (onM (k0_part38 (F := F)) c a b d e g) Q := by
  dsimp only [onM]
  rw [k0_part38_eq_skeleton]; unfold k0_part38_skel; simp -zeta only [Prog.lift, Prog.bind_op, Prog.bind_ret, Prog.pure_eq_ret]
  refine wait_step m ρ K c 4 (by decide) (wgt_sem (sb 4) rfl) rfl ?_
  refine recv_at m ρ K c _ (by decide) _ _ (by decide +kernel) rb_credit ?_
  exact end_step c (h _)

theorem p39 {Q : _ → sProp 𝕄} (a b) (h : iprop(Env m ρ K ∗ MainSt m ρ c 20 (WC m ρ c 4) (accF m ρ c 3) ∗ R) ⊢ Q (accF m ρ c 4)) :
    iprop(Env m ρ K ∗ MainSt m ρ c 17 (WC m ρ c 4) (accF m ρ c 3) ∗ R) ⊢ WP c (onM (k0_part39 (F := F)) c a b) Q := by
  dsimp only [onM]
  rw [k0_part39_eq_skeleton]; unfold k0_part39_skel; simp -zeta only [Prog.lift, Prog.bind_op, Prog.bind_ret, Prog.pure_eq_ret]
  iterate 3 refine recv_at m ρ K c _ (by decide) _ _ (by decide +kernel) rb_credit ?_
  refine load_chunk_step m ρ K c 4 (by decide) (off103 c 4) ?_
  refine load_slot_step m ρ K c 4 rfl ?_
  refine load_out_step m ρ K c ?_
  exact end_step c h

theorem p40 {Q : _ → sProp 𝕄} (a) (h : ∀ r, iprop(Env m ρ K ∗ MainSt m ρ c 20 (WB m ρ c 5) (accF m ρ c 4) ∗ R) ⊢ Q r) :
    iprop(Env m ρ K ∗ MainSt m ρ c 20 (WC m ρ c 4) (accF m ρ c 3) ∗ R) ⊢ WP c (onM (k0_part40 (F := F)) c a (accF m ρ c 4)) Q := by
  dsimp only [onM]
  rw [k0_part40_eq_skeleton]; unfold k0_part40_skel; simp -zeta only [Prog.lift, Prog.bind_op, Prog.bind_ret, Prog.pure_eq_ret]
  refine load_out_step m ρ K c ?_
  refine store_out_step m ρ K c (w := accF m ρ c 4) ?_
  refine (main_mono m ρ K c (WC_WA m ρ c 4)).trans ?_
  refine start_step m ρ K c 5 (by decide) (off100 c 6) rfl (wgt_sem (sb 6) rfl) ?_
  exact end_step c (h _)

theorem p41 {Q : _ → sProp 𝕄} (a b d e) (h : ∀ r, iprop(Env m ρ K ∗ MainSt m ρ c 21 (WC m ρ c 5) (accF m ρ c 4) ∗ R) ⊢ Q r) :
    iprop(Env m ρ K ∗ MainSt m ρ c 20 (WB m ρ c 5) (accF m ρ c 4) ∗ R) ⊢ WP c (onM (k0_part41 (F := F)) c a b d e) Q := by
  dsimp only [onM]
  rw [k0_part41_eq_skeleton]; unfold k0_part41_skel; simp -zeta only [Prog.lift, Prog.bind_op, Prog.bind_ret, Prog.pure_eq_ret]
  refine wait_step m ρ K c 5 (by decide) (wgt_sem (sb 5) rfl) rfl ?_
  refine recv_at m ρ K c _ (by decide) _ _ (by decide +kernel) rb_credit ?_
  exact end_step c (h _)

theorem p42 {Q : _ → sProp 𝕄} (a b) (h : iprop(Env m ρ K ∗ MainSt m ρ c 24 (WC m ρ c 5) (accF m ρ c 4) ∗ R) ⊢ Q ⟨k0_pay8 (xin m ρ c (chk c 5)) (win m ρ c (chk c 5)), accF m ρ c 4⟩) :
    iprop(Env m ρ K ∗ MainSt m ρ c 21 (WC m ρ c 5) (accF m ρ c 4) ∗ R) ⊢ WP c (onM (k0_part42 (F := F)) c a b) Q := by
  dsimp only [onM]
  rw [k0_part42_eq_skeleton]; unfold k0_part42_skel; simp -zeta only [Prog.lift, Prog.bind_op, Prog.bind_ret, Prog.pure_eq_ret]
  iterate 3 refine recv_at m ρ K c _ (by decide) _ _ (by decide +kernel) rb_credit ?_
  refine load_chunk_step m ρ K c 5 (by decide) (off103 c 5) ?_
  refine load_slot_step m ρ K c 5 rfl ?_
  refine load_out_step m ρ K c ?_
  exact end_step c h

theorem p43 {Q : _ → sProp 𝕄} (a) (h : ∀ r, iprop(Env m ρ K ∗ MainSt m ρ c 24 (WB m ρ c 6) (accF m ρ c 5) ∗ R) ⊢ Q r) :
    iprop(Env m ρ K ∗ MainSt m ρ c 24 (WC m ρ c 5) (accF m ρ c 4) ∗ R) ⊢ WP c (onM (k0_part43 (F := F)) c a (k0_pay8 (xin m ρ c (chk c 5)) (win m ρ c (chk c 5))) (accF m ρ c 4)) Q := by
  dsimp only [onM]
  rw [k0_part43_eq_skeleton]; unfold k0_part43_skel; simp -zeta only [Prog.lift, Prog.bind_op, Prog.bind_ret, Prog.pure_eq_ret]
  refine load_out_step m ρ K c ?_
  refine store_out_step m ρ K c (w := accF m ρ c 5) ?_
  refine (main_mono m ρ K c (WC_WA m ρ c 5)).trans ?_
  refine start_step m ρ K c 6 (by decide) (off100 c 7) rfl (wgt_sem (sb 7) rfl) ?_
  exact end_step c (h _)

theorem p44 {Q : _ → sProp 𝕄} (a b d e g) (h : ∀ r, iprop(Env m ρ K ∗ MainSt m ρ c 25 (WC m ρ c 6) (accF m ρ c 5) ∗ R) ⊢ Q r) :
    iprop(Env m ρ K ∗ MainSt m ρ c 24 (WB m ρ c 6) (accF m ρ c 5) ∗ R) ⊢ WP c (onM (k0_part44 (F := F)) c a b d e g) Q := by
  dsimp only [onM]
  rw [k0_part44_eq_skeleton]; unfold k0_part44_skel; simp -zeta only [Prog.lift, Prog.bind_op, Prog.bind_ret, Prog.pure_eq_ret]
  refine wait_step m ρ K c 6 (by decide) (wgt_sem (sb 6) rfl) rfl ?_
  refine recv_at m ρ K c _ (by decide) _ _ (by decide +kernel) rb_credit ?_
  exact end_step c (h _)

theorem p45 {Q : _ → sProp 𝕄} (a b) (h : iprop(Env m ρ K ∗ MainSt m ρ c 28 (WC m ρ c 6) (accF m ρ c 5) ∗ R) ⊢ Q (k0_pay10 (xin m ρ c (chk c 6)) (win m ρ c (chk c 6)))) :
    iprop(Env m ρ K ∗ MainSt m ρ c 25 (WC m ρ c 6) (accF m ρ c 5) ∗ R) ⊢ WP c (onM (k0_part45 (F := F)) c a b) Q := by
  dsimp only [onM]
  rw [k0_part45_eq_skeleton]; unfold k0_part45_skel; simp -zeta only [Prog.lift, Prog.bind_op, Prog.bind_ret, Prog.pure_eq_ret]
  iterate 3 refine recv_at m ρ K c _ (by decide) _ _ (by decide +kernel) rb_credit ?_
  refine load_chunk_step m ρ K c 6 (by decide) (off103 c 6) ?_
  refine load_slot_step m ρ K c 6 rfl ?_
  exact end_step c h

theorem p46 {Q : _ → sProp 𝕄} (a) (h : ∀ r, iprop(Env m ρ K ∗ MainSt m ρ c 28 (WC m ρ c 7) (accF m ρ c 6) ∗ R) ⊢ Q r) :
    iprop(Env m ρ K ∗ MainSt m ρ c 28 (WC m ρ c 6) (accF m ρ c 5) ∗ R) ⊢ WP c (onM (k0_part46 (F := F)) c a (k0_pay10 (xin m ρ c (chk c 6)) (win m ρ c (chk c 6)))) Q := by
  dsimp only [onM]
  rw [k0_part46_eq_skeleton]; unfold k0_part46_skel; simp -zeta only [Prog.lift, Prog.bind_op, Prog.bind_ret, Prog.pure_eq_ret]
  refine load_out_step m ρ K c ?_
  refine load_out_step m ρ K c ?_
  refine store_out_step m ρ K c (w := accF m ρ c 6) ?_
  refine (main_mono m ρ K c (WC_WA m ρ c 6)).trans ?_
  refine (main_mono m ρ K c (WA_WB_last m ρ c)).trans ?_
  refine wait_step m ρ K c 7 (by decide) (wgt_sem (sb 7) rfl) rfl ?_
  exact end_step c (h _)

theorem p47 {Q : _ → sProp 𝕄} (a b d e) (h : ∀ r, iprop(Env m ρ K ∗ MainSt m ρ c 31 (WC m ρ c 7) (accF m ρ c 6) ∗ R) ⊢ Q r) :
    iprop(Env m ρ K ∗ MainSt m ρ c 28 (WC m ρ c 7) (accF m ρ c 6) ∗ R) ⊢ WP c (onM (k0_part47 (F := F)) c a b d e) Q := by
  dsimp only [onM]
  rw [k0_part47_eq_skeleton]; unfold k0_part47_skel; simp -zeta only [Prog.lift, Prog.bind_op, Prog.bind_ret, Prog.pure_eq_ret]
  iterate 3 refine recv_at m ρ K c _ (by decide) _ _ (by decide +kernel) rb_credit ?_
  exact end_step c (h _)

theorem p48 {Q : _ → sProp 𝕄} (a b d e g i j)
    (h : ∀ r, iprop(Env m ρ K ∗ SWSt m ρ c 2 ∗ (RSt m ρ c 32 ∗ WC m ρ c 7 ∗ oPts c (outAt m ρ c)) ∗ R) ⊢ Q r) :
    iprop(Env m ρ K ∗ MainSt m ρ c 31 (WC m ρ c 7) (accF m ρ c 6)
        ∗ (bigSep Finset.univ (sentRes c) ∗ bigSep Finset.univ (fun q => atPos ER (sndCell c q) 0 ∅ 0) ∗ R))
      ⊢ WP c (onM (k0_part48 (F := F)) c a b d e g i j) Q := by
  dsimp only [onM]
  rw [k0_part48_eq_skeleton]; unfold k0_part48_skel; simp -zeta only [Prog.lift, Prog.bind_op, Prog.bind_ret, Prog.pure_eq_ret]
  refine recv_at m ρ K c _ (by decide) _ _ (by decide +kernel) rb_credit ?_
  refine load_chunk_step m ρ K c 7 (by decide) (off103 c 7) ?_
  refine load_slot_step m ρ K c 7 rfl ?_
  refine load_out_step m ρ K c ?_
  refine load_out_step m ρ K c ?_
  refine store_out_step m ρ K c (w := accF m ρ c 7) ?_
  refine load_out_step m ρ K c ?_
  refine load_out_step m ρ K c ?_
  refine store_out_step m ρ K c (w := outAt m ρ c) ?_
  refine (main_sw m ρ K c).trans ?_
  iterate 2 refine sendwait_at m ρ K c _ (by decide) _ _ (by decide +kernel) rfl (fun _ => xb_credit) ?_
  exact end_step c (h _)

set_option maxHeartbeats 2000000 in
theorem p49 {Q : _ → sProp 𝕄} (a b d e g i j l n o r s u) (h : ∀ v, iprop(Env m ρ K ∗ SWSt m ρ c 14 ∗ R) ⊢ Q v) :
    iprop(Env m ρ K ∗ SWSt m ρ c 2 ∗ R) ⊢ WP c (onM (k0_part49 (F := F)) c a b d e g i j l n o r s u) Q := by
  dsimp only [onM]
  rw [k0_part49_eq_skeleton]; unfold k0_part49_skel; simp -zeta only [Prog.lift, Prog.bind_op, Prog.bind_ret, Prog.pure_eq_ret]
  iterate 12 refine sendwait_at m ρ K c _ (by decide) _ _ (by decide +kernel) rfl (fun _ => xb_credit) ?_
  exact end_step c (h _)

set_option maxHeartbeats 2000000 in
theorem p50 {Q : _ → sProp 𝕄} (a b d e g i j l n o r s u) (h : ∀ v, iprop(Env m ρ K ∗ SWSt m ρ c 26 ∗ R) ⊢ Q v) :
    iprop(Env m ρ K ∗ SWSt m ρ c 14 ∗ R) ⊢ WP c (onM (k0_part50 (F := F)) c a b d e g i j l n o r s u) Q := by
  dsimp only [onM]
  rw [k0_part50_eq_skeleton]; unfold k0_part50_skel; simp -zeta only [Prog.lift, Prog.bind_op, Prog.bind_ret, Prog.pure_eq_ret]
  iterate 12 refine sendwait_at m ρ K c _ (by decide) _ _ (by decide +kernel) rfl (fun _ => xb_credit) ?_
  exact end_step c (h _)

end Parts
end Cert.Exchange
-- ==== Proof.Body.lean ====
/-
# The body

The parts joined: what a device holds when its body starts, and what it holds at the end.
-/
module
public import proofs.«01_k».proof.Proof.Products
@[expose] public section
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
variable {F : FTy → Type} [FloatOps F]
local notation "𝕄" => MT nD τ sig Unit (Elt F) ℕ UU ℕ

variable (m : (ℓ : Loc nD τ sig) → Buf (Elt F) ℓ) (ρ : Dev nD → PrngReg)

variable (K : Dev nD × CI → ℕ)

section Body
variable (c : Dev nD) {R : sProp (MT nD τ sig Unit (Elt F) ℕ UU ℕ)}

set_option maxHeartbeats 8000000 in
theorem p51 {Q : _ → sProp 𝕄} {f v}
    (h : ∀ a b d e, iprop(Env m ρ K ∗ SWSt m ρ c 28 ∗ (RSt m ρ c 32 ∗ WC m ρ c 7 ∗ oPts c (outAt m ρ c)) ∗ semVal (barCell c) 0 ∗ xPts c (xstg m ρ c) ∗ R)
      ⊢ Q ⟨c, a, b, d, e⟩) :
    iprop(Env m ρ K ∗ SigSt c 1 ∗ xPts c (xstg m ρ c) ∗ xbPts c f ∗ B0 c ∗ W0 m ρ c ∗ oPts c v
        ∗ bigSep Finset.univ (fun q => atPos ER (sndCell c q) 0 ∅ 0) ∗ R)
      ⊢ WP c (onM (k0_part51 (F := F))) Q := by
  dsimp only [onM]
  rw [k0_part51_eq_skeleton]; unfold k0_part51_skel
  refine bind_step c (p1 m ρ K c fun v2 v19 v34 v35 => ?_)
  refine bind_step c (p2 m ρ K c _ _ _ _ fun r => ?_)
  obtain ⟨v63, v68, v69⟩ := r
  refine bind_step c (p3 m ρ K c _ _ _ _ fun r => ?_)
  obtain ⟨v99, c32_i32_61, v100⟩ := r
  refine bind_step c (p4 m ρ K c _ _ _ _ fun r => ?_)
  obtain ⟨v128, v133, v134⟩ := r
  refine bind_step c (p5 m ρ K c _ _ _ _ fun r => ?_)
  obtain ⟨v164, c32_i32_106, v165⟩ := r
  refine bind_step c (p6 m ρ K c _ _ _ _ fun r => ?_)
  obtain ⟨v193, v198, v199⟩ := r
  refine bind_step c (p7 m ρ K c _ _ _ _ fun r => ?_)
  obtain ⟨v229, c32_i32_151, v230⟩ := r
  refine bind_step c (p8 m ρ K c _ _ _ _ fun r => ?_)
  obtain ⟨v258, v263, v264⟩ := r
  refine bind_step c (p9 m ρ K c _ _ _ _ fun r => ?_)
  obtain ⟨v294, c32_i32_196, v295⟩ := r
  refine bind_step c (p10 m ρ K c _ _ _ _ fun r => ?_)
  obtain ⟨v323, v328, v329⟩ := r
  refine bind_step c (p11 m ρ K c _ _ _ _ fun r => ?_)
  obtain ⟨v359, c32_i32_241, v360⟩ := r
  refine bind_step c (p12 m ρ K c _ _ _ _ fun r => ?_)
  obtain ⟨v388, v393, v394⟩ := r
  refine bind_step c (p13 m ρ K c _ _ _ _ ?_)
  refine BIBase.Entails.trans (Q := iprop(Env m ρ K ∗ SigSt c 32 ∗ xbPts c f ∗ B0 c ∗ xPts c (xstg m ρ c) ∗ W0 m ρ c ∗ oPts c v
      ∗ bigSep Finset.univ (fun q => atPos ER (sndCell c q) 0 ∅ 0) ∗ R)) ?_ ?_
  · iintro ⟨HE, HS, Hx, Hxb, HB, HW, Ho, Ha, HR⟩
    iframe
  refine bind_step c (p14 m ρ K c _ _ fun r => ?_)
  obtain ⟨v447, v452, v456⟩ := r
  refine bind_step c (p15 m ρ K c _ _ _ _ fun r => ?_)
  obtain ⟨v459, v466, v473, v487, v489⟩ := r
  refine bind_step c (p16 m ρ K c _ _ _ _ fun r => ?_)
  obtain ⟨v492, v499, v506, v513, v517, c8_i32_359, v518, c1_i32_361⟩ := r
  refine bind_step c (p17 m ρ K c _ _ _ _ _ fun r => ?_)
  obtain ⟨v532, v539, v546, v550⟩ := r
  refine bind_step c (p18 m ρ K c _ _ _ fun r => ?_)
  obtain ⟨v553, v567, v572, v579, v583⟩ := r
  refine bind_step c (p19 m ρ K c _ _ _ _ fun r => ?_)
  obtain ⟨v586, v593, v607, v612, v615⟩ := r
  refine bind_step c (p20 m ρ K c _ _ _ _ fun r => ?_)
  obtain ⟨v619, v626, v633, v647⟩ := r
  refine bind_step c (p21 m ρ K c _ _ _ fun r => ?_)
  obtain ⟨v652, v659, v666, v673, v677⟩ := r
  refine bind_step c (p22 m ρ K c _ _ fun r => ?_)
  obtain ⟨v692, v699, v706, v709⟩ := r
  refine bind_step c (p23 m ρ K c _ _ _ fun r => ?_)
  obtain ⟨v713, v727, v732, v739⟩ := r
  refine BIBase.Entails.trans (Q := iprop(Env m ρ K ∗ SendSt m ρ c 30 ∗ (RSt m ρ c 0 ∗ W0 m ρ c ∗ oPts c v)
      ∗ bigSep Finset.univ (fun q => atPos ER (sndCell c q) 0 ∅ 0) ∗ semVal (barCell c) 0 ∗ xPts c (xstg m ρ c) ∗ R)) ?_ ?_
  · iintro ⟨HE, HS, ⟨HRS, Hb⟩, Hx, HW, Ho, Ha, HR⟩
    iframe
  refine bind_step c (p24 m ρ K c _ _ _ fun r => ?_)
  obtain ⟨v746, v753, c0_i32_561⟩ := r
  refine bind_step c (p25 m ρ K c _ _ fun r => ?_)
  obtain ⟨v783, v803, v804, v805, v806⟩ := r
  refine bind_step c (p26 m ρ K c _ _ _ _ _ _ fun r => ?_)
  refine bind_step c (p27 m ρ K c _ _ _ _ fun r => ?_)
  obtain ⟨v866, c8_i32_638, c0_i32_639⟩ := r
  refine bind_step c (p28 m ρ K c _ _ _ _ fun r => ?_)
  obtain ⟨v876, v896, v897, v898, v901⟩ := r
  refine bind_step c (p29 m ρ K c _ _ _ _ _ _ fun r => ?_)
  refine bind_step c (p30 m ρ K c _ _ _ _ fun r => ?_)
  refine bind_step c (p31 m ρ K c _ _ fun r => ?_)
  obtain ⟨v972, v992, v993, v994, v995, c0_i32_741⟩ := r
  refine bind_step c (p32 m ρ K c _ _ _ _ _ _ _ fun r => ?_)
  refine bind_step c (p33 m ρ K c _ _ _ fun r => ?_)
  refine bind_step c (p34 m ρ K c _ fun r => ?_)
  obtain ⟨v1068, v1088, v1089, v1090, c0_i32_819⟩ := r
  refine bind_step c (p35 m ρ K c _ _ _ _ _ _ fun r => ?_)
  refine bind_step c (p36 m ρ K c _ _ ?_)
  refine bind_step c (p37 m ρ K c _ fun r => ?_)
  obtain ⟨v1164, v1184, v1185, c0_i32_897⟩ := r
  refine bind_step c (p38 m ρ K c _ _ _ _ _ fun r => ?_)
  refine bind_step c (p39 m ρ K c _ _ ?_)
  refine bind_step c (p40 m ρ K c _ fun r => ?_)
  obtain ⟨v1260, v1278, v1280⟩ := r
  refine bind_step c (p41 m ρ K c _ _ _ _ fun r => ?_)
  refine bind_step c (p42 m ρ K c _ _ ?_)
  refine bind_step c (p43 m ρ K c _ fun r => ?_)
  obtain ⟨v1356, v1374, c8_i32_1052, v1375⟩ := r
  refine bind_step c (p44 m ρ K c _ _ _ _ _ fun r => ?_)
  refine bind_step c (p45 m ρ K c _ _ ?_)
  refine bind_step c (p46 m ρ K c _ fun r => ?_)
  obtain ⟨v1452, v1470, c0_i32_1131⟩ := r
  refine bind_step c (p47 m ρ K c _ _ _ _ fun r => ?_)
  obtain ⟨v1500, c3_i32_1158⟩ := r
  refine bind_step c (p48 m ρ K c _ _ _ _ _ _ _ fun r => ?_)
  refine bind_step c (p49 m ρ K c _ _ _ _ _ _ _ _ _ _ _ _ _ fun r => ?_)
  refine bind_step c (p50 m ρ K c _ _ _ _ _ _ _ _ _ _ _ _ _ fun r => ?_)
  simp -zeta only [Prog.lift, Prog.bind_op, Prog.bind_ret, Prog.pure_eq_ret]
  iterate 2 refine sendwait_at m ρ K c _ (by decide) _ _ (by decide +kernel) rfl (fun _ => xb_credit) ?_
  exact end_step c (h _ _ _ _)
end Body
end Cert.Exchange
-- ==== Proof.Ends.lean ====
/-
# The two ends of the body

What a device's body starts from, brought into the form the first part takes; what the last part leaves, brought into the
form the launch takes back: every buffer whole again and every counter at zero.
-/
module
public import proofs.«01_k».proof.Proof.Products
@[expose] public section
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
variable {F : FTy → Type} [FloatOps F]
local notation "𝕄" => MT nD τ sig Unit (Elt F) ℕ UU ℕ

variable (m : (ℓ : Loc nD τ sig) → Buf (Elt F) ℓ) (ρ : Dev nD → PrngReg)

variable (K : Dev nD × CI → ℕ)

section Ends
variable (c : Dev nD)

/-- Its positions, and the tokens of the duties it pays. -/
def own0 : sProp 𝕄 :=
  iprop(atPos ER (barCell c) 0 ∅ 0 ∗ (bigSep Finset.univ fun q => atPos ER (sndCell c q) 0 ∅ 0)
    ∗ (bigSep Finset.univ fun s => atPos ER (rcvCell c s) 0 ∅ 0) ∗ (bigSep Finset.univ fun b => atPos ER (wgtCell c b) 0 ∅ 0)
    ∗ (bigSep Finset.univ fun r => dutyTok ER (barCell r) 0 c) ∗ (bigSep Finset.univ fun r => dutyTok ER (rcvCell r c) 0 c)
    ∗ (bigSep Finset.univ fun q => dutyTok ER (sndCell c q) 0 c)
    ∗ bigSep Finset.univ fun j : Fin 8 => dutyTok ER (wgtCell c (sb j.val)) (j.val / 2) c)
/-- Its credits: the units its barrier gets, and the landings it waits for. -/
def creds0 : sProp 𝕄 :=
  iprop(cred (tallyAt (barCell c) () 31) ∗ bigSep (Finset.univ.erase c) fun s => cred (tallyAt (rcvCell c s) () N))
/-- `w`, whole. -/
def wAll : sProp 𝕄 := ((c : Thread nD τ).loc main_arg1) ↦{fullShare} wArr m ρ c
abbrev rbPts (f : (cc0_scratch1 : Ref sig .tc).ty.Contents (Elt F)) : sProp 𝕄 := ((c : Thread nD τ).loc cc0_scratch1) ↦{fullShare} f
abbrev wbPts (f : (cc0_scratch2 : Ref sig .tc).ty.Contents (Elt F)) : sProp 𝕄 := ((c : Thread nD τ).loc cc0_scratch2) ↦{fullShare} f
/-- Every semaphore of its own at zero. -/
def zeros : sProp 𝕄 :=
  iprop(semVal (barCell c) 0 ∗ (bigSep Finset.univ fun q => semVal (sndCell c q) 0) ∗ (bigSep Finset.univ fun s => semVal (rcvCell c s) 0)
    ∗ bigSep Finset.univ fun b => semVal (wgtCell c b) 0)

omit [FloatOps F] in
theorem fin_two (Φ : Fin 2 → sProp 𝕄) : bigSep Finset.univ Φ = iprop(Φ 0 ∗ Φ 1) := BI.bigSep_fin_two Φ

theorem sig_intro (g) :
    iprop(owesE c (O₀ c) ∗ bigSep Finset.univ (fun r => dutyTok ER (barCell r) 0 c) ∗ rbPts c g)
      ⊢ (iprop(SigSt c 1 ∗ ∃ f, colPts c c f) : sProp 𝕄) := by
  unfold rbPts SigSt O₀
  rw [rb_blocks, bigSep_univ_equiv (rotE c) (fun r => (dutyTok ER (barCell r) 0 c : sProp 𝕄)), bigSep_univ_equiv (rotE c) (fun s => colPts c s g)]
  rw [← geF_zero, bigSep_ge (by decide : 0 < 32), bigSep_ge (by decide : 0 < 32)]
  show iprop(owesE c (Orcv c 0 + Obar c 1) ∗ (dutyTok ER (barCell (rot c 0)) 0 c ∗ bigSep (geF 32 1) fun k => dutyTok ER (barCell (rot c k)) 0 c)
    ∗ colPts c (rot c 0) g ∗ bigSep (geF 32 1) fun k => colPts c (rot c k) g) ⊢ _
  rw [rot_zero]
  iintro ⟨HO, ⟨-, Ht⟩, Hc, Hcs⟩
  isplitr [Hc]
  · isplitl [HO]; · iexact HO
    have hm : (bigSep (geF 32 1) fun k => colPts c (rot c k) g) ⊢ (bigSep (geF 32 1) fun k => iprop(∃ f, colPts c (rot c k) f) : sProp 𝕄) :=
      bigSep_mono fun k _ => by
        show colPts c (rot c k) g ⊢ (iprop(∃ f, colPts c (rot c k) f) : sProp 𝕄)
        iintro H; iexists g; iexact H
    ihave Hcs := hm $$ Hcs
    iapply (fam_join (F := F)); isplitl [Ht]; · iexact Ht
    iexact Hcs
  · iexists g; iexact Hc

theorem wgt_intro (h) :
    iprop(Env m ρ K ∗ (bigSep Finset.univ fun b => atPos ER (wgtCell c b) 0 ∅ 0)
        ∗ (bigSep Finset.univ fun j : Fin 8 => dutyTok ER (wgtCell c (sb j.val)) (j.val / 2) c) ∗ wAll m ρ c ∗ wbPts c h)
      ⊢ W0 m ρ c := by
  unfold W0 todoW doneW wAll wbPts
  rw [w_blocks, wb_blocks, geF_zero, ltF_zero, bigSep_univ_equiv (chkE c) (fun g => wPts m ρ c g), fin_two, BI.bigSep_empty]
  iintro ⟨#HE, ⟨H0, H1⟩, Ht, Hw, Hs0, Hs1⟩
  ihave #R0 := (env_wgt m ρ K c 0) $$ HE
  ihave #R1 := (env_wgt m ρ K c 1) $$ HE
  icases R0 with ⟨-, #R0⟩
  icases R1 with ⟨-, #R1⟩
  isplitl [H0 Hs0]
  · iexists h; unfold idleW
    isplitl [H0]
    · isplitl [H0]; · iexact H0
      iexact R0
    · iexact Hs0
  isplitl [H1 Hs1]
  · iexists h; unfold idleW
    isplitl [H1]
    · isplitl [H1]; · iexact H1
      iexact R1
    · iexact Hs1
  isplitl
  · iapply (fam_join (F := F)); isplitl [Hw]; · iexact Hw
    iexact Ht
  · iempintro

theorem body_start {f g h v} :
    iprop(Env m ρ K ∗ (own0 c ∗ creds0 c ∗ wAll m ρ c) ∗ (xbPts c f ∗ rbPts c g ∗ wbPts c h) ∗ owesE c (O₀ c) ∗ xPts c (xstg m ρ c) ∗ oPts c v)
      ⊢ iprop(Env m ρ K ∗ SigSt c 1 ∗ xPts c (xstg m ρ c) ∗ xbPts c f ∗ B0 c ∗ W0 m ρ c ∗ oPts c v
        ∗ bigSep Finset.univ (fun q => atPos ER (sndCell c q) 0 ∅ 0) ∗ emp) := by
  unfold own0 creds0
  iintro ⟨#HE, ⟨⟨Hb, Hsa, Hra, Hwa, Htb, Htr, Hts, Htw⟩, ⟨Hcb, Hcr⟩, Hw⟩, ⟨Hxb, Hrb, Hwb⟩, HO, Hx, Ho⟩
  ihave HS := (sig_intro c g) $$ [HO Htb Hrb]
  · iframe
  icases HS with ⟨HS, Hc⟩
  ihave HW := (wgt_intro m ρ K c h) $$ [Hwa Htw Hw Hwb]
  · iframe
    iexact HE
  unfold B0
  iframe
  iexact HE

theorem rows_back :
    iprop((bigSep Finset.univ fun q => backRes m ρ c q) ∗ bigSep Finset.univ fun s => ownRow m ρ c s) ⊢ xbPts c (xb m ρ c) := by
  unfold xbPts backRes
  rw [xb_blocks, ← erase_tgt c fun r => rowPts m ρ c r, erase_split c (fun s => ownRow m ρ c s), erase_split c (fun s => rowPts m ρ c s)]
  unfold ownRow; rw [if_pos rfl]
  iintro ⟨H1, H2, -⟩
  iframe

theorem slots_back (f g) : iprop(slotPts c 0 f ∗ slotPts c 1 g) ⊢ (iprop(∃ h, wbPts c h) : sProp 𝕄) := by
  let h : (cc0_scratch2 : Ref sig .tc).ty.Contents (Elt F) := fun i : S2x1024x4096.Idx => if (i 0).val = 0 then f i else g i
  have h0 : slotPts c 0 f = (slotPts c 0 h : sProp 𝕄) := by
    unfold slotPts
    refine pointsTo_congr fun i hi => ?_
    have := (mem_slot 0 i).mp hi
    exact (if_pos this).symm
  have h1 : slotPts c 1 g = (slotPts c 1 h : sProp 𝕄) := by
    unfold slotPts
    refine pointsTo_congr fun i hi => ?_
    have := (mem_slot 1 i).mp hi
    exact (if_neg (by rw [this]; decide)).symm
  rw [h0, h1]
  iintro H
  iexists h
  unfold wbPts; rw [wb_blocks]; iexact H

omit [FloatOps F] in
theorem src_all (Φ : Fin 32 → sProp 𝕄) : (bigSep Finset.univ fun u => Φ (src c u)) = bigSep Finset.univ Φ := (bigSep_univ_equiv (srcE c) Φ).symm
omit [FloatOps F] in
theorem chk_all (Φ : Fin 8 → sProp 𝕄) : (bigSep Finset.univ fun j : Fin 8 => Φ (chk c j.val)) = bigSep Finset.univ Φ := (bigSep_univ_equiv (chkE c) Φ).symm

theorem body_finish :
    iprop(Env m ρ K ∗ SWSt m ρ c 32 ∗ (RSt m ρ c 32 ∗ WC m ρ c 7 ∗ oPts c (outAt m ρ c)) ∗ semVal (barCell c) 0 ∗ xPts c (xstg m ρ c) ∗ emp)
      ⊢ |={Set.univ}=> iprop(owesE c 0 ∗ xPts c (xstg m ρ c) ∗ oPts c (outAt m ρ c)
          ∗ ((∃ f, xbPts c f) ∗ (∃ f, rbPts c f) ∗ ∃ f, wbPts c f) ∗ wAll m ρ c ∗ zeros c) := by
  unfold SWSt RSt WC todoW doneW zeros
  rw [ltF_end, ltF_end, bigSep_sep', bigSep_sep', show nextW (F := F) c (7 + 1) = iprop(∃ f, idleW c 8 f) from if_neg (by decide)]
  unfold wAll; rw [w_blocks]
  iintro ⟨#HE, ⟨HO, -, Hss, Hback⟩, ⟨⟨-, Hcols, Hrow⟩, ⟨H1, ⟨%f0, H0⟩, -, Hw⟩, Ho⟩, Hb, Hx, -⟩
  ihave Hcols := (Entails.of_eq (src_all c fun s => colPts c s (landed m ρ c))) $$ Hcols
  ihave Hrow := (Entails.of_eq ((src_all c fun s => iprop(ownRow m ρ c s ∗ semVal (rcvCell c s) 0)).trans (bigSep_sep' _ _ _))) $$ Hrow
  icases Hrow with ⟨Hown, Hsr⟩
  ihave Hw := (Entails.of_eq (chk_all c fun g => wPts m ρ c g)) $$ Hw
  unfold idleW
  icases H0 with ⟨⟨A0, -⟩, S0⟩
  icases H1 with ⟨⟨A1, -⟩, S1⟩
  ihave #I0 := (env_wgt m ρ K c 0) $$ HE
  ihave #I1 := (env_wgt m ρ K c 1) $$ HE
  icases I0 with ⟨#I0, -⟩
  icases I1 with ⟨#I1, -⟩
  imod (Rounds.cell_close ER (Rd m ρ) (Set.mem_univ (K (c, .inr (.inr (.inr 0))))) (fun h => h) (R := 4) (duties_wgt_later m ρ c 0)) $$ [A0] with Z0
  · isplitr; · iexact I0
    iexact A0
  imod (Rounds.cell_close ER (Rd m ρ) (Set.mem_univ (K (c, .inr (.inr (.inr 1))))) (fun h => h) (R := 4) (duties_wgt_later m ρ c 1)) $$ [A1] with Z1
  · isplitr; · iexact I1
    iexact A1
  imodintro
  ihave Hxb := (rows_back m ρ c) $$ [Hback Hown]
  · isplitl [Hback] <;> iassumption
  ihave Hwb := (slots_back c f0 (wbuf m ρ c (chk c 7))) $$ [S0 S1]
  · isplitl [S0]; · iexact S0
    iexact S1
  isplitl [HO]; · iexact HO
  isplitl [Hx]; · iexact Hx
  isplitl [Ho]; · iexact Ho
  isplitl [Hxb Hcols Hwb]
  · isplitl [Hxb]; · iexists _; iexact Hxb
    isplitl [Hcols]; · iexists (landed m ρ c); unfold rbPts; rw [rb_blocks]; iexact Hcols
    iexact Hwb
  isplitl [Hw]; · iexact Hw
  isplitl [Hb]; · iexact Hb
  isplitl [Hss]; · iexact Hss
  isplitl [Hsr]; · iexact Hsr
  rw [fin_two]
  isplitl [Z0]; · iexact Z0
  iexact Z1

end Ends
end Cert.Exchange
-- ==== Proof.Deal.lean ====
/-
# The launch: cells, tokens and credit dealt

The round state of every cell of every device, from the kernel's semaphores at zero; the tokens of a cell's duties carried
to the devices that pay them; what the launch credits each device with.
-/
module
public import proofs.«01_k».proof.Proof.Ends
@[expose] public section
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
variable {F : FTy → Type} [FloatOps F]
local notation "𝕄" => MT nD τ sig Unit (Elt F) ℕ UU ℕ

variable (m : (ℓ : Loc nD τ sig) → Buf (Elt F) ℓ) (ρ : Dev nD → PrngReg)

/-! ## The cells and the tokens -/

omit [FloatOps F] in
theorem kd_csm (k : CI) : kd (csm k) = match k with
    | .inl _ => .bar | .inr (.inl q) => .snd q | .inr (.inr (.inl s)) => .rcv s | .inr (.inr (.inr b)) => .wgt b := by
  rcases k with _ | q | s | b
  · exact kd_bar
  · exact kd_snd q
  · exact kd_rcv s
  · exact kd_wgt b

theorem cellAt_injective : Function.Injective cellAt := by
  rintro ⟨c, k⟩ ⟨c', k'⟩ h
  have h1 : c = c' := congrArg (fun g : GSem nD τ sig => g.1.1) h
  subst h1
  have h2 : kd (csm k) = kd (csm k') := congrArg (fun g : GSem nD τ sig => kd g.2) h
  rw [kd_csm, kd_csm] at h2
  rcases k with _ | q | s | b <;> rcases k' with _ | q' | s' | b' <;> first | rfl | (cases h2; rfl) | cases h2
def allCells : Finset (GSem nD τ sig) := Finset.univ.map ⟨cellAt, cellAt_injective⟩

/-- The duties of one device's cells: its barrier's (by payer), its receive cells', its send cells', its weight cells' (by chunk). -/
abbrev TI := Fin 32 ⊕ Fin 32 ⊕ Fin 32 ⊕ Fin 8
def tokAt : Dev nD × TI → GSem nD τ sig × ℕ × Dev nD
  | (c, .inl d) => (barCell c, 0, d)
  | (c, .inr (.inl s)) => (rcvCell c s, 0, s)
  | (c, .inr (.inr (.inl q))) => (sndCell c q, 0, c)
  | (c, .inr (.inr (.inr j))) => (wgtCell c (sb j.val), j.val / 2, c)
theorem tokAt_injective : Function.Injective tokAt := by
  rintro ⟨c, j⟩ ⟨c', j'⟩ h
  have h1 : c = c' := by
    have := congrArg (fun x : GSem nD τ sig × ℕ × Dev nD => x.1.1.1) h
    rcases j with d | s | q | g <;> rcases j' with d' | s' | q' | g' <;> exact this
  subst h1
  have h2 := congrArg (fun x : GSem nD τ sig × ℕ × Dev nD => (kd x.1.2, x.2.1, x.2.2)) h
  rcases j with d | s | q | g <;> rcases j' with d' | s' | q' | g' <;>
    simp only [tokAt, kd_bar, kd_snd, kd_rcv, kd_wgt, Prod.mk.injEq, reduceCtorEq, false_and, true_and, Kd.snd.injEq, Kd.rcv.injEq, Kd.wgt.injEq] at h2
  · rw [h2]
  · rw [h2.1]
  · rw [h2.1]
  · have h3 : g.val % 2 = g'.val % 2 := congrArg Fin.val h2.1
    have : g = g' := Fin.ext (by have := h2.2.1; omega)
    rw [this]
def allToks : Finset (GSem nD τ sig × ℕ × Dev nD) := Finset.univ.map ⟨tokAt, tokAt_injective⟩

def u₀ : UU := (initOf (Pipeline.cells cfgs cellOf_inj) (Pipeline.launchToks cfgs cellOf_inj), initOf allCells allToks)

section Deal
variable (c : Dev nD)

/-- The tokens of the duties of `c`'s own cells. -/
def toks : sProp 𝕄 := bigSep Finset.univ fun j : TI => dutyTok ER (tokAt (c, j)).1 (tokAt (c, j)).2.1 (tokAt (c, j)).2.2
/-- The tokens of the duties `c` pays. -/
def payToks : sProp 𝕄 :=
  iprop((bigSep Finset.univ fun r => dutyTok ER (barCell r) 0 c) ∗ (bigSep Finset.univ fun r => dutyTok ER (rcvCell r c) 0 c)
    ∗ (bigSep Finset.univ fun q => dutyTok ER (sndCell c q) 0 c)
    ∗ bigSep Finset.univ fun j : Fin 8 => dutyTok ER (wgtCell c (sb j.val)) (j.val / 2) c)

/-- What the launch element deals device `c`. -/
def G : sProp 𝕄 :=
  iprop((bigSep Finset.univ fun k : CI => roundState ER (Rd m ρ) (cellAt (c, k)) 0)
    ∗ (bigSep Finset.univ fun k : CI => iprop(atPos ER (cellAt (c, k)) 0 ∅ 0 ∗ reached ER (cellAt (c, k)) 0)) ∗ toks c)

/-- What every device knows of every cell. -/
def cellEnv (K : Dev nD × CI → ℕ) : sProp 𝕄 :=
  bigSep Finset.univ fun p : Dev nD × CI => iprop(cellInv ER (Rd m ρ) (K p) (cellAt p) ∗ reached ER (cellAt p) 0)
instance cellEnv_persistent (K : Dev nD × CI → ℕ) : Persistent (cellEnv (F := F) m ρ K) := by unfold cellEnv; infer_instance

/-- What the global step makes of it. -/
def G' : sProp 𝕄 := iprop(∃ K, cellEnv m ρ K ∗ own0 c)

omit [FloatOps F] in
theorem sum_split {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ
omit [FloatOps F] in
theorem unit_one (Φ : Unit → sProp 𝕄) : bigSep Finset.univ Φ = Φ () := bigSep_univ_of_subsingleton ()

omit [FloatOps F] in
theorem ci_split (Φ : CI → sProp 𝕄) :
    bigSep Finset.univ Φ = iprop(Φ (.inl ()) ∗ (bigSep Finset.univ fun q => Φ (.inr (.inl q)))
      ∗ (bigSep Finset.univ fun s => Φ (.inr (.inr (.inl s)))) ∗ bigSep Finset.univ fun b => Φ (.inr (.inr (.inr b)))) := by
  rw [sum_split, sum_split, sum_split]
  rw [unit_one]

omit [FloatOps F] in
theorem comm_dev (Φ : Dev nD → Dev nD → sProp 𝕄) :
    (bigSep Finset.univ fun c => bigSep Finset.univ fun d => Φ c d) = bigSep Finset.univ fun d => bigSep Finset.univ fun c => Φ c d := by
  rw [← bigSep_univ_prod (fun p : Dev nD × Dev nD => Φ p.1 p.2), ← bigSep_univ_prod (fun p : Dev nD × Dev nD => Φ p.2 p.1),
    bigSep_univ_equiv (Equiv.prodComm (Dev nD) (Dev nD)) (fun p : Dev nD × Dev nD => Φ p.1 p.2)]
  rfl

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CI => Φ (cellAt (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier is the launch's one unscoped semaphore. -/
theorem unscopedSems0_eq : (unscopedSems0 c : sProp 𝕄) = semVal (barCell c) 0 := by
  unfold unscopedSems0; rw [bigSep_eq_bigSepL_of_eq [SemLoc.reg barS] (by decide) (by decide)]; rfl

omit [FloatOps F] in
theorem sems0_eq : iprop(Pipeline.ownSems0 (Ix := Unit) (Name := ℕ) (U := UU) (Lvl := ℕ) (Val := Elt F) (τ := τ) osm c ∗ unscopedSems0 c)
      ⊢ (bigSep Finset.univ fun k : CI => semVal (cellAt (c, k)) 0 : sProp 𝕄) := by
  rw [unscopedSems0_eq, sum_split, unit_one]
  iintro ⟨H, HB⟩
  isplitl [HB]; · iexact HB
  unfold Pipeline.ownSems0; iexact H

omit [FloatOps F] in
theorem zeros_give : zeros c ⊢ (iprop(Pipeline.ownSems0 (Ix := Unit) (Name := ℕ) (U := UU) (Lvl := ℕ) (Val := Elt F) (τ := τ) osm c ∗ unscopedSems0 c) : sProp 𝕄) := by
  rw [unscopedSems0_eq]
  unfold zeros Pipeline.ownSems0
  rw [sum_split, sum_split]
  iintro ⟨Hb, H1, H2, H3⟩
  isplitr [Hb]
  · isplitl [H1]; · iexact H1
    isplitl [H2]; · iexact H2
    iexact H3
  · iexact Hb

theorem core_alloc :
    iprop(Pipeline.ownSems0 (Ix := Unit) (Name := ℕ) (U := UU) (Lvl := ℕ) (Val := Elt F) (τ := τ) osm c ∗ unscopedSems0 c ∗ G m ρ c)
      ⊢ |={Set.univ}=> iprop((bigSep Finset.univ fun k : CI => iprop(∃ κ : ℕ, cellInv ER (Rd m ρ) κ (cellAt (c, k))))
          ∗ (bigSep Finset.univ fun k : CI => iprop(atPos ER (cellAt (c, k)) 0 ∅ 0 ∗ reached ER (cellAt (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (cellAt (c, k)) 0) ∗ bigSep Finset.univ fun k : CI => roundState ER (Rd m ρ) (cellAt (c, k)) 0)
      ⊢ (|={Set.univ}=> bigSep Finset.univ fun k : CI => iprop(∃ κ : ℕ, cellInv ER (Rd m ρ) κ (cellAt (c, k))) : sProp 𝕄) from by
        rw [← bigSep_sep']
        exact (bigSep_mono fun k _ => (Rounds.body_intro ER (Rd m ρ) (cellAt (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Each token to the device that pays the duty. -/
theorem toks_dealt : (bigSep Finset.univ fun c : Dev nD => (toks c : sProp 𝕄)) ⊢ bigSep Finset.univ fun c : Dev nD => payToks c := by
  have ht (c : Dev nD) : (toks c : sProp 𝕄) = iprop((bigSep Finset.univ fun d => dutyTok ER (barCell c) 0 d)
      ∗ (bigSep Finset.univ fun s => dutyTok ER (rcvCell c s) 0 s) ∗ (bigSep Finset.univ fun q => dutyTok ER (sndCell c q) 0 c)
      ∗ bigSep Finset.univ fun j : Fin 8 => dutyTok ER (wgtCell c (sb j.val)) (j.val / 2) c) := by
    unfold toks; rw [sum_split, sum_split, sum_split]; rfl
  rw [bigSep_congr fun c _ => ht c]
  unfold payToks
  rw [bigSep_sep', bigSep_sep', bigSep_sep', bigSep_sep', bigSep_sep', bigSep_sep', comm_dev fun c d => (dutyTok ER (barCell c) 0 d : sProp 𝕄),
    comm_dev fun c s => (dutyTok ER (rcvCell c s) 0 s : sProp 𝕄)]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem g_intro (K : Dev nD × CI → ℕ) :
    iprop(cellEnv m ρ K ∗ ((bigSep Finset.univ fun k : CI => atPos ER (cellAt (c, k)) 0 ∅ 0) ∗ payToks c)) ⊢ G' m ρ c := by
  rw [ci_split]
  unfold G' own0 payToks
  iintro ⟨#HE, ⟨H1, H2, H3, H4⟩, T1, T2, T3, T4⟩
  iexists K
  isplitr; · iexact HE
  isplitl [H1]; · iexact H1
  isplitl [H2]; · iexact H2
  isplitl [H3]; · iexact H3
  isplitl [H4]; · iexact H4
  isplitl [T1]; · iexact T1
  isplitl [T2]; · iexact T2
  isplitl [T3]; · iexact T3
  iexact T4

theorem regroup :
    (bigSep Finset.univ fun c : Dev nD => iprop((bigSep Finset.univ fun k : CI => iprop(∃ κ : ℕ, cellInv ER (Rd m ρ) κ (cellAt (c, k))))
          ∗ (bigSep Finset.univ fun k : CI => iprop(atPos ER (cellAt (c, k)) 0 ∅ 0 ∗ reached ER (cellAt (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (Rd m ρ) κ (cellAt ck))),
    bigSep_congr (s := Finset.univ) (fun (c : Dev nD) _ => bigSep_sep' Finset.univ (fun k : CI => (atPos ER (cellAt (c, k)) 0 ∅ 0 : sProp 𝕄)) (fun k => reached ER (cellAt (c, k)) 0)),
    bigSep_sep', ← bigSep_univ_prod (fun ck : Dev nD × CI => (reached ER (cellAt ck) 0 : sProp 𝕄))]
  iintro ⟨HI, ⟨Hat, #HR⟩, Htok⟩
  ihave HK := (BI.bigSep_exists_pi Finset.univ (fun (ck : Dev nD × CI) (κ : ℕ) => (cellInv ER (Rd m ρ) κ (cellAt ck) : sProp 𝕄))) $$ HI
  icases HK with ⟨%K, #HI⟩
  ihave Htk := (toks_dealt (F := F)) $$ Htok
  iapply (bigSep_with_persistent (R := cellEnv m ρ K) fun c _ => g_intro m ρ c K)
  isplitr
  · unfold cellEnv; rw [bigSep_sep']; isplitl; · iexact HI
    iexact HR
  · iapply (Entails.of_eq (bigSep_sep' Finset.univ (fun c : Dev nD => bigSep Finset.univ fun k : CI => (atPos ER (cellAt (c, k)) 0 ∅ 0 : sProp 𝕄)) payToks).symm)
    isplitl [Hat]; · iexact Hat
    iexact Htk

/-- The global step: the kernel's own semaphores and the barrier, of every device at once. -/
theorem glob : (bigSep Finset.univ fun c => iprop(Pipeline.ownSems0 (Ix := Unit) (Name := ℕ) (U := UU) (Lvl := ℕ) (Val := Elt F) (τ := τ) osm c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) :=
  ⟨fun h => congrArg (fun g : GSem nD τ sig => g.1.1) h, fun h => h ▸ rfl⟩
theorem rcv_eq_iff {a b s t : Dev nD} : Iff (rcvCell a s = rcvCell b t) (a = b ∧ s = t) :=
  ⟨fun h => ⟨congrArg (fun g : GSem nD τ sig => g.1.1) h, by
      have := congrArg (fun g : GSem nD τ sig => kd g.2) h
      rw [kd_rcv, kd_rcv] at this; cases this; rfl⟩, fun h => by rw [h.1, h.2]⟩
theorem bar_ne_rcv (a b s : Dev nD) : barCell a ≠ rcvCell b s := fun h => by
  have := congrArg (fun g : GSem nD τ sig => kd g.2) h
  rw [kd_bar, kd_rcv] at this; cases this

theorem units (d c : Dev nD) : (∑ k ∈ geF 32 1, if c = rot d k then 1 else 0) = if d = c then 0 else 1 := by revert d c; decide +kernel

theorem owed_bar (d c : Dev nD) : O₀ d (barCell c) () = if d = c then 0 else 1 := by
  have h0 : Orcv d 0 (barCell c) () = 0 := by
    rcases Nat.eq_zero_or_pos (Orcv d 0 (barCell c) ()) with h | h
    · exact h
    · obtain ⟨e, he⟩ := Orcv_pos h; exact absurd he (bar_ne_rcv _ _ _)
  unfold O₀
  rw [Pi.add_apply, Finsupp.add_apply, h0, zero_add, ← units]
  unfold Obar
  rw [Finset.sum_apply, Finsupp.finset_sum_apply]
  refine Finset.sum_congr rfl fun k _ => ?_
  rw [tallyAt_apply]
  exact if_congr (by rw [bar_eq_iff]; exact and_iff_left rfl) rfl rfl

theorem owed_rcv (d c s : Dev nD) (h : s ≠ c) : O₀ d (rcvCell c s) () = if d = s then N else 0 := by
  have h0 : Obar d 1 (rcvCell c s) () = 0 := by
    rcases Nat.eq_zero_or_pos (Obar d 1 (rcvCell c s) ()) with h | h
    · exact h
    · obtain ⟨e, he⟩ := Obar_pos h; exact absurd he.symm (bar_ne_rcv _ _ _)
  unfold O₀
  rw [Pi.add_apply, Finsupp.add_apply, h0, add_zero]
  by_cases hd : d = s
  · subst hd
    rw [if_pos rfl]
    unfold Orcv
    rw [geF_zero, Finset.sum_apply, Finsupp.finset_sum_apply, Finset.sum_eq_single ((tgtE d).symm c)]
    · have ht : tgt d ((tgtE d).symm c) = c := (tgtE d).apply_symm_apply c
      rw [ht, if_neg (fun e => h e.symm), tallyAt_apply, if_pos ⟨rfl, rfl⟩]
    · intro q _ hq
      by_cases hs : tgt d q = d
      · rw [if_pos hs]; rfl
      · rw [if_neg hs, tallyAt_apply, if_neg]
        rintro ⟨he, -⟩
        exact hq (by rw [(rcv_eq_iff.mp he).1]; exact ((tgtE d).symm_apply_apply q).symm)
    · intro hh; exact absurd (Finset.mem_univ _) hh
  · rw [if_neg hd]
    rcases Nat.eq_zero_or_pos (Orcv d 0 (rcvCell c s) ()) with h | h
    · exact h
    · obtain ⟨e, he⟩ := Orcv_pos h; exact absurd (rcv_eq_iff.mp he).2.symm hd

theorem launch_bar : tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_rcv (s : Dev nD) (h : s ≠ c) :
    tallyOn (rcvCell c s) (launchCredit (Pipeline.owing O₀) 0 (rcvCell c s)) = (tallyAt (rcvCell c s) () N : CellTallies nD τ sig Unit) := by
  unfold tallyAt; refine congrArg _ (Finsupp.ext fun u => ?_); cases u
  rw [Pipeline.launchCredit_owing, Finsupp.single_eq_same, Finset.sum_congr rfl fun d _ => owed_rcv d c s h, Finset.sum_ite_eq' Finset.univ s fun _ => N,
    if_pos (Finset.mem_univ _)]

theorem rcvS_injective : Function.Injective fun s => (SemLoc.dma (rcvS s) : SemLoc sig) := fun s t h => by
  have := congrArg kd h
  dsimp only at this
  rw [kd_rcv, kd_rcv] at this; cases this; rfl

omit [FloatOps F] in
theorem creds : (Pipeline.launchCred O₀ c : sProp 𝕄) ⊢ creds0 c := by
  unfold Pipeline.launchCred creds0
  rw [bigSep_univ_at _ (SemLoc.reg barS), launch_bar]
  refine sep_mono_right ?_
  have hsub : (Finset.univ.erase c).map ⟨fun s => (SemLoc.dma (rcvS s) : SemLoc sig), rcvS_injective⟩ ⊆ Finset.univ.erase (SemLoc.reg barS) := by
    intro x hx
    obtain ⟨s, -, rfl⟩ := Finset.mem_map.mp hx
    exact Finset.mem_erase.mpr ⟨(by intro h; cases h), Finset.mem_univ _⟩
  refine (bigSep_subset (Φ := fun sm => (cred (tallyOn ((c : Thread nD τ), sm) (launchCredit (Pipeline.owing O₀) 0 ((c : Thread nD τ), sm))) : sProp 𝕄)) hsub).trans ?_
  · rw [bigSep_map]
    refine bigSep_mono fun s hs => ?_
    rw [← launch_rcv c s (Finset.mem_erase.mp hs).1]
    exact BI.Entails.refl _

end Deal
end Cert.Exchange
-- ==== Proof.Run.lean ====
/-
# The run

The body against the pipeline's obligation, and the launch: from any memory with every counter at zero, every weakly fair
execution ends, each device's result block at `outAt`, both arguments as they were, every counter at zero.
-/
module
public import proofs.«01_k».proof.Proof.Body
public import proofs.«01_k».proof.Proof.Deal
public import Idealize.ShloMosaic.Lib.Pipeline.CollectiveSegs
@[expose] public section
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)
variable {F : FTy → Type} [FloatOps F]
local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Its scratch buffers, at some contents. -/
def scr (c : Dev nD) : sProp 𝕄 := iprop((∃ f, xbPts c f) ∗ (∃ f, rbPts c f) ∗ ∃ f, wbPts c f)
/-- What device `c` starts from. -/
def start (c : Dev nD) : sProp 𝕄 := iprop((∃ K, Env m ρ K ∗ own0 c) ∗ creds0 c ∗ wAll m ρ c)
def Φ₀ (c : Dev nD) : sProp 𝕄 := iprop(start m ρ c ∗ scr c)
def Φ₁ (c : Dev nD) : sProp 𝕄 := iprop(scr c ∗ wAll m ρ c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body
variable (c : Dev nD)

set_option maxHeartbeats 1000000 in
/-- The body from what a device starts with to what it gives back. -/
theorem whole_body (K : Dev nD × CI → ℕ) {f g h v} :
    iprop(Env m ρ K ∗ (own0 c ∗ creds0 c ∗ wAll m ρ c) ∗ (xbPts c f ∗ rbPts c g ∗ wbPts c h) ∗ owesE c (O₀ c) ∗ xPts c (xstg m ρ c) ∗ oPts c v)
      ⊢ WP c (onM (cc0_body (F := F))) fun _ => iprop(owesE c 0 ∗ xPts c (xstg m ρ c) ∗ oPts c (outAt m ρ c) ∗ scr c ∗ wAll m ρ c ∗ zeros c) := by
  refine (body_start m ρ K c).trans ?_
  dsimp only [onM]
  rw [cc0_body_eq_skeleton]; unfold cc0_body_skel
  refine bind_step c (p51 m ρ K c fun a b d e => ?_)
  simp -zeta only [Prog.lift, Prog.bind_op, Prog.bind_ret, Prog.pure_eq_ret]
  iterate 4 refine sendwait_at m ρ K c _ (by decide) _ _ (by decide +kernel) rfl (fun _ => xb_credit) ?_
  unfold WP; rw [wp_ret]
  exact body_finish m ρ K c

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost : sProp 𝕄 :=
  iprop(Φ₁ m ρ c ∗ (dats m ρ 0 c).owesAt () t₀.succ ∗ stg c cc0_stg0_0 (xstg m ρ c) ∗ stg c cc0_stg1_0 (outAt m ρ c))

theorem post_intro : iprop(owesE c 0 ∗ xPts c (xstg m ρ c) ∗ oPts c (outAt m ρ c) ∗ scr c ∗ wAll m ρ c ∗ zeros c) ⊢ bodyPost m ρ c := by
  unfold bodyPost Φ₁ Dat.owesAt Pipeline.owesWithin owesE
  rw [show (dats m ρ 0 c).owed t₀.succ = 0 from rfl]
  iintro ⟨⟨%W, HO⟩, Hx, Ho, Hs, Hw, Hz⟩
  isplitl [Hs Hw Hz]
  · isplitl [Hs]; · iexact Hs
    isplitl [Hw]; · iexact Hw
    iexact Hz
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
theorem sound_body : bodyPre m ρ c ⊢ WP c (onM (cc0_body (F := F))) fun _ => bodyPost m ρ c := by
  unfold bodyPre Φ₀ start scr
  iintro ⟨⟨⟨⟨%K, HE, Hown⟩, Hcr, Hw⟩, ⟨%f, Hf⟩, ⟨%g, Hg⟩, ⟨%h, Hh⟩⟩, HO, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases HO with ⟨%W, %hW, HO⟩
  rw [show (dats m ρ 0 c).owed t₀.castSucc = O₀ c from rfl]
  iapply (wp_mono _ _ _ (fun _ => post_intro m ρ c))
  iapply (whole_body m ρ c K (f := f) (g := g) (h := h) (v := g1))
  isplitl [HE]; · iexact HE
  isplitl [Hown Hcr Hw]
  · isplitl [Hown]; · iexact Hown
    isplitl [Hcr]; · iexact Hcr
    iexact Hw
  isplitl [Hf Hg Hh]
  · isplitl [Hf]; · iexact Hf
    isplitl [Hg]; · iexact Hg
    iexact Hh
  isplitl [HO]; · unfold owesE; iexists W; iexact HO
  isplitl [Hx]; · iexact Hx
  iexact Hout

set_option maxRecDepth 4000 in
/-- The library's body obligation on core `c`. -/
theorem body_obligation : BodyObligation (dats (F := F) m ρ 0 c) (defs₀ (F := F)) 𝒱₀ () Set.univ := fun t => by
  rw [fin_N t]
  rw [bigSep_W0, bigSep_W0]
  simp only [owns_whole_eq]
  exact sound_body m ρ c

end Body

/-! ## The launch -/

theorem ownSemFacts : Pipeline.OwnSemFacts cfg0.spec osm := by decide +kernel
theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold G' start Env cellEnv wAll
  iintro ⟨Hw, Hlev, Hcr, -, ⟨%K, HE, Hown⟩⟩
  ihave Hc := (creds (F := F) c) $$ Hcr
  imodintro
  isplitl
  · isplitl [HE Hlev Hown]
    · iexists K
      isplitl [HE Hlev]
      · isplitl [HE] <;> iassumption
      · iexact Hown
    isplitl [Hc]; · iexact Hc
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop((unscopedSems0 c ∗ wAll m ρ c) ∗ Pipeline.ownSems0 osm c ∗ Pipeline.scopedRest cfg0.spec c) := by
  rw [show (dats m ρ 0 c).Φ (Fin.last cfg0.N) = Φ₁ m ρ c from rfl, scopedRest0_eq]
  unfold Φ₁ scr
  iintro ⟨Hs, Hw, Hz⟩
  ihave Hz := (zeros_give (F := F) c) $$ Hz
  icases Hz with ⟨Ho, Hu⟩
  isplitl [Hu Hw]
  · isplitl [Hu]; · iexact Hu
    iexact Hw
  isplitl [Ho]; · iexact Ho
  iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem read_w (c : Dev nD) (s' : Phys nD τ sig (Elt F)) :
    iprop((unscopedSems0 c ∗ wAll m ρ c) ∗ emp ∗ SI s') ⊢ (|={Set.univ}=> iprop(⌜(∀ sm : SemLoc sig, sm.isScoped .tc = false → s'.mem.sem ((c.tc : Thread nD τ), sm) = 0)
      ∧ s'.mem.mem ((c : Thread nD τ).loc main_arg1) = wArr m ρ c⌝ ∗ SI s') : sProp 𝕄) := by
  unfold wAll
  iintro ⟨⟨Hu, Hw⟩, -, HSI⟩
  ihave %hw := (SI_pointsTo_agree (st := s')) $$ [HSI Hw]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ hw⟩
  · iexact HSI

/-! ### The run -/

def finalA (c : Dev nD) (w : Fin cfg0.W) : Buf (Elt F) ((cfg0.win w).arr.view.loc (c : Thread nD τ)) := (dats m ρ 0 c).arrAt w cfg0.N

set_option maxRecDepth 8000 in
theorem run_main : θ_run defs (onTc (τ := τ) (main (F := F))) (s₀ m ρ) (fun r => (∀ c : Dev nD,
    (∀ w : Fin cfg0.W, r.2.mem ((cfg0.win w).arr.view.loc (c : Thread nD τ)) = finalA m ρ c w)
      ∧ r.2.mem ((c : Thread nD τ).loc main_arg1) = wArr m ρ c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => iprop(unscopedSems0 c ∗ wAll m ρ c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = wArr m ρ c)
    (hY := read_w m ρ)
    (hQ := fun _ h hs => ⟨fun c => ⟨fun w => (h c).1 w, (h c).2.2.2⟩, sem_eq_zero hs fun c => (h c).2.2.1⟩)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Exchange
-- ==== Proof.Frames.lean ====
/-
# The program as printed runs as the idealized one

No operation is rewritten between the two programs, so at the devices' own floats they are one program under two names. The
run of the exchange, proved for any floats, is read here at each.
-/
module
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
@[expose] public section
noncomputable section
namespace Cert.Exchange
open Idealize.ShloMosaic Idealize.SL.Sem

theorem defs₀_same : @Cert.Kernel.defs₀ Bits _ Cert.Kernel.Gen.facts = @Cert.KernelIdeal.defs₀ Bits _ Cert.KernelIdeal.Gen.facts := by
  delta Cert.Kernel.defs₀ Cert.KernelIdeal.defs₀
  refine congrArg _ ?_
  funext l a
  match l, a with
  | 0, (t, s) => rfl
  | ⟨_ + 1, h⟩, _ => exact absurd h (Nat.not_lt.2 (Nat.le_add_left _ _))

theorem defs_same : @Cert.Kernel.defs Bits _ Cert.Kernel.Gen.facts = @Cert.KernelIdeal.defs Bits _ Cert.KernelIdeal.Gen.facts := by
  delta Cert.Kernel.defs Cert.KernelIdeal.defs
  exact congrArg (Pipeline.defs Cert.KernelIdeal.pcfgs) defs₀_same

section
open Cert.KernelIdeal Cert.KernelIdeal.Gen

/-- Both arguments are as they were after the run. -/
theorem run_args {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => ⟨((h.1 c).1 (0 : Fin 2)).trans (finalA_x m ρ c), (h.1 c).2⟩, h.2⟩) (run_main m ρ)
end

theorem frame_ideal : Cert.quiescent_KernelIdeal (hKernelIdeal := Cert.KernelIdeal.Gen.facts) :=
  fun m g _ => run_args m g

theorem frame_kernel : Cert.quiescent_Kernel (hKernel := Cert.Kernel.Gen.facts) := by
  intro m g _
  have h := run_args (F := Bits) m g
  rw [← defs_same] at h
  exact h

theorem frame_reference : Cert.quiescent_ReferenceIdeal (hReferenceIdeal := Cert.ReferenceIdeal.Gen.facts) :=
  fun m g _ => (θ_run _ _ _).mono (fun r h => ⟨fun c => ⟨(h c).2.1, (h c).2.2⟩, sem_eq_zero_of_no_sems (by decide) r.2⟩)
    (Cert.ReferenceIdeal.Value.run m g)

end Cert.Exchange
end
-- ==== Proof.Result.lean ====
/-
# The result array

The pipeline has one point, and each window's block there is its whole array: what the body leaves in the result's staging
buffer is what the result array ends holding, and the body finds the device's whole part of `x`.
-/
module
public import proofs.«01_k».proof.Proof.Run
public import proofs.«01_k».proof.Proof.Gen.KernelIdeal.Points
public import Idealize.ShloMosaic.Lib.Pipeline.Value
@[expose] public section
noncomputable section
namespace Cert.Exchange
open Cert.KernelIdeal Cert.KernelIdeal.Gen
open Idealize.ShloMosaic Idealize.ShloMosaic.TcCoe Idealize.SL.Sem
variable {F : FTy → Type} [FloatOps F]
variable (m : (ℓ : Loc nD τ sig) → Buf (Elt F) ℓ) (ρ : Dev nD → PrngReg)

/-- An index of the `x` window's block is that index of the array. -/
theorem x_emb (t : Fin cfg0.N) (i : S8192x256.Idx) : ((win0_0.blk t).view.emb i : S8192x256.Idx) = i := by
  funext a; apply Fin.ext
  match a with
  | ⟨0, _⟩ => show 0 * 8192 + 1 * (i 0).val = (i 0).val; omega
  | ⟨1, _⟩ => show 0 * 256 + 1 * (i 1).val = (i 1).val; omega

/-- The body finds the device's part of `x`, whole. -/
theorem xstg_eq (c : Dev nD) : xstg m ρ c = m ((c : Thread nD τ).loc main_arg0) :=
  funext fun i => congrArg (m ((c : Thread nD τ).loc main_arg0)) (x_emb (0 : Fin 1) i)

/-- An index of the result window's block is that index of the array. -/
theorem o_emb (t : Fin cfg0.N) (i : S256x4096.Idx) : ((win0_1.blk t).view.emb i : S256x4096.Idx) = i := by
  funext a; apply Fin.ext
  match a with
  | ⟨0, _⟩ => show 0 * 256 + 1 * (i 0).val = (i 0).val; omega
  | ⟨1, _⟩ => show 0 * 4096 + 1 * (i 1).val = (i 1).val; omega

/-- The result array ends holding what the body leaves. -/
theorem finalA_o (c : Dev nD) : finalA m ρ c (1 : Fin 2) = outAt m ρ c :=
  (dats m ρ 0 c).arrAt_eq_of_cover (1 : Fin 2) (outAt m ρ c)
    (fun t _ => funext fun i => by
      show outAt m ρ c _ = outAt m ρ c ((win0_1.blk t).view.emb i : S256x4096.Idx)
      rw [o_emb])
    (fun i => ⟨(0 : Fin 1), flush0_1 _, by
      have h := View.emb_mem_set (v := (win0_1.blk (0 : Fin 1)).view) i
      rwa [show ((win0_1.blk (0 : Fin 1)).view.emb i) = i from o_emb (0 : Fin 1) i] at h⟩)

end Cert.Exchange
end
-- ==== Proof.Value.lean ====
/-
# What the exchange computes, over the extended reals

Device `c` adds eight products, one for each chunk of 1024 columns of `X`, starting with its own chunk and going round. Over the
extended reals the casts change nothing and addition may be regrouped, so the sum is the rows `256 c, …` of `X · W`; the last
step multiplies each entry by its sigmoid, which is the reference's quotient.
-/
module
public import proofs.«01_k».proof.Proof.Result
public import Idealize.ShloMosaic.Lib.MatmulPlain
public import Idealize.ShloMosaic.Lib.StackMember
public import Idealize.ShloMosaic.Lib.Layout
public import Idealize.ShloMosaic.PureOps.Ideal.Laws
@[expose] public section
noncomputable section
namespace Cert.Exchange
open Cert.KernelIdeal Cert.KernelIdeal.Gen
open Idealize.ShloMosaic Idealize.ShloMosaic.TcCoe Idealize.SL.Sem
open Idealize.ShloMosaic.ValueIdx (ix2 ix3 eq_ix2)
open scoped BigOperators

/-! ## The operations, entry by entry -/

/-- The product of a chunk, entry by entry. -/
theorem chunk_product (a : Vec Ideal S256x1024 .bf16) (w : Vec Ideal S1x1024x4096 .f32) (r : Fin 256) (q : Fin 4096) :
    k0_pay3 a w (ix2 r q) = ∑ k : Fin 1024, a (ix2 r k) * w (ix3 (0 : Fin 1) k q) := by
  refine (Ideal.matmul_plain_apply (M := 256) (K := 1024) (N := 4096) none _ _ _ r q).trans ?_
  rw [show (constant S256x4096 .f32 0x00000000#32 : FVec Ideal S256x4096 .f32) (ix2 r q) = 0 from Ideal.ofBits_zero_f32, zero_add]
  refine Finset.sum_congr rfl fun k _ => congrArg (a (ix2 r k) * ·) ?_
  refine (shapeCast_dropUnit_apply ![1024, 4096] w shapeCasts_S1x1024x4096_S1024x4096 (ix2 k q)).trans (congrArg w ?_)
  funext a
  match a with
  | ⟨0, _⟩ => rfl
  | ⟨1, _⟩ => rfl
  | ⟨2, _⟩ => rfl

/-- A later chunk's product is added to what was there. -/
theorem chunk_added (a : Vec Ideal S256x1024 .bf16) (w : Vec Ideal S1x1024x4096 .f32) (o : Vec Ideal S256x4096 .f32) (r : Fin 256) (q : Fin 4096) :
    k0_pay4 a w o (ix2 r q) = o (ix2 r q) + k0_pay3 a w (ix2 r q) := by
  unfold k0_pay4 k0_pay3
  rw [shapeCast_self]; rfl

/-- `1 + exp (-y)` is positive. -/
theorem den_ne_zero (y : EReal) : (1 : EReal) + Ideal.exp (-y) ≠ 0 := by
  have h : (0 : EReal) ≤ Ideal.exp (-y) := by
    induction (-y) using EReal.rec with
    | bot => exact le_rfl
    | coe r => rw [Ideal.exp_coe]; exact_mod_cast (Real.exp_pos r).le
    | top => exact le_top
  exact ne_of_gt (lt_of_lt_of_le zero_lt_one (le_add_of_nonneg_right h))

/-- An entry times its sigmoid is the quotient. -/
theorem silu_eq (y : EReal) : y * Ideal.logistic y = Ideal.div y (1 + Ideal.exp (-y)) := by
  rw [Ideal.logistic, Ideal.div, Ideal.div, if_neg (den_ne_zero y), if_neg (den_ne_zero y), one_mul]

theorem silu_apply (o : Vec Ideal S256x4096 .f32) (i : S256x4096.Idx) :
    k0_pay13 o i = Ideal.div (o i) (1 + Ideal.exp (-(o i))) := by
  refine Eq.trans ?_ (silu_eq (o i))
  unfold k0_pay13
  rw [shapeCast_self]; rfl

/-! ## The chunks, from the whole arrays -/

/-- The devices' parts of `x` tile it. -/
theorem tiles_x : Layout.Tiles ⟨2, ![8192, 256]⟩ ⟨2, ![8192, 8192]⟩ 1 32 := by decide
/-- The devices' parts of the result tile it. -/
theorem tiles_o : Layout.Tiles ⟨2, ![256, 4096]⟩ ⟨2, ![8192, 4096]⟩ 0 32 := by decide

variable (m : (ℓ : Loc nD τ sig) → Buf (Elt Ideal) ℓ) (ρ : Dev nD → PrngReg)
variable (X : (⟨2, ![8192, 8192]⟩ : Shape).Idx → EReal) (W : (⟨2, ![8192, 4096]⟩ : Shape).Idx → EReal)

/-- An entry of `X · W`. -/
def prodAt (r : Fin 8192) (q : Fin 4096) : EReal := ∑ k : Fin 8192, X (ix2 r k) * W (ix2 k q)
/-- Its part from chunk `g`. -/
def prodChunk (r : Fin 8192) (q : Fin 4096) (g : Fin 8) : EReal :=
  ∑ k : Fin 1024, X (ix2 r ⟨1024 * g.val + k.val, by omega⟩) * W (ix2 ⟨1024 * g.val + k.val, by omega⟩ q)
/-- Row `r` of device `c`'s part of the result, in the whole. -/
def rowOf (c : Fin 32) (r : Fin 256) : Fin 8192 := ⟨256 * c.val + r.val, by omega⟩

/-- The eight parts make the entry. -/
theorem prodChunk_sum (r : Fin 8192) (q : Fin 4096) : ∑ g : Fin 8, prodChunk X W r q g = prodAt X W r q := by
  unfold prodChunk prodAt
  rw [← Equiv.sum_comp (finProdFinEquiv (m := 8) (n := 1024)), Fintype.sum_prod_type]
  refine Finset.sum_congr rfl fun g _ => Finset.sum_congr rfl fun k _ => ?_
  have e : (finProdFinEquiv (g, k) : Fin (8 * 1024)) = (⟨1024 * g.val + k.val, by omega⟩ : Fin 8192) := Fin.ext (Nat.add_comm k.val (1024 * g.val))
  rw [e]

section
variable (hx : ∀ c : Dev nD, m ((c.tc : Thread nD τ).loc main_arg0) = Layout.block ⟨2, ![8192, 256]⟩ ⟨2, ![8192, 8192]⟩ 1 32 c X tiles_x)
variable (hw : ∀ c : Dev nD, m ((c.tc : Thread nD τ).loc main_arg1) = W)
include hx in
/-- What has landed on device `c` are its rows of `X`. -/
theorem xin_apply (c : Dev nD) (g : Fin 8) (r : Fin 256) (k : Fin 1024) :
    xin m ρ c g (ix2 r k) = X (ix2 (rowOf c r) ⟨1024 * g.val + k.val, by omega⟩) := by
  have hb (s : Dev nD) : xb m ρ s = Layout.block ⟨2, ![8192, 256]⟩ ⟨2, ![8192, 8192]⟩ 1 32 s X tiles_x := by
    unfold xb k0_pay2 k0_pay1
    rw [xstg_eq, ← hx s, shapeCast_self, shapeCast_self]; rfl
  show landed m ρ c _ = _
  unfold landed
  rw [hb]
  refine congrArg X ?_
  have h1 : (((rbM.access (rChunk g)).emb (ix2 r k) : S256x8192.Idx) 1).val = 1024 * g.val + k.val := by
    show 1024 * g.val + 1 * k.val = _; omega
  have h0 : (((rbM.access (rChunk g)).emb (ix2 r k) : S256x8192.Idx) 0).val = r.val := by
    show 0 + 1 * r.val = _; omega
  funext a; apply Fin.ext
  match a with
  | ⟨0, _⟩ =>
    show 256 * c.val + (((rbM.access (rChunk g)).emb (ix2 r k) : S256x8192.Idx) 0).val = 256 * c.val + r.val
    rw [h0]
  | ⟨1, _⟩ =>
    show (((rbM.access (rChunk g)).emb (ix2 r k) : S256x8192.Idx) 1).val / 256 * 256 + (((rbM.access (rChunk g)).emb (ix2 r k) : S256x8192.Idx) 1).val % 256 = 1024 * g.val + k.val
    rw [h1]; omega

include hw in
/-- A chunk of `w` is those rows of `W`. -/
theorem win_apply (c : Dev nD) (g : Fin 8) (k : Fin 1024) (q : Fin 4096) :
    win m ρ c g (ix3 (0 : Fin 1) k q) = W (ix2 ⟨1024 * g.val + k.val, by omega⟩ q) :=
  congrFun (hw c) _

include hx hw in
theorem product_apply (c : Dev nD) (g : Fin 8) (r : Fin 256) (q : Fin 4096) :
    k0_pay3 (xin m ρ c g) (win m ρ c g) (ix2 r q) = prodChunk X W (rowOf c r) q g := by
  rw [chunk_product]
  exact Finset.sum_congr rfl fun k _ => by rw [xin_apply m ρ X hx, win_apply m ρ W hw]

include hx hw in
/-- After the chunks `0, …, j` the accumulator holds their parts. -/
theorem accF_apply (c : Dev nD) (r : Fin 256) (q : Fin 4096) : ∀ j : ℕ,
    accF m ρ c j (ix2 r q) = ∑ i ∈ Finset.range (j + 1), prodChunk X W (rowOf c r) q (chk c i)
  | 0 => by rw [Finset.sum_range_one]; exact product_apply m ρ X W hx hw c _ r q
  | j + 1 => by
    rw [Finset.sum_range_succ, ← accF_apply c r q j, ← product_apply m ρ X W hx hw c _ r q]
    exact chunk_added _ _ _ r q

include hx hw in
/-- After all of them it holds the rows of the product. -/
theorem acc_whole (c : Dev nD) (r : Fin 256) (q : Fin 4096) : accF m ρ c 7 (ix2 r q) = prodAt X W (rowOf c r) q := by
  rw [accF_apply m ρ X W hx hw, ← prodChunk_sum, ← Equiv.sum_comp (chkE c), Finset.sum_range]
  rfl

include hx hw in
/-- What device `c` leaves, entry by entry. -/
theorem outAt_apply (c : Dev nD) (r : Fin 256) (q : Fin 4096) :
    outAt m ρ c (ix2 r q) = Ideal.div (prodAt X W (rowOf c r) q) (1 + Ideal.exp (-(prodAt X W (rowOf c r) q))) := by
  unfold outAt
  rw [silu_apply, acc_whole m ρ X W hx hw]
end

/-! ## The reference -/

/-- The reference's array. -/
def refArr : (⟨2, ![8192, 4096]⟩ : Shape).Idx → EReal := fun i =>
  Ideal.div (prodAt X W (i 0) (i 1)) (1 + Ideal.exp (-(prodAt X W (i 0) (i 1))))

/-- Device `c`'s rows of the reference's array are what it leaves. -/
theorem outAt_eq (hx : ∀ c : Dev nD, m ((c.tc : Thread nD τ).loc main_arg0) = Layout.block ⟨2, ![8192, 256]⟩ ⟨2, ![8192, 8192]⟩ 1 32 c X tiles_x)
    (hw : ∀ c : Dev nD, m ((c.tc : Thread nD τ).loc main_arg1) = W) (c : Dev nD) :
    outAt m ρ c = Layout.block ⟨2, ![256, 4096]⟩ ⟨2, ![8192, 4096]⟩ 0 32 c (refArr X W) tiles_o := by
  funext i
  obtain ⟨r, q, rfl⟩ : ∃ (r : Fin 256) (q : Fin 4096), i = ix2 r q := ⟨i 0, i 1, eq_ix2 i⟩
  refine (outAt_apply m ρ X W hx hw c r q).trans ?_
  rw [Layout.block_apply]
  show _ = Ideal.div (prodAt X W ⟨c.val * 256 + r.val, _⟩ q) (1 + Ideal.exp (-(prodAt X W ⟨c.val * 256 + r.val, _⟩ q)))
  have e : rowOf c r = ⟨c.val * 256 + r.val, by have : c.val < 32 := c.isLt; omega⟩ := Fin.ext (congrArg (· + r.val) (Nat.mul_comm 256 c.val))
  rw [e]

end Cert.Exchange
end
-- ==== Proof.Algebraic.lean ====
/-
# The kernel and the reference compute the same array

The reference's array, read entry by entry, and the claim put together.
-/
module
public import proofs.«01_k».proof.Proof.Frames
public import proofs.«01_k».proof.Proof.Value
public import Idealize.ShloMosaic.Lib.IdealHost
@[expose] public section
noncomputable section
namespace Cert.Exchange
open Idealize.ShloMosaic Idealize.SL.Sem
open Idealize.ShloMosaic.ValueIdx (ix2 eq_ix2)

section
open Cert.ReferenceIdeal Cert.ReferenceIdeal.Gen

/-- The reference's last four operations, entry by entry. -/
theorem quotient_apply (Y : FVec Ideal S8192x4096 .f32) (i : S8192x4096.Idx) :
    Host.divf Y (addf (broadcastInDim S8192x4096 ![] bcast_S_S8192x4096 (constant S_ .f32 0x3F800000#32)) (Host.exp (Host.negf Y))) i
      = Ideal.div (Y i) (Ideal.ofBits .f32 0x3F800000#32 + Ideal.exp (-(Y i))) := rfl

/-- The reference's operations, composed, are `refArr`. -/
theorem reference_eq (X : FVec Ideal S8192x8192 .f32) (W : FVec Ideal S8192x4096 .f32) :
    Host.divf (Host.dotGeneral dot_S8192x8192_S8192x4096_S8192x4096_1_0_0_1_n_n none X W)
      (addf (broadcastInDim S8192x4096 ![] bcast_S_S8192x4096 (constant S_ .f32 0x3F800000#32))
        (Host.exp (Host.negf (Host.dotGeneral dot_S8192x8192_S8192x4096_S8192x4096_1_0_0_1_n_n none X W)))) = refArr X W := by
  funext i
  obtain ⟨r, q, rfl⟩ : ∃ (r : Fin 8192) (q : Fin 4096), i = ix2 r q := ⟨i 0, i 1, eq_ix2 i⟩
  have hd : Host.dotGeneral dot_S8192x8192_S8192x4096_S8192x4096_1_0_0_1_n_n none X W (ix2 r q) = prodAt X W r q :=
    StackMember.dotGeneral_plain_apply (m := 8192) (n := 4096) (k := 8192) none X W r q
  rw [quotient_apply, hd, Ideal.ofBits_one_f32]
  rfl
end

theorem algebraic : Cert.algebraic_KernelIdeal_ReferenceIdeal (hKernelIdeal := Cert.KernelIdeal.Gen.facts) (hReferenceIdeal := Cert.ReferenceIdeal.Gen.facts) := by
  intro m g m' g' _ hargs
  refine ⟨_, (θ_run _ _ _).mono (fun r h c => ⟨?_, ((h.1 c).1 (0 : Fin 2)).trans (finalA_x m g c), (h.1 c).2⟩) (run_main m g),
    (θ_run _ _ _).mono (fun r h => ⟨(h 0).1.trans (reference_eq _ _), (h 0).2.1, (h 0).2.2⟩) (Cert.ReferenceIdeal.Value.run m' g')⟩
  exact ((h.1 c).1 (1 : Fin 2)).trans ((finalA_o m g c).trans
    (outAt_eq m g _ _ (fun c => (hargs c).1) (fun c => (hargs c).2) c))

end Cert.Exchange
end
-- ==== Proof.Clipped.lean ====
/-
# The reference with the clip

Where the product lies in `[-60, 60]` the clip inside the exponential does nothing, so there the clipped reference's entry is
`refArr`'s, and so the kernel's.
-/
module
public import proofs.«01_k».proof.Proof.Gen.ClippedIdeal
public import proofs.«01_k».proof.Proof.Gen.ClippedIdeal.Run
public import proofs.«01_k».proof.Proof.Gen.On_unclipped_at
public import proofs.«01_k».proof.Proof.Frames
public import proofs.«01_k».proof.Proof.Value
public import Idealize.ShloMosaic.Lib.IdealHost
@[expose] public section
noncomputable section
namespace Cert.Exchange
open Idealize.ShloMosaic Idealize.SL.Sem
open Idealize.ShloMosaic.ValueIdx (ix2 eq_ix2)

theorem frame_clipped : Cert.quiescent_ClippedIdeal (hClippedIdeal := Cert.ClippedIdeal.Gen.facts) :=
  fun m g _ => (θ_run _ _ _).mono (fun r h => ⟨fun c => ⟨(h c).2.1, (h c).2.2⟩, sem_eq_zero_of_no_sems (by decide) r.2⟩)
    (Cert.ClippedIdeal.Value.run m g)

/-- Both comparisons hold where the mask is set. -/
theorem between_of_mask (a b y : EReal) (h : Ideal.cmp .oge y a &&& Ideal.cmp .ole y b = 1#1) : a ≤ y ∧ y ≤ b := by
  simp only [Ideal.cmp] at h
  by_cases ha : a ≤ y
  · by_cases hb : y ≤ b
    · exact ⟨ha, hb⟩
    · simp [hb] at h
  · simp [ha] at h

/-- Between its bounds the clip is the identity. -/
theorem clip_between (a b y : EReal) (h : a ≤ y ∧ y ≤ b) : min b (max a y) = y := by
  rw [max_eq_right h.1, min_eq_right h.2]

section
open Cert.ClippedIdeal Cert.ClippedIdeal.Gen

/-- The clipped reference's operations after the product, entry by entry. -/
theorem clipped_apply (Y : FVec Ideal S8192x4096 .f32) (i : S8192x4096.Idx) :
    Host.divf Y (addf (broadcastInDim S8192x4096 ![] bcast_S_S8192x4096 (constant S_ .f32 0x3F800000#32))
      (Host.exp (Host.negf (minimumf (broadcastInDim S8192x4096 ![] bcast_S_S8192x4096 (id (constant S_ .f32 0x42700000#32)))
        (maximumf (broadcastInDim S8192x4096 ![] bcast_S_S8192x4096 (id (constant S_ .f32 0xC2700000#32))) Y))))) i
      = Ideal.div (Y i) (Ideal.ofBits .f32 0x3F800000#32
          + Ideal.exp (-(min (Ideal.ofBits .f32 0x42700000#32) (max (Ideal.ofBits .f32 0xC2700000#32) (Y i))))) := rfl

/-- The product, entry by entry. -/
theorem clipped_dot (X : FVec Ideal S8192x8192 .f32) (W : FVec Ideal S8192x4096 .f32) (r : Fin 8192) (q : Fin 4096) :
    Host.dotGeneral dot_S8192x8192_S8192x4096_S8192x4096_1_0_0_1_n_n none X W (ix2 r q) = prodAt X W r q :=
  StackMember.dotGeneral_plain_apply (m := 8192) (n := 4096) (k := 8192) none X W r q
end

section
open Cert.On_unclipped_at Cert.On_unclipped_at.Gen

/-- The mask's operations after the product, entry by entry. -/
theorem mask_apply (Y : FVec Ideal S8192x4096 .f32) (i : S8192x4096.Idx) :
    andi (cmpf .oge Y (broadcastInDim S8192x4096 ![] bcast_S_S8192x4096 (constant S_ .f32 0xC2700000#32)))
      (cmpf .ole Y (broadcastInDim S8192x4096 ![] bcast_S_S8192x4096 (constant S_ .f32 0x42700000#32))) i
      = Ideal.cmp .oge (Y i) (Ideal.ofBits .f32 0xC2700000#32) &&& Ideal.cmp .ole (Y i) (Ideal.ofBits .f32 0x42700000#32) := rfl

/-- Where the mask is set the product lies between the bounds. -/
theorem mask_between (X : FVec Ideal S8192x8192 .f32) (W : FVec Ideal S8192x4096 .f32) (r : Fin 8192) (q : Fin 4096)
    (h : Cert.On_unclipped_at.fn (F := Ideal) X W (ix2 r q) = 1#1) :
    Ideal.ofBits .f32 0xC2700000#32 ≤ prodAt X W r q ∧ prodAt X W r q ≤ Ideal.ofBits .f32 0x42700000#32 := by
  have hd : Host.dotGeneral dot_S8192x8192_S8192x4096_S8192x4096_1_0_0_1_n_n none X W (ix2 r q) = prodAt X W r q :=
    StackMember.dotGeneral_plain_apply (m := 8192) (n := 4096) (k := 8192) none X W r q
  have h' := (mask_apply (Host.dotGeneral dot_S8192x8192_S8192x4096_S8192x4096_1_0_0_1_n_n none X W) (ix2 r q)).symm.trans h
  rw [hd] at h'
  exact between_of_mask _ _ _ h'
end

section
open Cert.ClippedIdeal Cert.ClippedIdeal.Gen

/-- Where the mask is set the clipped reference's entry is `refArr`'s. -/
theorem clipped_eq (X : FVec Ideal S8192x8192 .f32) (W : FVec Ideal S8192x4096 .f32) (i : S8192x4096.Idx)
    (h : Cert.On_unclipped_at.fn (F := Ideal) X W i = 1#1) :
    Host.divf (Host.dotGeneral dot_S8192x8192_S8192x4096_S8192x4096_1_0_0_1_n_n none X W)
      (addf (broadcastInDim S8192x4096 ![] bcast_S_S8192x4096 (constant S_ .f32 0x3F800000#32))
        (Host.exp (Host.negf (minimumf (broadcastInDim S8192x4096 ![] bcast_S_S8192x4096 (id (constant S_ .f32 0x42700000#32)))
          (maximumf (broadcastInDim S8192x4096 ![] bcast_S_S8192x4096 (id (constant S_ .f32 0xC2700000#32)))
            (Host.dotGeneral dot_S8192x8192_S8192x4096_S8192x4096_1_0_0_1_n_n none X W)))))) i = refArr X W i := by
  obtain ⟨r, q, rfl⟩ : ∃ (r : Fin 8192) (q : Fin 4096), i = ix2 r q := ⟨i 0, i 1, eq_ix2 i⟩
  rw [clipped_apply, clipped_dot, clip_between _ _ _ (mask_between X W r q h), Ideal.ofBits_one_f32]
  rfl
end

theorem algebraic_clipped : Cert.algebraic_KernelIdeal_ClippedIdeal_on_unclipped_at (hKernelIdeal := Cert.KernelIdeal.Gen.facts)
    (hClippedIdeal := Cert.ClippedIdeal.Gen.facts) (hOn_unclipped_at := Cert.On_unclipped_at.Gen.facts) := by
  intro m g m' g' _ hargs
  refine ⟨refArr (m' (((0 : Dev Cert.ClippedIdeal.nD).tc : Thread Cert.ClippedIdeal.nD Cert.ClippedIdeal.τ).loc Cert.ClippedIdeal.main_arg0))
      (m' (((0 : Dev Cert.ClippedIdeal.nD).tc : Thread Cert.ClippedIdeal.nD Cert.ClippedIdeal.τ).loc Cert.ClippedIdeal.main_arg1)),
    (θ_run _ _ _).mono (fun r h c => ⟨fun i _ => ?_, ((h.1 c).1 (0 : Fin 2)).trans (finalA_x m g c), (h.1 c).2⟩) (run_main m g),
    (θ_run _ _ _).mono (fun r h => ⟨fun i hi => (congrFun (h 0).1 i).trans (clipped_eq _ _ i hi), (h 0).2.1, (h 0).2.2⟩)
      (Cert.ClippedIdeal.Value.run m' g')⟩
  exact congrFun (((h.1 c).1 (1 : Fin 2)).trans ((finalA_o m g c).trans
    (outAt_eq m g _ _ (fun c => (hargs c).1) (fun c => (hargs c).2) c))) i

end Cert.Exchange
end
-- ==== Proof.lean ====
/-
# The claims

The frames come from the run of the exchange, read at the devices' floats and at the extended reals, and from the reference's
run. The algebraic claim comes from the exchange's result, entry by entry, against the reference's; the
same array meets the reference with the clip where the clip does nothing.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.On_unclipped_at
public import proofs.«01_k».proof.Proof.Frames
public import proofs.«01_k».proof.Proof.Algebraic
public import proofs.«01_k».proof.Proof.Clipped

@[expose] public section

noncomputable section

namespace Cert.Proof

open Cert.Exchange

theorem claim : Cert.Claim := ⟨Cert.Kernel.Gen.facts, Cert.KernelIdeal.Gen.facts, Cert.ReferenceIdeal.Gen.facts, Cert.ClippedIdeal.Gen.facts,
  Cert.On_unclipped_at.Gen.facts, frame_kernel, frame_ideal, frame_reference, frame_clipped, trivial, algebraic, algebraic_clipped⟩

end Cert.Proof

end
